-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v482) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v41_7)) (v1 : (c : Dev Cert.Kernel4Ideal.nD) → Buf (Elt Ideal) ((c.tc : Thread Cert.Kernel4Ideal.nD Cert.Kernel4Ideal.τ).loc Cert.Kernel4Ideal.main_v41_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41_7) = v0 c
          ∧ r.2.mem ((c.tc : Thread Cert.Kernel4Ideal.nD Cert.Kernel4Ideal.τ).loc Cert.Kernel4Ideal.main_v41_8) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x8x64 : Shape := ⟨4, ![8, 4096, 8, 64]⟩
abbrev S8x4096x2x64 : Shape := ⟨4, ![8, 4096, 2, 64]⟩
abbrev S8x512x2x64 : Shape := ⟨4, ![8, 512, 2, 64]⟩
abbrev S1 : Shape := ⟨1, ![1]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S8x512x2x64 : S_.BroadcastsInDim S8x512x2x64 (![] : Fin 0 → Fin S8x512x2x64.rank)
  reducesTo_S8x512x2x64_S_d0_1_2_3 : S8x512x2x64.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8x4096x8x64 .f32) (main_arg1 : FVec F S8x4096x2x64 .f32) (main_arg2 : FVec F S8x4096x2x64 .f32) (main_arg3 : FVec F S8x512x2x64 .f32) (main_arg4 : FVec F S8x512x2x64 .f32) (main_arg5 : FVec F S1 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  let main_v9 : FVec F S8x512x2x64 .f32 := Host.absf main_arg3
  let main_cst_2 : FVec F S_ .f32 := constant S_ .f32 0x7F800000#32
  let main_v10 : FVec F S8x512x2x64 .f32 := broadcastInDim S8x512x2x64 ![] bcast_S_S8x512x2x64 main_cst_2
  let main_v11 : IVec S8x512x2x64 1 := cmpf .olt main_v9 main_v10
  let main_c_3 : IVec S_ 1 := constantI S_ 1 1#1
  let main_v12 : IVec S_ 1 := (fun x v => Host.reduce IntOp.andi x v reducesTo_S8x512x2x64_S_d0_1_2_3 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8x4096x8x64 : Shape := ⟨4, ![8, 4096, 8, 64]⟩
abbrev S8x4096x2x64 : Shape := ⟨4, ![8, 4096, 2, 64]⟩
abbrev S8x512x2x64 : Shape := ⟨4, ![8, 512, 2, 64]⟩
abbrev S1 : Shape := ⟨1, ![1]⟩
abbrev S8x4096x2x4x64 : Shape := ⟨5, ![8, 4096, 2, 4, 64]⟩
abbrev S8x4096x4x2x64 : Shape := ⟨5, ![8, 4096, 4, 2, 64]⟩
abbrev S8x4096x512 : Shape := ⟨3, ![8, 4096, 512]⟩
abbrev S8x512x128 : Shape := ⟨3, ![8, 512, 128]⟩
abbrev S8x4096x128 : Shape := ⟨3, ![8, 4096, 128]⟩
abbrev S8x2x64x512 : Shape := ⟨4, ![8, 2, 64, 512]⟩
abbrev S_ : Shape := ⟨0, ![]⟩
abbrev S8x2x16x512 : Shape := ⟨4, ![8, 2, 16, 512]⟩
abbrev S8x2x80x512 : Shape := ⟨4, ![8, 2, 80, 512]⟩
abbrev S8x160x512 : Shape := ⟨3, ![8, 160, 512]⟩
abbrev S8x2x64x4096 : Shape := ⟨4, ![8, 2, 64, 4096]⟩
abbrev S8x2x16x4096 : Shape := ⟨4, ![8, 2, 16, 4096]⟩
abbrev S8x2x80x4096 : Shape := ⟨4, ![8, 2, 80, 4096]⟩
abbrev S8x160x4096 : Shape := ⟨3, ![8, 160, 4096]⟩
abbrev S1x1 : Shape := ⟨2, ![1, 1]⟩
abbrev S1x1024x512 : Shape := ⟨3, ![1, 1024, 512]⟩
abbrev S1x512x128 : Shape := ⟨3, ![1, 512, 128]⟩
abbrev S1x160x512 : Shape := ⟨3, ![1, 160, 512]⟩
abbrev S1x4096x128 : Shape := ⟨3, ![1, 4096, 128]⟩
abbrev S1x160x4096 : Shape := ⟨3, ![1, 160, 4096]⟩
abbrev S2x4096x128 : Shape := ⟨3, ![2, 4096, 128]⟩
abbrev S2x80x4096 : Shape := ⟨3, ![2, 80, 4096]⟩
abbrev S1x128 : Shape := ⟨2, ![1, 128]⟩
abbrev S1x1024x128 : Shape := ⟨3, ![1, 1024, 128]⟩
abbrev S1024x128 : Shape := ⟨2, ![1024, 128]⟩
abbrev S512x128 : Shape := ⟨2, ![512, 128]⟩
abbrev S1x80x512 : Shape := ⟨3, ![1, 80, 512]⟩
abbrev S80x512 : Shape := ⟨2, ![80, 512]⟩
abbrev S4096x128 : Shape := ⟨2, ![4096, 128]⟩
abbrev S512x4096 : Shape := ⟨2, ![512, 4096]⟩
abbrev S80x4096 : Shape := ⟨2, ![80, 4096]⟩
abbrev S1x80x4096 : Shape := ⟨3, ![1, 80, 4096]⟩
abbrev S1x80x1024 : Shape := ⟨3, ![1, 80, 1024]⟩
abbrev S80x1024 : Shape := ⟨2, ![80, 1024]⟩
abbrev S1024x4096 : Shape := ⟨2, ![1024, 4096]⟩
abbrev S64x1024 : Shape := ⟨2, ![64, 1024]⟩
abbrev S1x1024 : Shape := ⟨2, ![1, 1024]⟩
abbrev S128x1024 : Shape := ⟨2, ![128, 1024]⟩

abbrev nBuf : Space → Nat
  | .hbm => 27
  | .vmem => 14
  | .smem => 1
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x512x2x64, .f32⟩
  | .hbm, ⟨4, _⟩ => ⟨S8x512x2x64, .f32⟩
  | .hbm, ⟨5, _⟩ => ⟨S1, .f32⟩
  | .hbm, ⟨6, _⟩ => ⟨S8x4096x2x4x64, .f32⟩
  | .hbm, ⟨7, _⟩ => ⟨S8x4096x4x2x64, .f32⟩
  | .hbm, ⟨8, _⟩ => ⟨S8x4096x512, .f32⟩
  | .hbm, ⟨9, _⟩ => ⟨S8x512x128, .f32⟩
  | .hbm, ⟨10, _⟩ => ⟨S8x512x128, .bf16⟩
  | .hbm, ⟨11, _⟩ => ⟨S8x4096x128, .f32⟩
  | .hbm, ⟨12, _⟩ => ⟨S8x4096x128, .bf16⟩
  | .hbm, ⟨13, _⟩ => ⟨S8x2x64x512, .f32⟩
  | .hbm, ⟨14, _⟩ => ⟨S8x2x64x512, .bf16⟩
  | .hbm, ⟨15, _⟩ => ⟨S_, .bf16⟩
  | .hbm, ⟨16, _⟩ => ⟨S8x2x16x512, .bf16⟩
  | .hbm, ⟨17, _⟩ => ⟨S8x2x80x512, .bf16⟩
  | .hbm, ⟨18, _⟩ => ⟨S8x160x512, .bf16⟩
  | .hbm, ⟨19, _⟩ => ⟨S8x2x64x4096, .f32⟩
  | .hbm, ⟨20, _⟩ => ⟨S8x2x64x4096, .bf16⟩
  | .hbm, ⟨21, _⟩ => ⟨S_, .bf16⟩
  | .hbm, ⟨22, _⟩ => ⟨S8x2x16x4096, .bf16⟩
  | .hbm, ⟨23, _⟩ => ⟨S8x2x80x4096, .bf16⟩
  | .hbm, ⟨24, _⟩ => ⟨S8x160x4096, .bf16⟩
  | .hbm, ⟨25, _⟩ => ⟨S1x1, .f32⟩
  | .hbm, ⟨26, _⟩ => ⟨S8x4096x512, .bf16⟩
  | .local _ .vmem, ⟨0, _⟩ => ⟨S1x1024x512, .f32⟩
  | .local _ .vmem, ⟨1, _⟩ => ⟨S1x1024x512, .f32⟩
  | .local _ .vmem, ⟨2, _⟩ => ⟨S1x512x128, .bf16⟩
  | .local _ .vmem, ⟨3, _⟩ => ⟨S1x512x128, .bf16⟩
  | .local _ .vmem, ⟨4, _⟩ => ⟨S1x160x512, .bf16⟩
  | .local _ .vmem, ⟨5, _⟩ => ⟨S1x160x512, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x160x4096, .bf16⟩
  | .local _ .vmem, ⟨9, _⟩ => ⟨S1x160x4096, .bf16⟩
  | .local _ .vmem, ⟨10, _⟩ => ⟨S1x1024x512, .bf16⟩
  | .local _ .vmem, ⟨11, _⟩ => ⟨S1x1024x512, .bf16⟩
  | .local _ .vmem, ⟨12, _⟩ => ⟨S2x4096x128, .bf16⟩
  | .local _ .vmem, ⟨13, _⟩ => ⟨S2x80x4096, .f32⟩
  | .local _ .smem, ⟨0, _⟩ => ⟨S1x1, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c2_i32 : BitVec 32 := 2#32
  let v114 : BitVec 32 := Scalar.addi c0_i32 c2_i32
  let c1_i32 : BitVec 32 := 1#32
  ⟨c0_i32, v114, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32_109 : BitVec 32 := 2#32
  let v187 : BitVec 32 := Scalar.muli arg11 c2_i32_109
  let c0_i32_110 : BitVec 32 := 0#32
  let v188 : BitVec 32 := Scalar.addi v187 c0_i32_110
  let c1024_i32 : BitVec 32 := 1024#32
  let v189 : BitVec 32 := Scalar.muli v188 c1024_i32
  v189
def k0_off1 (k0_t1 : Fin k0_t1_loop.trips) (c0_i32_110 : BitVec 32) : Fin 3 → Nat :=
  let c0_111 : Index := 0#32
  let c0_112 : Index := 0#32
  let c0_i32 : BitVec 32 := 0#32
  let c1_i32 : BitVec 32 := 1#32
  let arg11 : BitVec 32 := Scf.iv c0_i32 c1_i32 k0_t1
  let c2_i32_109 : BitVec 32 := 2#32
  let v187 : BitVec 32 := Scalar.muli arg11 c2_i32_109
  let v188 : BitVec 32 := Scalar.addi v187 c0_i32_110
  let c1024_i32 : BitVec 32 := 1024#32
  let v189 : BitVec 32 := Scalar.muli v188 c1024_i32
  let v190 : BitVec 32 := v189
  let v191 : Index := Scalar.indexCast v190
  ![0, 0, v191.toNat]
def k0_off2 (k0_t1 : Fin k0_t1_loop.trips) (c0_i32_110 : BitVec 32) : Fin 3 → Nat :=
  let c0_116 : Index := 0#32
  let c0_i32 : BitVec 32 := 0#32
  let c1_i32 : BitVec 32 := 1#32
  let arg11 : BitVec 32 := Scf.iv c0_i32 c1_i32 k0_t1
  let c2_i32_109 : BitVec 32 := 2#32
  let v187 : BitVec 32 := Scalar.muli arg11 c2_i32_109
  let v188 : BitVec 32 := Scalar.addi v187 c0_i32_110
  let c1024_i32 : BitVec 32 := 1024#32
  let v189 : BitVec 32 := Scalar.muli v188 c1024_i32
  let v190 : BitVec 32 := v189
  let v196 : Index := Scalar.indexCast v190
  let c0_117 : Index := 0#32
  ![0, v196.toNat, 0]
def k0_off3 (k0_t1 : Fin k0_t1_loop.trips) (c0_i32_110 : BitVec 32) : Fin 3 → Nat :=
  let c0_126 : Index := 0#32
  let c80_127 : Index := 80#32
  let c0_i32 : BitVec 32 := 0#32
  let c1_i32 : BitVec 32 := 1#32
  let arg11 : BitVec 32 := Scf.iv c0_i32 c1_i32 k0_t1
  let c2_i32_109 : BitVec 32 := 2#32
  let v187 : BitVec 32 := Scalar.muli arg11 c2_i32_109
  let v188 : BitVec 32 := Scalar.addi v187 c0_i32_110
  let c1024_i32 : BitVec 32 := 1024#32
  let v189 : BitVec 32 := Scalar.muli v188 c1024_i32
  let v190 : BitVec 32 := v189
  let v211 : Index := Scalar.indexCast v190
  ![0, 80, v211.toNat]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32_141 : BitVec 32 := 2#32
  let v231 : BitVec 32 := Scalar.muli arg11 c2_i32_141
  let c1_i32_142 : BitVec 32 := 1#32
  let v232 : BitVec 32 := Scalar.addi v231 c1_i32_142
  let c1024_i32_143 : BitVec 32 := 1024#32
  let v233 : BitVec 32 := Scalar.muli v232 c1024_i32_143
  v233
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x160x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x160x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "q_scale" => some ((8⁻¹ * (Real.log 2)⁻¹ : ℝ) : EReal)
  | _ => none
-- ==== ReferenceIdeal.lean ====
abbrev S8x4096x8x64 : Shape := ⟨4, ![8, 4096, 8, 64]⟩
abbrev S8x4096x2x64 : Shape := ⟨4, ![8, 4096, 2, 64]⟩
abbrev S8x512x2x64 : Shape := ⟨4, ![8, 512, 2, 64]⟩
abbrev S1 : Shape := ⟨1, ![1]⟩
abbrev S8x4608x2x64 : Shape := ⟨4, ![8, 4608, 2, 64]⟩
abbrev S8x4096x2x4x64 : Shape := ⟨5, ![8, 4096, 2, 4, 64]⟩
abbrev S8x2x4608x4096x4 : Shape := ⟨5, ![8, 2, 4608, 4096, 4]⟩
abbrev S8x2x4x4096x4608 : Shape := ⟨5, ![8, 2, 4, 4096, 4608]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x4x2x64 : Shape := ⟨5, ![8, 4096, 4, 2, 64]⟩
abbrev S8x4096x512 : Shape := ⟨3, ![8, 4096, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x512x2x64, .f32⟩
  | .hbm, ⟨4, _⟩ => ⟨S8x512x2x64, .f32⟩
  | .hbm, ⟨5, _⟩ => ⟨S1, .f32⟩
  | .hbm, ⟨6, _⟩ => ⟨S8x4608x2x64, .f32⟩
  | .hbm, ⟨7, _⟩ => ⟨S8x4608x2x64, .f32⟩
  | .hbm, ⟨8, _⟩ => ⟨S8x4096x2x4x64, .f32⟩
  | .hbm, ⟨9, _⟩ => ⟨S8x2x4608x4096x4, .f32⟩
  | .hbm, ⟨10, _⟩ => ⟨S8x2x4x4096x4608, .f32⟩
  | .hbm, ⟨11, _⟩ => ⟨S_, .f32⟩
  | .hbm, ⟨12, _⟩ => ⟨S8x2x4x4096x4608, .f32⟩
  | .hbm, ⟨13, _⟩ => ⟨S8x2x4x4096x4608, .f32⟩
  | .hbm, ⟨14, _⟩ => ⟨S_, .f32⟩
  | .hbm, ⟨15, _⟩ => ⟨S8x2x4x4096, .f32⟩
  | .hbm, ⟨16, _⟩ => ⟨S_, .f32⟩
  | .hbm, ⟨17, _⟩ => ⟨S8x2x4x4096, .f32⟩
  | .hbm, ⟨18, _⟩ => ⟨S8x2x4x4096, .f32⟩
  | .hbm, ⟨19, _⟩ => ⟨S8x2x4x4096x1, .f32⟩
  | .hbm, ⟨20, _⟩ => ⟨S8x2x4x4096x4608, .f32⟩
  | .hbm, ⟨21, _⟩ => ⟨S8x2x4x4096x4608, .f32⟩
  | .hbm, ⟨22, _⟩ => ⟨S8x2x4x4096x4608, .f32⟩
  | .hbm, ⟨23, _⟩ => ⟨S_, .f32⟩
  | .hbm, ⟨24, _⟩ => ⟨S8x2x4x4096, .f32⟩
  | .hbm, ⟨25, _⟩ => ⟨S8x2x4x4096x1, .f32⟩
  | .hbm, ⟨26, _⟩ => ⟨S8x2x4x4096x4608, .f32⟩
  | .hbm, ⟨27, _⟩ => ⟨S8x2x4x4096x4608, .f32⟩
  | .hbm, ⟨28, _⟩ => ⟨S8x2x64x4x4096, .f32⟩
  | .hbm, ⟨29, _⟩ => ⟨S8x4096x2x4x64, .f32⟩
  | .hbm, ⟨30, _⟩ => ⟨S8x4096x4x2x64, .f32⟩
  | .hbm, ⟨31, _⟩ => ⟨S8x4096x512, .f32⟩
  | .hbm, ⟨32, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1x6144 : Shape := ⟨3, ![8, 1, 6144]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8x6x1024 : Shape := ⟨3, ![8, 6, 1024]⟩
abbrev S1x1024x1024 : Shape := ⟨3, ![1, 1024, 1024]⟩
abbrev S1x6x1024 : Shape := ⟨3, ![1, 6, 1024]⟩
abbrev S1024x1024 : Shape := ⟨2, ![1024, 1024]⟩
abbrev S1024x1 : Shape := ⟨2, ![1024, 1]⟩
abbrev S1x1x1024 : Shape := ⟨3, ![1, 1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S8x6x1024, .f32⟩
  | .hbm, ⟨10, _⟩ => ⟨S1x1024, .f32⟩
  | .hbm, ⟨11, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S8x1x6144 : Shape := ⟨3, ![8, 1, 6144]⟩
abbrev S1024 : Shape := ⟨1, ![1024]⟩
abbrev S1024x4096 : Shape := ⟨2, ![1024, 4096]⟩
abbrev S4096x1024 : Shape := ⟨2, ![4096, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S8x1x6144 : Shape := ⟨3, ![8, 1, 6144]⟩
abbrev S31x512 : Shape := ⟨2, ![31, 512]⟩
abbrev S512 : Shape := ⟨1, ![512]⟩
abbrev S4x128x128 : Shape := ⟨3, ![4, 128, 128]⟩
abbrev S4x128 : Shape := ⟨2, ![4, 128]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1x512x1024 : Shape := ⟨3, ![1, 512, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S3x512x1024 : Shape := ⟨3, ![3, 512, 1024]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S1x4096 : Shape := ⟨2, ![1, 4096]⟩
abbrev S8x6x1024 : Shape := ⟨3, ![8, 6, 1024]⟩
abbrev S1x16x1024 : Shape := ⟨3, ![1, 16, 1024]⟩
abbrev S1x512x512 : Shape := ⟨3, ![1, 512, 512]⟩
abbrev S1x6x1024 : Shape := ⟨3, ![1, 6, 1024]⟩
abbrev S552x1024 : Shape := ⟨2, ![552, 1024]⟩
abbrev S7x536x512 : Shape := ⟨3, ![7, 536, 512]⟩
abbrev S512x512 : Shape := ⟨2, ![512, 512]⟩
abbrev S3x544x128 : Shape := ⟨3, ![3, 544, 128]⟩
abbrev S3x512x512 : Shape := ⟨3, ![3, 512, 512]⟩
abbrev S512x4096 : Shape := ⟨2, ![512, 4096]⟩
abbrev S16x1024 : Shape := ⟨2, ![16, 1024]⟩
abbrev S8x1024 : Shape := ⟨2, ![8, 1024]⟩
abbrev S536x512 : Shape := ⟨2, ![536, 512]⟩
abbrev S1x536x512 : Shape := ⟨3, ![1, 536, 512]⟩
abbrev S64x512 : Shape := ⟨2, ![64, 512]⟩
abbrev S1x64x512 : Shape := ⟨3, ![1, 64, 512]⟩
abbrev S1024x512 : Shape := ⟨2, ![1024, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S544x128 : Shape := ⟨2, ![544, 128]⟩
abbrev S1x544x128 : Shape := ⟨3, ![1, 544, 128]⟩
abbrev S1x536x128 : Shape := ⟨3, ![1, 536, 128]⟩
abbrev S536x128 : Shape := ⟨2, ![536, 128]⟩
abbrev S1x528x128 : Shape := ⟨3, ![1, 528, 128]⟩
abbrev S528x128 : Shape := ⟨2, ![528, 128]⟩
abbrev S1x1x1024 : Shape := ⟨3, ![1, 1, 1024]⟩
abbrev S1x1024 : Shape := ⟨2, ![1, 1024]⟩

abbrev nBuf : Space → Nat
  | .hbm => 46
  | .vmem => 38
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x1024, .f32⟩
  | .hbm, ⟨5, _⟩ => ⟨S8x4096x512, .f32⟩
  | .hbm, ⟨6, _⟩ => ⟨S8x1x6144, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x128x128, .f32⟩
  | .hbm, ⟨12, _⟩ => ⟨S512, .f32⟩
  | .hbm, ⟨13, _⟩ => ⟨S4x128x128, .f32⟩
  | .hbm, ⟨14, _⟩ => ⟨S4x128, .f32⟩
  | .hbm, ⟨15, _⟩ => ⟨S4x512x1024, .f32⟩
  | .hbm, ⟨16, _⟩ => ⟨S1024x4096, .f32⟩
  | .hbm, ⟨17, _⟩ => ⟨S4096, .f32⟩
  | .hbm, ⟨18, _⟩ => ⟨S1024x1024, .f32⟩
  | .hbm, ⟨19, _⟩ => ⟨S4x512x1024, .bf16⟩
  | .hbm, ⟨20, _⟩ => ⟨S1x512x1024, .bf16⟩
  | .hbm, ⟨21, _⟩ => ⟨S512x1024, .bf16⟩
  | .hbm, ⟨22, _⟩ => ⟨S2x4x64x1024, .bf16⟩
  | .hbm, ⟨23, _⟩ => ⟨S4x2x64x1024, .bf16⟩
  | .hbm, ⟨24, _⟩ => ⟨S512x1024, .bf16⟩
  | .hbm, ⟨25, _⟩ => ⟨S1x512x1024, .bf16⟩
  | .hbm, ⟨26, _⟩ => ⟨S3x512x1024, .bf16⟩
  | .hbm, ⟨27, _⟩ => ⟨S4x512x1024, .bf16⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S4x128x128, .bf16⟩
  | .hbm, ⟨32, _⟩ => ⟨S1x512, .f32⟩
  | .hbm, ⟨33, _⟩ => ⟨S4x128x128, .bf16⟩
  | .hbm, ⟨34, _⟩ => ⟨S128x4, .f32⟩
  | .hbm, ⟨35, _⟩ => ⟨S128x4x128, .f32⟩
  | .hbm, ⟨36, _⟩ => ⟨S128x512, .f32⟩
  | .hbm, ⟨37, _⟩ => ⟨S1024x4096, .bf16⟩
  | .hbm, ⟨38, _⟩ => ⟨S1x4096, .f32⟩
  | .hbm, ⟨39, _⟩ => ⟨S1024x1024, .bf16⟩
  | .hbm, ⟨40, _⟩ => ⟨S8x4096x1024, .bf16⟩
  | .hbm, ⟨41, _⟩ => ⟨S8x4096x512, .bf16⟩
  | .hbm, ⟨42, _⟩ => ⟨S8x4096x512, .bf16⟩
  | .hbm, ⟨43, _⟩ => ⟨S8x4096x512, .bf16⟩
  | .hbm, ⟨44, _⟩ => ⟨S8x6x1024, .f32⟩
  | .hbm, ⟨45, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x512, .bf16⟩
  | .local _ .vmem, ⟨15, _⟩ => ⟨S1x512x512, .bf16⟩
  | .local _ .vmem, ⟨16, _⟩ => ⟨S1x6x1024, .f32⟩
  | .local _ .vmem, ⟨17, _⟩ => ⟨S1x6x1024, .f32⟩
  | .local _ .vmem, ⟨18, _⟩ => ⟨S31x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S4x128x128, .bf16⟩
  | .local _ .vmem, ⟨23, _⟩ => ⟨S1x512, .f32⟩
  | .local _ .vmem, ⟨24, _⟩ => ⟨S4x128x128, .bf16⟩
  | .local _ .vmem, ⟨25, _⟩ => ⟨S128x512, .f32⟩
  | .local _ .vmem, ⟨26, _⟩ => ⟨S1024x4096, .bf16⟩
  | .local _ .vmem, ⟨27, _⟩ => ⟨S1x4096, .f32⟩
  | .local _ .vmem, ⟨28, _⟩ => ⟨S4x512x1024, .bf16⟩
  | .local _ .vmem, ⟨29, _⟩ => ⟨S1024x1024, .bf16⟩
  | .local _ .vmem, ⟨30, _⟩ => ⟨S1x512x1024, .f32⟩
  | .local _ .vmem, ⟨31, _⟩ => ⟨S1x512x1024, .f32⟩
  | .local _ .vmem, ⟨32, _⟩ => ⟨S552x1024, .f32⟩
  | .local _ .vmem, ⟨33, _⟩ => ⟨S7x536x512, .f32⟩
  | .local _ .vmem, ⟨34, _⟩ => ⟨S512x512, .f32⟩
  | .local _ .vmem, ⟨35, _⟩ => ⟨S3x544x128, .f32⟩
  | .local _ .vmem, ⟨36, _⟩ => ⟨S3x512x512, .bf16⟩
  | .local _ .vmem, ⟨37, _⟩ => ⟨S512x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S31x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x4096 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x4096 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S4x512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S8x4096x1024 : Shape := ⟨3, ![8, 4096, 1024]⟩
abbrev S8x4096x512 : Shape := ⟨3, ![8, 4096, 512]⟩
abbrev S8x1x6144 : Shape := ⟨3, ![8, 1, 6144]⟩
abbrev S31x512 : Shape := ⟨2, ![31, 512]⟩
abbrev S512 : Shape := ⟨1, ![512]⟩
abbrev S4x128x128 : Shape := ⟨3, ![4, 128, 128]⟩
abbrev S4x128 : Shape := ⟨2, ![4, 128]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S8x4096x4x2x64 : Shape := ⟨5, ![8, 4096, 4, 2, 64]⟩
abbrev S8x4096x2x4x64 : Shape := ⟨5, ![8, 4096, 2, 4, 64]⟩
abbrev S_ : Shape := ⟨0, ![]⟩
abbrev S8x4126x512 : Shape := ⟨3, ![8, 4126, 512]⟩
abbrev S1x512 : Shape := ⟨2, ![1, 512]⟩
abbrev S1x1x512 : Shape := ⟨3, ![1, 1, 512]⟩
abbrev S8x4096 : Shape := ⟨2, ![8, 4096]⟩
abbrev S8x4096x1 : Shape := ⟨3, ![8, 4096, 1]⟩
abbrev S8x4096x128 : Shape := ⟨3, ![8, 4096, 128]⟩
abbrev S8x4097x128 : Shape := ⟨3, ![8, 4097, 128]⟩
abbrev S1x4096x1 : Shape := ⟨3, ![1, 4096, 1]⟩
abbrev S1x128x128 : Shape := ⟨3, ![1, 128, 128]⟩
abbrev S128x128 : Shape := ⟨2, ![128, 128]⟩
abbrev S8x4099x128 : Shape := ⟨3, ![8, 4099, 128]⟩
abbrev S8x4103x128 : Shape := ⟨3, ![8, 4103, 128]⟩
abbrev S8x4111x128 : Shape := ⟨3, ![8, 4111, 128]⟩
abbrev S8x32x128x4x128 : Shape := ⟨5, ![8, 32, 128, 4, 128]⟩
abbrev S4x8x32x128x128 : Shape := ⟨5, ![4, 8, 32, 128, 128]⟩
abbrev S128x4 : Shape := ⟨2, ![128, 4]⟩
abbrev S1x1x128x4x1 : Shape := ⟨5, ![1, 1, 128, 4, 1]⟩
abbrev S1024 : Shape := ⟨1, ![1024]⟩
abbrev S1x1x1024 : Shape := ⟨3, ![1, 1, 1024]⟩
abbrev S1x512x1024 : Shape := ⟨3, ![1, 512, 1024]⟩
abbrev S512x1024 : Shape := ⟨2, ![512, 1024]⟩
abbrev S8x1x1024 : Shape := ⟨3, ![8, 1, 1024]⟩

abbrev nBuf : Space → Nat
  | .hbm => 606
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S8x4096x1024, .f32⟩
  | 4 => ⟨S8x4096x1024, .f32⟩
  | 5 => ⟨S8x4096x512, .f32⟩
  | 6 => ⟨S8x1x6144, .f32⟩
  | 7 => ⟨S31x512, .f32⟩
  | 8 => ⟨S512, .f32⟩
  | 9 => ⟨S512, .f32⟩
  | 10 => ⟨S512, .f32⟩
  | 11 => ⟨S4x128x128, .f32⟩
  | 12 => ⟨S512, .f32⟩
  | 13 => ⟨S4x128x128, .f32⟩
  | 14 => ⟨S4x128, .f32⟩
  | 15 => ⟨S4x512x1024, .f32⟩
  | 16 => ⟨S1024x4096, .f32⟩
  | 17 => ⟨S4096, .f32⟩
  | 18 => ⟨S1024x1024, .f32⟩
  | 19 => ⟨S8x4096x4x2x64, .f32⟩
  | 20 => ⟨S8x4096x2x4x64, .f32⟩
  | 21 => ⟨S8x4096x512, .f32⟩
  | 22 => ⟨S8x4096x512, .f32⟩
  | 23 => ⟨S_, .i32⟩
  | 24 => ⟨S_, .f32⟩
  | 25 => ⟨S8x4126x512, .f32⟩
  | 26 => ⟨S8x4096x512, .f32⟩
  | 27 => ⟨S1x512, .f32⟩
  | 28 => ⟨S512, .f32⟩
  | 29 => ⟨S1x1x512, .f32⟩
  | 30 => ⟨S8x4096x512, .f32⟩
  | 31 => ⟨S8x4096x512, .f32⟩
  | 32 => ⟨S_, .f32⟩
  | 33 => ⟨S8x4096x512, .f32⟩
  | 34 => ⟨S8x4096x512, .f32⟩
  | 35 => ⟨S8x4096x512, .f32⟩
  | 36 => ⟨S1x512, .f32⟩
  | 37 => ⟨S512, .f32⟩
  | 38 => ⟨S1x1x512, .f32⟩
  | 39 => ⟨S8x4096x512, .f32⟩
  | 40 => ⟨S8x4096x512, .f32⟩
  | 41 => ⟨S8x4096x512, .f32⟩
  | 42 => ⟨S8x4096x512, .f32⟩
  | 43 => ⟨S1x512, .f32⟩
  | 44 => ⟨S512, .f32⟩
  | 45 => ⟨S1x1x512, .f32⟩
  | 46 => ⟨S8x4096x512, .f32⟩
  | 47 => ⟨S8x4096x512, .f32⟩
  | 48 => ⟨S8x4096x512, .f32⟩
  | 49 => ⟨S8x4096x512, .f32⟩
  | 50 => ⟨S1x512, .f32⟩
  | 51 => ⟨S512, .f32⟩
  | 52 => ⟨S1x1x512, .f32⟩
  | 53 => ⟨S8x4096x512, .f32⟩
  | 54 => ⟨S8x4096x512, .f32⟩
  | 55 => ⟨S8x4096x512, .f32⟩
  | 56 => ⟨S8x4096x512, .f32⟩
  | 57 => ⟨S1x512, .f32⟩
  | 58 => ⟨S512, .f32⟩
  | 59 => ⟨S1x1x512, .f32⟩
  | 60 => ⟨S8x4096x512, .f32⟩
  | 61 => ⟨S8x4096x512, .f32⟩
  | 62 => ⟨S8x4096x512, .f32⟩
  | 63 => ⟨S8x4096x512, .f32⟩
  | 64 => ⟨S1x512, .f32⟩
  | 65 => ⟨S512, .f32⟩
  | 66 => ⟨S1x1x512, .f32⟩
  | 67 => ⟨S8x4096x512, .f32⟩
  | 68 => ⟨S8x4096x512, .f32⟩
  | 69 => ⟨S8x4096x512, .f32⟩
  | 70 => ⟨S8x4096x512, .f32⟩
  | 71 => ⟨S1x512, .f32⟩
  | 72 => ⟨S512, .f32⟩
  | 73 => ⟨S1x1x512, .f32⟩
  | 74 => ⟨S8x4096x512, .f32⟩
  | 75 => ⟨S8x4096x512, .f32⟩
  | 76 => ⟨S8x4096x512, .f32⟩
  | 77 => ⟨S8x4096x512, .f32⟩
  | 78 => ⟨S1x512, .f32⟩
  | 79 => ⟨S512, .f32⟩
  | 80 => ⟨S1x1x512, .f32⟩
  | 81 => ⟨S8x4096x512, .f32⟩
  | 82 => ⟨S8x4096x512, .f32⟩
  | 83 => ⟨S8x4096x512, .f32⟩
  | 84 => ⟨S8x4096x512, .f32⟩
  | 85 => ⟨S1x512, .f32⟩
  | 86 => ⟨S512, .f32⟩
  | 87 => ⟨S1x1x512, .f32⟩
  | 88 => ⟨S8x4096x512, .f32⟩
  | 89 => ⟨S8x4096x512, .f32⟩
  | 90 => ⟨S8x4096x512, .f32⟩
  | 91 => ⟨S8x4096x512, .f32⟩
  | 92 => ⟨S1x512, .f32⟩
  | 93 => ⟨S512, .f32⟩
  | 94 => ⟨S1x1x512, .f32⟩
  | 95 => ⟨S8x4096x512, .f32⟩
  | 96 => ⟨S8x4096x512, .f32⟩
  | 97 => ⟨S8x4096x512, .f32⟩
  | 98 => ⟨S8x4096x512, .f32⟩
  | 99 => ⟨S1x512, .f32⟩
  | 100 => ⟨S512, .f32⟩
  | 101 => ⟨S1x1x512, .f32⟩
  | 102 => ⟨S8x4096x512, .f32⟩
  | 103 => ⟨S8x4096x512, .f32⟩
  | 104 => ⟨S8x4096x512, .f32⟩
  | 105 => ⟨S8x4096x512, .f32⟩
  | 106 => ⟨S1x512, .f32⟩
  | 107 => ⟨S512, .f32⟩
  | 108 => ⟨S1x1x512, .f32⟩
  | 109 => ⟨S8x4096x512, .f32⟩
  | 110 => ⟨S8x4096x512, .f32⟩
  | 111 => ⟨S8x4096x512, .f32⟩
  | 112 => ⟨S8x4096x512, .f32⟩
  | 113 => ⟨S1x512, .f32⟩
  | 114 => ⟨S512, .f32⟩
  | 115 => ⟨S1x1x512, .f32⟩
  | 116 => ⟨S8x4096x512, .f32⟩
  | 117 => ⟨S8x4096x512, .f32⟩
  | 118 => ⟨S8x4096x512, .f32⟩
  | 119 => ⟨S8x4096x512, .f32⟩
  | 120 => ⟨S1x512, .f32⟩
  | 121 => ⟨S512, .f32⟩
  | 122 => ⟨S1x1x512, .f32⟩
  | 123 => ⟨S8x4096x512, .f32⟩
  | 124 => ⟨S8x4096x512, .f32⟩
  | 125 => ⟨S8x4096x512, .f32⟩
  | 126 => ⟨S8x4096x512, .f32⟩
  | 127 => ⟨S1x512, .f32⟩
  | _ => ⟨S8x4096x1024, .f32⟩

abbrev hbmTy0_1 (i : Nat) : BufTy := match i % 128 with
  | 0 => ⟨S512, .f32⟩
  | 1 => ⟨S1x1x512, .f32⟩
  | 2 => ⟨S8x4096x512, .f32⟩
  | 3 => ⟨S8x4096x512, .f32⟩
  | 4 => ⟨S8x4096x512, .f32⟩
  | 5 => ⟨S8x4096x512, .f32⟩
  | 6 => ⟨S1x512, .f32⟩
  | 7 => ⟨S512, .f32⟩
  | 8 => ⟨S1x1x512, .f32⟩
  | 9 => ⟨S8x4096x512, .f32⟩
  | 10 => ⟨S8x4096x512, .f32⟩
  | 11 => ⟨S8x4096x512, .f32⟩
  | 12 => ⟨S8x4096x512, .f32⟩
  | 13 => ⟨S1x512, .f32⟩
  | 14 => ⟨S512, .f32⟩
  | 15 => ⟨S1x1x512, .f32⟩
  | 16 => ⟨S8x4096x512, .f32⟩
  | 17 => ⟨S8x4096x512, .f32⟩
  | 18 => ⟨S8x4096x512, .f32⟩
  | 19 => ⟨S8x4096x512, .f32⟩
  | 20 => ⟨S1x512, .f32⟩
  | 21 => ⟨S512, .f32⟩
  | 22 => ⟨S1x1x512, .f32⟩
  | 23 => ⟨S8x4096x512, .f32⟩
  | 24 => ⟨S8x4096x512, .f32⟩
  | 25 => ⟨S8x4096x512, .f32⟩
  | 26 => ⟨S8x4096x512, .f32⟩
  | 27 => ⟨S1x512, .f32⟩
  | 28 => ⟨S512, .f32⟩
  | 29 => ⟨S1x1x512, .f32⟩
  | 30 => ⟨S8x4096x512, .f32⟩
  | 31 => ⟨S8x4096x512, .f32⟩
  | 32 => ⟨S8x4096x512, .f32⟩
  | 33 => ⟨S8x4096x512, .f32⟩
  | 34 => ⟨S1x512, .f32⟩
  | 35 => ⟨S512, .f32⟩
  | 36 => ⟨S1x1x512, .f32⟩
  | 37 => ⟨S8x4096x512, .f32⟩
  | 38 => ⟨S8x4096x512, .f32⟩
  | 39 => ⟨S8x4096x512, .f32⟩
  | 40 => ⟨S8x4096x512, .f32⟩
  | 41 => ⟨S1x512, .f32⟩
  | 42 => ⟨S512, .f32⟩
  | 43 => ⟨S1x1x512, .f32⟩
  | 44 => ⟨S8x4096x512, .f32⟩
  | 45 => ⟨S8x4096x512, .f32⟩
  | 46 => ⟨S8x4096x512, .f32⟩
  | 47 => ⟨S8x4096x512, .f32⟩
  | 48 => ⟨S1x512, .f32⟩
  | 49 => ⟨S512, .f32⟩
  | 50 => ⟨S1x1x512, .f32⟩
  | 51 => ⟨S8x4096x512, .f32⟩
  | 52 => ⟨S8x4096x512, .f32⟩
  | 53 => ⟨S8x4096x512, .f32⟩
  | 54 => ⟨S8x4096x512, .f32⟩
  | 55 => ⟨S1x512, .f32⟩
  | 56 => ⟨S512, .f32⟩
  | 57 => ⟨S1x1x512, .f32⟩
  | 58 => ⟨S8x4096x512, .f32⟩
  | 59 => ⟨S8x4096x512, .f32⟩
  | 60 => ⟨S8x4096x512, .f32⟩
  | 61 => ⟨S8x4096x512, .f32⟩
  | 62 => ⟨S1x512, .f32⟩
  | 63 => ⟨S512, .f32⟩
  | 64 => ⟨S1x1x512, .f32⟩
  | 65 => ⟨S8x4096x512, .f32⟩
  | 66 => ⟨S8x4096x512, .f32⟩
  | 67 => ⟨S8x4096x512, .f32⟩
  | 68 => ⟨S8x4096x512, .f32⟩
  | 69 => ⟨S1x512, .f32⟩
  | 70 => ⟨S512, .f32⟩
  | 71 => ⟨S1x1x512, .f32⟩
  | 72 => ⟨S8x4096x512, .f32⟩
  | 73 => ⟨S8x4096x512, .f32⟩
  | 74 => ⟨S8x4096x512, .f32⟩
  | 75 => ⟨S8x4096x512, .f32⟩
  | 76 => ⟨S1x512, .f32⟩
  | 77 => ⟨S512, .f32⟩
  | 78 => ⟨S1x1x512, .f32⟩
  | 79 => ⟨S8x4096x512, .f32⟩
  | 80 => ⟨S8x4096x512, .f32⟩
  | 81 => ⟨S8x4096x512, .f32⟩
  | 82 => ⟨S8x4096x512, .f32⟩
  | 83 => ⟨S1x512, .f32⟩
  | 84 => ⟨S512, .f32⟩
  | 85 => ⟨S1x1x512, .f32⟩
  | 86 => ⟨S8x4096x512, .f32⟩
  | 87 => ⟨S8x4096x512, .f32⟩
  | 88 => ⟨S8x4096x512, .f32⟩
  | 89 => ⟨S8x4096x512, .f32⟩
  | 90 => ⟨S1x512, .f32⟩
  | 91 => ⟨S512, .f32⟩
  | 92 => ⟨S1x1x512, .f32⟩
  | 93 => ⟨S8x4096x512, .f32⟩
  | 94 => ⟨S8x4096x512, .f32⟩
  | 95 => ⟨S8x4096x512, .f32⟩
  | 96 => ⟨S8x4096x512, .f32⟩
  | 97 => ⟨S1x512, .f32⟩
  | 98 => ⟨S512, .f32⟩
  | 99 => ⟨S1x1x512, .f32⟩
  | 100 => ⟨S8x4096x512, .f32⟩
  | 101 => ⟨S8x4096x512, .f32⟩
  | 102 => ⟨S8x4096x512, .f32⟩
  | 103 => ⟨S8x4096x512, .f32⟩
  | 104 => ⟨S1x512, .f32⟩
  | 105 => ⟨S512, .f32⟩
  | 106 => ⟨S1x1x512, .f32⟩
  | 107 => ⟨S8x4096x512, .f32⟩
  | 108 => ⟨S8x4096x512, .f32⟩
  | 109 => ⟨S8x4096x512, .f32⟩
  | 110 => ⟨S8x4096x512, .f32⟩
  | 111 => ⟨S1x512, .f32⟩
  | 112 => ⟨S512, .f32⟩
  | 113 => ⟨S1x1x512, .f32⟩
  | 114 => ⟨S8x4096x512, .f32⟩
  | 115 => ⟨S8x4096x512, .f32⟩
  | 116 => ⟨S8x4096x512, .f32⟩
  | 117 => ⟨S1x1x512, .f32⟩
  | 118 => ⟨S8x4096x512, .f32⟩
  | 119 => ⟨S8x4096x512, .f32⟩
  | 120 => ⟨S_, .f32⟩
  | 121 => ⟨S8x4096, .f32⟩
  | 122 => ⟨S8x4096x1, .f32⟩
  | 123 => ⟨S_, .f32⟩
  | 124 => ⟨S8x4096x1, .f32⟩
  | 125 => ⟨S8x4096x1, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S_, .f32⟩
  | 2 => ⟨S8x4096, .f32⟩
  | 3 => ⟨S8x4096x1, .f32⟩
  | 4 => ⟨S_, .f32⟩
  | 5 => ⟨S8x4096x1, .f32⟩
  | 6 => ⟨S8x4096x1, .f32⟩
  | 7 => ⟨S8x4096x512, .f32⟩
  | 8 => ⟨S8x4096x512, .f32⟩
  | 9 => ⟨S_, .f32⟩
  | 10 => ⟨S8x4096x1, .f32⟩
  | 11 => ⟨S8x4096x1, .f32⟩
  | 12 => ⟨S8x4096x1, .f32⟩
  | 13 => ⟨S8x4096x512, .f32⟩
  | 14 => ⟨S8x4096x512, .f32⟩
  | 15 => ⟨S1x1x512, .f32⟩
  | 16 => ⟨S8x4096x512, .f32⟩
  | 17 => ⟨S8x4096x512, .f32⟩
  | 18 => ⟨S1x1x512, .f32⟩
  | 19 => ⟨S8x4096x512, .f32⟩
  | 20 => ⟨S8x4096x512, .f32⟩
  | 21 => ⟨S8x4096x512, .f32⟩
  | 22 => ⟨S8x4096x512, .f32⟩
  | 23 => ⟨S_, .f32⟩
  | 24 => ⟨S8x4096x512, .f32⟩
  | 25 => ⟨S8x4096x512, .f32⟩
  | 26 => ⟨S_, .f32⟩
  | 27 => ⟨S8x4096x512, .f32⟩
  | 28 => ⟨S8x4096x512, .f32⟩
  | 29 => ⟨S8x4096x512, .f32⟩
  | 30 => ⟨S8x4096x512, .f32⟩
  | 31 => ⟨S4096, .i32⟩
  | 32 => ⟨S8x4096x128, .f32⟩
  | 33 => ⟨S_, .i32⟩
  | 34 => ⟨S_, .f32⟩
  | 35 => ⟨S8x4097x128, .f32⟩
  | 36 => ⟨S8x4096x128, .f32⟩
  | 37 => ⟨S_, .f32⟩
  | 38 => ⟨S8x4096x128, .f32⟩
  | 39 => ⟨S8x4096x128, .f32⟩
  | 40 => ⟨S8x4096x128, .f32⟩
  | 41 => ⟨S8x4096x128, .f32⟩
  | 42 => ⟨S_, .i32⟩
  | 43 => ⟨S4096, .i32⟩
  | 44 => ⟨S4096, .i32⟩
  | 45 => ⟨S_, .i32⟩
  | 46 => ⟨S_, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S_, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .i32⟩
  | 68 => ⟨S4096, .f32⟩
  | 69 => ⟨S1x4096x1, .f32⟩
  | 70 => ⟨S8x4096x128, .f32⟩
  | 71 => ⟨S8x4096x128, .f32⟩
  | 72 => ⟨S8x4096x128, .f32⟩
  | 73 => ⟨S1x128x128, .f32⟩
  | 74 => ⟨S128x128, .f32⟩
  | 75 => ⟨S8x4096x128, .f32⟩
  | 76 => ⟨S8x4096x128, .f32⟩
  | 77 => ⟨S_, .i32⟩
  | 78 => ⟨S_, .f32⟩
  | 79 => ⟨S8x4099x128, .f32⟩
  | 80 => ⟨S8x4096x128, .f32⟩
  | 81 => ⟨S_, .f32⟩
  | 82 => ⟨S8x4096x128, .f32⟩
  | 83 => ⟨S8x4096x128, .f32⟩
  | 84 => ⟨S8x4096x128, .f32⟩
  | 85 => ⟨S8x4096x128, .f32⟩
  | 86 => ⟨S8x4096x128, .f32⟩
  | 87 => ⟨S8x4096x128, .f32⟩
  | 88 => ⟨S8x4096x128, .f32⟩
  | 89 => ⟨S8x4096x128, .f32⟩
  | 90 => ⟨S_, .i32⟩
  | 91 => ⟨S4096, .i32⟩
  | 92 => ⟨S4096, .i32⟩
  | 93 => ⟨S_, .i32⟩
  | 94 => ⟨S_, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S_, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S4096, .f32⟩
  | 117 => ⟨S1x4096x1, .f32⟩
  | 118 => ⟨S8x4096x128, .f32⟩
  | 119 => ⟨S8x4096x128, .f32⟩
  | 120 => ⟨S8x4096x128, .f32⟩
  | 121 => ⟨S1x128x128, .f32⟩
  | 122 => ⟨S128x128, .f32⟩
  | 123 => ⟨S8x4096x128, .f32⟩
  | 124 => ⟨S8x4096x128, .f32⟩
  | 125 => ⟨S_, .i32⟩
  | 126 => ⟨S_, .f32⟩
  | 127 => ⟨S8x4103x128, .f32⟩
  | _ => ⟨S8x4096x1024, .f32⟩

abbrev hbmTy0_3 (i : Nat) : BufTy := match i % 128 with
  | 0 => ⟨S8x4096x128, .f32⟩
  | 1 => ⟨S_, .f32⟩
  | 2 => ⟨S8x4096x128, .f32⟩
  | 3 => ⟨S8x4096x128, .f32⟩
  | 4 => ⟨S8x4096x128, .f32⟩
  | 5 => ⟨S8x4096x128, .f32⟩
  | 6 => ⟨S8x4096x128, .f32⟩
  | 7 => ⟨S8x4096x128, .f32⟩
  | 8 => ⟨S8x4096x128, .f32⟩
  | 9 => ⟨S8x4096x128, .f32⟩
  | 10 => ⟨S8x4096x128, .f32⟩
  | 11 => ⟨S8x4096x128, .f32⟩
  | 12 => ⟨S8x4096x128, .f32⟩
  | 13 => ⟨S8x4096x128, .f32⟩
  | 14 => ⟨S8x4096x128, .f32⟩
  | 15 => ⟨S8x4096x128, .f32⟩
  | 16 => ⟨S8x4096x128, .f32⟩
  | 17 => ⟨S8x4096x128, .f32⟩
  | 18 => ⟨S_, .i32⟩
  | 19 => ⟨S4096, .i32⟩
  | 20 => ⟨S4096, .i32⟩
  | 21 => ⟨S_, .i32⟩
  | 22 => ⟨S_, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S_, .i32⟩
  | 36 => ⟨S_, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S4096, .i32⟩
  | 44 => ⟨S4096, .f32⟩
  | 45 => ⟨S1x4096x1, .f32⟩
  | 46 => ⟨S8x4096x128, .f32⟩
  | 47 => ⟨S8x4096x128, .f32⟩
  | 48 => ⟨S8x4096x128, .f32⟩
  | 49 => ⟨S1x128x128, .f32⟩
  | 50 => ⟨S128x128, .f32⟩
  | 51 => ⟨S8x4096x128, .f32⟩
  | 52 => ⟨S8x4096x128, .f32⟩
  | 53 => ⟨S_, .i32⟩
  | 54 => ⟨S_, .f32⟩
  | 55 => ⟨S8x4111x128, .f32⟩
  | 56 => ⟨S8x4096x128, .f32⟩
  | 57 => ⟨S_, .f32⟩
  | 58 => ⟨S8x4096x128, .f32⟩
  | 59 => ⟨S8x4096x128, .f32⟩
  | 60 => ⟨S8x4096x128, .f32⟩
  | 61 => ⟨S8x4096x128, .f32⟩
  | 62 => ⟨S8x4096x128, .f32⟩
  | 63 => ⟨S8x4096x128, .f32⟩
  | 64 => ⟨S8x4096x128, .f32⟩
  | 65 => ⟨S8x4096x128, .f32⟩
  | 66 => ⟨S8x4096x128, .f32⟩
  | 67 => ⟨S8x4096x128, .f32⟩
  | 68 => ⟨S8x4096x128, .f32⟩
  | 69 => ⟨S8x4096x128, .f32⟩
  | 70 => ⟨S8x4096x128, .f32⟩
  | 71 => ⟨S8x4096x128, .f32⟩
  | 72 => ⟨S8x4096x128, .f32⟩
  | 73 => ⟨S8x4096x128, .f32⟩
  | 74 => ⟨S8x4096x128, .f32⟩
  | 75 => ⟨S8x4096x128, .f32⟩
  | 76 => ⟨S8x4096x128, .f32⟩
  | 77 => ⟨S8x4096x128, .f32⟩
  | 78 => ⟨S8x4096x128, .f32⟩
  | 79 => ⟨S8x4096x128, .f32⟩
  | 80 => ⟨S8x4096x128, .f32⟩
  | 81 => ⟨S8x4096x128, .f32⟩
  | 82 => ⟨S8x4096x128, .f32⟩
  | 83 => ⟨S8x4096x128, .f32⟩
  | 84 => ⟨S8x4096x128, .f32⟩
  | 85 => ⟨S8x4096x128, .f32⟩
  | 86 => ⟨S8x4096x128, .f32⟩
  | 87 => ⟨S8x4096x128, .f32⟩
  | 88 => ⟨S8x4096x128, .f32⟩
  | 89 => ⟨S8x4096x128, .f32⟩
  | 90 => ⟨S_, .i32⟩
  | 91 => ⟨S4096, .i32⟩
  | 92 => ⟨S4096, .i32⟩
  | 93 => ⟨S_, .i32⟩
  | 94 => ⟨S_, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S_, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S4096, .f32⟩
  | 117 => ⟨S1x4096x1, .f32⟩
  | 118 => ⟨S8x4096x128, .f32⟩
  | 119 => ⟨S8x4096x128, .f32⟩
  | 120 => ⟨S8x4096x128, .f32⟩
  | 121 => ⟨S1x128x128, .f32⟩
  | 122 => ⟨S128x128, .f32⟩
  | 123 => ⟨S8x4096x128, .f32⟩
  | 124 => ⟨S8x4096x512, .f32⟩
  | 125 => ⟨S1x1x512, .f32⟩
  | 126 => ⟨S8x4096x512, .f32⟩
  | 127 => ⟨S8x4096x512, .f32⟩
  | _ => ⟨S8x4096x1024, .f32⟩

abbrev hbmTy0_4 (i : Nat) : BufTy := match i % 128 with
  | 0 => ⟨S8x32x128x4x128, .f32⟩
  | 1 => ⟨S4x8x32x128x128, .f32⟩
  | 2 => ⟨S8x32x128x4x128, .f32⟩
  | 3 => ⟨S128x4, .f32⟩
  | 4 => ⟨S1x1x128x4x1, .f32⟩
  | 5 => ⟨S8x32x128x4x128, .f32⟩
  | 6 => ⟨S8x32x128x4x128, .f32⟩
  | 7 => ⟨S8x4096x512, .f32⟩
  | 8 => ⟨S8x4096x512, .f32⟩
  | 9 => ⟨S1024x1024, .f32⟩
  | 10 => ⟨S8x4096x1024, .f32⟩
  | 11 => ⟨S1024, .f32⟩
  | 12 => ⟨S1x1x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S_, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S1x512x1024, .f32⟩
  | 24 => ⟨S512x1024, .f32⟩
  | 25 => ⟨S8x4096x1024, .f32⟩
  | 26 => ⟨S8x4096x1024, .f32⟩
  | 27 => ⟨S1024x1024, .f32⟩
  | 28 => ⟨S8x4096x1024, .f32⟩
  | 29 => ⟨S1024, .f32⟩
  | 30 => ⟨S1x1x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S1x512x1024, .f32⟩
  | 42 => ⟨S512x1024, .f32⟩
  | 43 => ⟨S8x4096x1024, .f32⟩
  | 44 => ⟨S8x4096x1024, .f32⟩
  | 45 => ⟨S8x4096x1024, .f32⟩
  | 46 => ⟨S1024x1024, .f32⟩
  | 47 => ⟨S8x4096x1024, .f32⟩
  | 48 => ⟨S1024, .f32⟩
  | 49 => ⟨S1x1x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S_, .f32⟩
  | 55 => ⟨S8x4096x1024, .f32⟩
  | 56 => ⟨S8x4096x1024, .f32⟩
  | 57 => ⟨S_, .f32⟩
  | 58 => ⟨S8x4096x1024, .f32⟩
  | 59 => ⟨S8x4096x1024, .f32⟩
  | 60 => ⟨S1x512x1024, .f32⟩
  | 61 => ⟨S512x1024, .f32⟩
  | 62 => ⟨S8x4096x1024, .f32⟩
  | 63 => ⟨S8x4096x1024, .f32⟩
  | 64 => ⟨S8x4096x1024, .f32⟩
  | 65 => ⟨S1024x1024, .f32⟩
  | 66 => ⟨S8x4096x1024, .f32⟩
  | 67 => ⟨S1024, .f32⟩
  | 68 => ⟨S1x1x1024, .f32⟩
  | 69 => ⟨S8x4096x1024, .f32⟩
  | 70 => ⟨S8x4096x1024, .f32⟩
  | 71 => ⟨S8x4096x1024, .f32⟩
  | 72 => ⟨S8x4096x1024, .f32⟩
  | 73 => ⟨S_, .f32⟩
  | 74 => ⟨S8x4096x1024, .f32⟩
  | 75 => ⟨S8x4096x1024, .f32⟩
  | 76 => ⟨S_, .f32⟩
  | 77 => ⟨S8x4096x1024, .f32⟩
  | 78 => ⟨S8x4096x1024, .f32⟩
  | 79 => ⟨S1x512x1024, .f32⟩
  | 80 => ⟨S512x1024, .f32⟩
  | 81 => ⟨S8x4096x1024, .f32⟩
  | 82 => ⟨S8x4096x1024, .f32⟩
  | 83 => ⟨S8x4096x1024, .f32⟩
  | 84 => ⟨S8x1x1024, .f32⟩
  | 85 => ⟨S8x1x1024, .f32⟩
  | 86 => ⟨S8x1x1024, .f32⟩
  | 87 => ⟨S8x1x1024, .f32⟩
  | 88 => ⟨S8x1x1024, .f32⟩
  | 89 => ⟨S8x1x1024, .f32⟩
  | 90 => ⟨S8x4096x1024, .f32⟩
  | 91 => ⟨S8x4096x1024, .f32⟩
  | 92 => ⟨S8x4096x1024, .f32⟩
  | 93 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_cst_0 : Ref sig .tc := ⟨.hbm, 248, rfl⟩
abbrev main_v226 : Ref sig .tc := ⟨.hbm, 249, rfl⟩
abbrev main_v227 : Ref sig .tc := ⟨.hbm, 250, rfl⟩
abbrev main_cst_1 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_cst_2 : Ref sig .tc := ⟨.hbm, 257, rfl⟩
abbrev main_v233 : Ref sig .tc := ⟨.hbm, 258, rfl⟩
abbrev main_v234 : Ref sig .tc := ⟨.hbm, 259, rfl⟩
abbrev main_cst_3 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_cst_4 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_call1_v0 : Ref sig .tc := ⟨.hbm, 277, rfl⟩
abbrev main_call1_v1 : Ref sig .tc := ⟨.hbm, 278, rfl⟩
abbrev main_call1_cst : Ref sig .tc := ⟨.hbm, 279, rfl⟩
abbrev main_call1_v2 : Ref sig .tc := ⟨.hbm, 280, rfl⟩
abbrev main_call1_v3 : Ref sig .tc := ⟨.hbm, 281, rfl⟩
abbrev main_call1_cst_0 : Ref sig .tc := ⟨.hbm, 282, rfl⟩
abbrev main_call1_v4 : Ref sig .tc := ⟨.hbm, 283, rfl⟩
abbrev main_call1_v5 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_c_5 : Ref sig .tc := ⟨.hbm, 289, rfl⟩
abbrev main_call2_v0 : Ref sig .tc := ⟨.hbm, 290, rfl⟩
abbrev main_v254 : Ref sig .tc := ⟨.hbm, 291, rfl⟩
abbrev main_v255 : Ref sig .tc := ⟨.hbm, 292, rfl⟩
abbrev main_cst_6 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_c_7 : Ref sig .tc := ⟨.hbm, 298, rfl⟩
abbrev main_v260 : Ref sig .tc := ⟨.hbm, 299, rfl⟩
abbrev main_v261 : Ref sig .tc := ⟨.hbm, 300, rfl⟩
abbrev main_c_8 : Ref sig .tc := ⟨.hbm, 301, rfl⟩
abbrev main_c_9 : Ref sig .tc := ⟨.hbm, 302, rfl⟩
abbrev main_call3_v0 : Ref sig .tc := ⟨.hbm, 303, rfl⟩
abbrev main_call3_v1 : Ref sig .tc := ⟨.hbm, 304, rfl⟩
abbrev main_call3_v2 : Ref sig .tc := ⟨.hbm, 305, rfl⟩
abbrev main_call3_v3 : Ref sig .tc := ⟨.hbm, 306, rfl⟩
abbrev main_call3_v4 : Ref sig .tc := ⟨.hbm, 307, rfl⟩
abbrev main_v262 : Ref sig .tc := ⟨.hbm, 308, rfl⟩
abbrev main_c_10 : Ref sig .tc := ⟨.hbm, 309, rfl⟩
abbrev main_v263 : Ref sig .tc := ⟨.hbm, 310, rfl⟩
abbrev main_v264 : Ref sig .tc := ⟨.hbm, 311, rfl⟩
abbrev main_c_11 : Ref sig .tc := ⟨.hbm, 312, rfl⟩
abbrev main_v265 : Ref sig .tc := ⟨.hbm, 313, rfl⟩
abbrev main_v266 : Ref sig .tc := ⟨.hbm, 314, rfl⟩
abbrev main_c_12 : Ref sig .tc := ⟨.hbm, 315, rfl⟩
abbrev main_c_13 : Ref sig .tc := ⟨.hbm, 316, rfl⟩
abbrev main_call4_v0 : Ref sig .tc := ⟨.hbm, 317, rfl⟩
abbrev main_call4_v1 : Ref sig .tc := ⟨.hbm, 318, rfl⟩
abbrev main_call4_v2 : Ref sig .tc := ⟨.hbm, 319, rfl⟩
abbrev main_call4_v3 : Ref sig .tc := ⟨.hbm, 320, rfl⟩
abbrev main_call4_v4 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_c_14 : Ref sig .tc := ⟨.hbm, 333, rfl⟩
abbrev main_call5_v0 : Ref sig .tc := ⟨.hbm, 334, rfl⟩
abbrev main_v278 : Ref sig .tc := ⟨.hbm, 335, rfl⟩
abbrev main_v279 : Ref sig .tc := ⟨.hbm, 336, rfl⟩
abbrev main_cst_15 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_c_16 : Ref sig .tc := ⟨.hbm, 346, rfl⟩
abbrev main_v288 : Ref sig .tc := ⟨.hbm, 347, rfl⟩
abbrev main_v289 : Ref sig .tc := ⟨.hbm, 348, rfl⟩
abbrev main_c_17 : Ref sig .tc := ⟨.hbm, 349, rfl⟩
abbrev main_c_18 : Ref sig .tc := ⟨.hbm, 350, rfl⟩
abbrev main_call6_v0 : Ref sig .tc := ⟨.hbm, 351, rfl⟩
abbrev main_call6_v1 : Ref sig .tc := ⟨.hbm, 352, rfl⟩
abbrev main_call6_v2 : Ref sig .tc := ⟨.hbm, 353, rfl⟩
abbrev main_call6_v3 : Ref sig .tc := ⟨.hbm, 354, rfl⟩
abbrev main_call6_v4 : Ref sig .tc := ⟨.hbm, 355, rfl⟩
abbrev main_v290 : Ref sig .tc := ⟨.hbm, 356, rfl⟩
abbrev main_c_19 : Ref sig .tc := ⟨.hbm, 357, rfl⟩
abbrev main_v291 : Ref sig .tc := ⟨.hbm, 358, rfl⟩
abbrev main_v292 : Ref sig .tc := ⟨.hbm, 359, rfl⟩
abbrev main_c_20 : Ref sig .tc := ⟨.hbm, 360, rfl⟩
abbrev main_v293 : Ref sig .tc := ⟨.hbm, 361, rfl⟩
abbrev main_v294 : Ref sig .tc := ⟨.hbm, 362, rfl⟩
abbrev main_c_21 : Ref sig .tc := ⟨.hbm, 363, rfl⟩
abbrev main_c_22 : Ref sig .tc := ⟨.hbm, 364, rfl⟩
abbrev main_call7_v0 : Ref sig .tc := ⟨.hbm, 365, rfl⟩
abbrev main_call7_v1 : Ref sig .tc := ⟨.hbm, 366, rfl⟩
abbrev main_call7_v2 : Ref sig .tc := ⟨.hbm, 367, rfl⟩
abbrev main_call7_v3 : Ref sig .tc := ⟨.hbm, 368, rfl⟩
abbrev main_call7_v4 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_c_23 : Ref sig .tc := ⟨.hbm, 381, rfl⟩
abbrev main_call8_v0 : Ref sig .tc := ⟨.hbm, 382, rfl⟩
abbrev main_v306 : Ref sig .tc := ⟨.hbm, 383, rfl⟩
abbrev main_v307 : Ref sig .tc := ⟨.hbm, 384, rfl⟩
abbrev main_cst_24 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_c_25 : Ref sig .tc := ⟨.hbm, 402, rfl⟩
abbrev main_v324 : Ref sig .tc := ⟨.hbm, 403, rfl⟩
abbrev main_v325 : Ref sig .tc := ⟨.hbm, 404, rfl⟩
abbrev main_c_26 : Ref sig .tc := ⟨.hbm, 405, rfl⟩
abbrev main_c_27 : Ref sig .tc := ⟨.hbm, 406, rfl⟩
abbrev main_call9_v0 : Ref sig .tc := ⟨.hbm, 407, rfl⟩
abbrev main_call9_v1 : Ref sig .tc := ⟨.hbm, 408, rfl⟩
abbrev main_call9_v2 : Ref sig .tc := ⟨.hbm, 409, rfl⟩
abbrev main_call9_v3 : Ref sig .tc := ⟨.hbm, 410, rfl⟩
abbrev main_call9_v4 : Ref sig .tc := ⟨.hbm, 411, rfl⟩
abbrev main_v326 : Ref sig .tc := ⟨.hbm, 412, rfl⟩
abbrev main_c_28 : Ref sig .tc := ⟨.hbm, 413, rfl⟩
abbrev main_v327 : Ref sig .tc := ⟨.hbm, 414, rfl⟩
abbrev main_v328 : Ref sig .tc := ⟨.hbm, 415, rfl⟩
abbrev main_c_29 : Ref sig .tc := ⟨.hbm, 416, rfl⟩
abbrev main_v329 : Ref sig .tc := ⟨.hbm, 417, rfl⟩
abbrev main_v330 : Ref sig .tc := ⟨.hbm, 418, rfl⟩
abbrev main_c_30 : Ref sig .tc := ⟨.hbm, 419, rfl⟩
abbrev main_c_31 : Ref sig .tc := ⟨.hbm, 420, rfl⟩
abbrev main_call10_v0 : Ref sig .tc := ⟨.hbm, 421, rfl⟩
abbrev main_call10_v1 : Ref sig .tc := ⟨.hbm, 422, rfl⟩
abbrev main_call10_v2 : Ref sig .tc := ⟨.hbm, 423, rfl⟩
abbrev main_call10_v3 : Ref sig .tc := ⟨.hbm, 424, rfl⟩
abbrev main_call10_v4 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_c_32 : Ref sig .tc := ⟨.hbm, 437, rfl⟩
abbrev main_call11_v0 : Ref sig .tc := ⟨.hbm, 438, rfl⟩
abbrev main_v342 : Ref sig .tc := ⟨.hbm, 439, rfl⟩
abbrev main_v343 : Ref sig .tc := ⟨.hbm, 440, rfl⟩
abbrev main_cst_33 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_v352 : Ref sig .tc := ⟨.hbm, 450, rfl⟩
abbrev main_v353 : Ref sig .tc := ⟨.hbm, 451, rfl⟩
abbrev main_v354 : Ref sig .tc := ⟨.hbm, 452, rfl⟩
abbrev main_v355 : Ref sig .tc := ⟨.hbm, 453, rfl⟩
abbrev main_v356 : Ref sig .tc := ⟨.hbm, 454, rfl⟩
abbrev main_v357 : Ref sig .tc := ⟨.hbm, 455, rfl⟩
abbrev main_v358 : Ref sig .tc := ⟨.hbm, 456, rfl⟩
abbrev main_v359 : Ref sig .tc := ⟨.hbm, 457, rfl⟩
abbrev main_v360 : Ref sig .tc := ⟨.hbm, 458, rfl⟩
abbrev main_v361 : Ref sig .tc := ⟨.hbm, 459, rfl⟩
abbrev main_v362 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_v366 : Ref sig .tc := ⟨.hbm, 464, rfl⟩
abbrev main_v367 : Ref sig .tc := ⟨.hbm, 465, rfl⟩
abbrev main_v368 : Ref sig .tc := ⟨.hbm, 466, rfl⟩
abbrev main_v369 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_c_34 : Ref sig .tc := ⟨.hbm, 474, rfl⟩
abbrev main_v376 : Ref sig .tc := ⟨.hbm, 475, rfl⟩
abbrev main_v377 : Ref sig .tc := ⟨.hbm, 476, rfl⟩
abbrev main_c_35 : Ref sig .tc := ⟨.hbm, 477, rfl⟩
abbrev main_c_36 : Ref sig .tc := ⟨.hbm, 478, rfl⟩
abbrev main_call12_v0 : Ref sig .tc := ⟨.hbm, 479, rfl⟩
abbrev main_call12_v1 : Ref sig .tc := ⟨.hbm, 480, rfl⟩
abbrev main_call12_v2 : Ref sig .tc := ⟨.hbm, 481, rfl⟩
abbrev main_call12_v3 : Ref sig .tc := ⟨.hbm, 482, rfl⟩
abbrev main_call12_v4 : Ref sig .tc := ⟨.hbm, 483, rfl⟩
abbrev main_v378 : Ref sig .tc := ⟨.hbm, 484, rfl⟩
abbrev main_c_37 : Ref sig .tc := ⟨.hbm, 485, rfl⟩
abbrev main_v379 : Ref sig .tc := ⟨.hbm, 486, rfl⟩
abbrev main_v380 : Ref sig .tc := ⟨.hbm, 487, rfl⟩
abbrev main_c_38 : Ref sig .tc := ⟨.hbm, 488, rfl⟩
abbrev main_v381 : Ref sig .tc := ⟨.hbm, 489, rfl⟩
abbrev main_v382 : Ref sig .tc := ⟨.hbm, 490, rfl⟩
abbrev main_c_39 : Ref sig .tc := ⟨.hbm, 491, rfl⟩
abbrev main_c_40 : Ref sig .tc := ⟨.hbm, 492, rfl⟩
abbrev main_call13_v0 : Ref sig .tc := ⟨.hbm, 493, rfl⟩
abbrev main_call13_v1 : Ref sig .tc := ⟨.hbm, 494, rfl⟩
abbrev main_call13_v2 : Ref sig .tc := ⟨.hbm, 495, rfl⟩
abbrev main_call13_v3 : Ref sig .tc := ⟨.hbm, 496, rfl⟩
abbrev main_call13_v4 : Ref sig .tc := ⟨.hbm, 497, rfl⟩
abbrev main_v383 : Ref sig .tc := ⟨.hbm, 498, rfl⟩
abbrev main_v384 : Ref sig .tc := ⟨.hbm, 499, rfl⟩
abbrev main_v385 : Ref sig .tc := ⟨.hbm, 500, rfl⟩
abbrev main_v386 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_v392 : Ref sig .tc := ⟨.hbm, 507, rfl⟩
abbrev main_v393 : Ref sig .tc := ⟨.hbm, 508, rfl⟩
abbrev main_v394 : Ref sig .tc := ⟨.hbm, 509, rfl⟩
abbrev main_v395 : Ref sig .tc := ⟨.hbm, 510, rfl⟩
abbrev main_v396 : Ref sig .tc := ⟨.hbm, 511, rfl⟩
abbrev main_v397 : Ref sig .tc := ⟨.hbm, 512, rfl⟩
abbrev main_v398 : Ref sig .tc := ⟨.hbm, 513, rfl⟩
abbrev main_v399 : Ref sig .tc := ⟨.hbm, 514, rfl⟩
abbrev main_v400 : Ref sig .tc := ⟨.hbm, 515, rfl⟩
abbrev main_v401 : Ref sig .tc := ⟨.hbm, 516, rfl⟩
abbrev main_v402 : Ref sig .tc := ⟨.hbm, 517, rfl⟩
abbrev main_v403 : Ref sig .tc := ⟨.hbm, 518, rfl⟩
abbrev main_v404 : Ref sig .tc := ⟨.hbm, 519, rfl⟩
abbrev main_v405 : Ref sig .tc := ⟨.hbm, 520, rfl⟩
abbrev main_v406 : Ref sig .tc := ⟨.hbm, 521, rfl⟩
abbrev main_v407 : Ref sig .tc := ⟨.hbm, 522, rfl⟩
abbrev main_v408 : Ref sig .tc := ⟨.hbm, 523, rfl⟩
abbrev main_v409 : Ref sig .tc := ⟨.hbm, 524, rfl⟩
abbrev main_v410 : Ref sig .tc := ⟨.hbm, 525, rfl⟩
abbrev main_v411 : Ref sig .tc := ⟨.hbm, 526, rfl⟩
abbrev main_v412 : Ref sig .tc := ⟨.hbm, 527, rfl⟩
abbrev main_v413 : Ref sig .tc := ⟨.hbm, 528, rfl⟩
abbrev main_cst_41 : Ref sig .tc := ⟨.hbm, 529, rfl⟩
abbrev main_v414 : Ref sig .tc := ⟨.hbm, 530, rfl⟩
abbrev main_v415 : Ref sig .tc := ⟨.hbm, 531, rfl⟩
abbrev main_cst_42 : Ref sig .tc := ⟨.hbm, 532, rfl⟩
abbrev main_v416 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_cst_43 : Ref sig .tc := ⟨.hbm, 547, rfl⟩
abbrev main_v430 : Ref sig .tc := ⟨.hbm, 548, rfl⟩
abbrev main_v431 : Ref sig .tc := ⟨.hbm, 549, rfl⟩
abbrev main_cst_44 : Ref sig .tc := ⟨.hbm, 550, rfl⟩
abbrev main_v432 : Ref sig .tc := ⟨.hbm, 551, rfl⟩
abbrev main_v433 : Ref sig .tc := ⟨.hbm, 552, rfl⟩
abbrev main_v434 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_v438 : Ref sig .tc := ⟨.hbm, 557, rfl⟩
abbrev main_v439 : Ref sig .tc := ⟨.hbm, 558, rfl⟩
abbrev main_v440 : Ref sig .tc := ⟨.hbm, 559, rfl⟩
abbrev main_v441 : Ref sig .tc := ⟨.hbm, 560, rfl⟩
abbrev main_v442 : Ref sig .tc := ⟨.hbm, 561, rfl⟩
abbrev main_v443 : Ref sig .tc := ⟨.hbm, 562, rfl⟩
abbrev main_v444 : Ref sig .tc := ⟨.hbm, 563, rfl⟩
abbrev main_v445 : Ref sig .tc := ⟨.hbm, 564, rfl⟩
abbrev main_v446 : Ref sig .tc := ⟨.hbm, 565, rfl⟩
abbrev main_cst_45 : Ref sig .tc := ⟨.hbm, 566, rfl⟩
abbrev main_v447 : Ref sig .tc := ⟨.hbm, 567, rfl⟩
abbrev main_v448 : Ref sig .tc := ⟨.hbm, 568, rfl⟩
abbrev main_cst_46 : Ref sig .tc := ⟨.hbm, 569, rfl⟩
abbrev main_v449 : Ref sig .tc := ⟨.hbm, 570, rfl⟩
abbrev main_v450 : Ref sig .tc := ⟨.hbm, 571, rfl⟩
abbrev main_v451 : Ref sig .tc := ⟨.hbm, 572, rfl⟩
abbrev main_v452 : Ref sig .tc := ⟨.hbm, 573, rfl⟩
abbrev main_v453 : Ref sig .tc := ⟨.hbm, 574, rfl⟩
abbrev main_v454 : Ref sig .tc := ⟨.hbm, 575, rfl⟩
abbrev main_v455 : Ref sig .tc := ⟨.hbm, 576, rfl⟩
abbrev main_v456 : Ref sig .tc := ⟨.hbm, 577, rfl⟩
abbrev main_v457 : Ref sig .tc := ⟨.hbm, 578, rfl⟩
abbrev main_v458 : Ref sig .tc := ⟨.hbm, 579, rfl⟩
abbrev main_v459 : Ref sig .tc := ⟨.hbm, 580, rfl⟩
abbrev main_v460 : Ref sig .tc := ⟨.hbm, 581, rfl⟩
abbrev main_v461 : Ref sig .tc := ⟨.hbm, 582, rfl⟩
abbrev main_v462 : Ref sig .tc := ⟨.hbm, 583, rfl⟩
abbrev main_v463 : Ref sig .tc := ⟨.hbm, 584, rfl⟩
abbrev main_cst_47 : Ref sig .tc := ⟨.hbm, 585, rfl⟩
abbrev main_v464 : Ref sig .tc := ⟨.hbm, 586, rfl⟩
abbrev main_v465 : Ref sig .tc := ⟨.hbm, 587, rfl⟩
abbrev main_cst_48 : Ref sig .tc := ⟨.hbm, 588, rfl⟩
abbrev main_v466 : Ref sig .tc := ⟨.hbm, 589, rfl⟩
abbrev main_v467 : Ref sig .tc := ⟨.hbm, 590, rfl⟩
abbrev main_v468 : Ref sig .tc := ⟨.hbm, 591, rfl⟩
abbrev main_v469 : Ref sig .tc := ⟨.hbm, 592, rfl⟩
abbrev main_v470 : Ref sig .tc := ⟨.hbm, 593, rfl⟩
abbrev main_v471 : Ref sig .tc := ⟨.hbm, 594, rfl⟩
abbrev main_v472 : Ref sig .tc := ⟨.hbm, 595, rfl⟩
abbrev main_v473 : Ref sig .tc := ⟨.hbm, 596, rfl⟩
abbrev main_v474 : Ref sig .tc := ⟨.hbm, 597, rfl⟩
abbrev main_v475 : Ref sig .tc := ⟨.hbm, 598, rfl⟩
abbrev main_v476 : Ref sig .tc := ⟨.hbm, 599, rfl⟩
abbrev main_v477 : Ref sig .tc := ⟨.hbm, 600, rfl⟩
abbrev main_v478 : Ref sig .tc := ⟨.hbm, 601, rfl⟩
abbrev main_v479 : Ref sig .tc := ⟨.hbm, 602, rfl⟩
abbrev main_v480 : Ref sig .tc := ⟨.hbm, 603, rfl⟩
abbrev main_v481 : Ref sig .tc := ⟨.hbm, 604, rfl⟩
abbrev main_v482 : Ref sig .tc := ⟨.hbm, 605, rfl⟩

abbrev nD : Nat := 1
abbrev τ : Topo := Topo.v7x

variable {F : FTy → Type} [FloatOps F]
-- ==== Kernel4.lean ====
abbrev S16x256x1024 : Shape := ⟨3, ![16, 256, 1024]⟩
abbrev S1x1x6144 : Shape := ⟨3, ![1, 1, 6144]⟩
abbrev S1024 : Shape := ⟨1, ![1024]⟩
abbrev S1024x3328 : Shape := ⟨2, ![1024, 3328]⟩
abbrev S64 : Shape := ⟨1, ![64]⟩
abbrev S512 : Shape := ⟨1, ![512]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x2816 : Shape := ⟨2, ![1024, 2816]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S_ : Shape := ⟨0, ![]⟩
abbrev S512x1 : Shape := ⟨2, ![512, 1]⟩
abbrev S512x512 : Shape := ⟨2, ![512, 512]⟩
abbrev S128x1 : Shape := ⟨2, ![128, 1]⟩
abbrev S128x128 : Shape := ⟨2, ![128, 128]⟩
abbrev S1x4096x1024 : Shape := ⟨3, ![1, 4096, 1024]⟩
abbrev S1x6x1024 : Shape := ⟨3, ![1, 6, 1024]⟩
abbrev S1x4096x512 : Shape := ⟨3, ![1, 4096, 512]⟩
abbrev S1x4096x128 : Shape := ⟨3, ![1, 4096, 128]⟩
abbrev S1x160x4096 : Shape := ⟨3, ![1, 160, 4096]⟩
abbrev S1x512x1024 : Shape := ⟨3, ![1, 512, 1024]⟩
abbrev S1x512x512 : Shape := ⟨3, ![1, 512, 512]⟩
abbrev S1x512x128 : Shape := ⟨3, ![1, 512, 128]⟩
abbrev S1x160x512 : Shape := ⟨3, ![1, 160, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩
abbrev S256x512 : Shape := ⟨2, ![256, 512]⟩
abbrev S1x256x512 : Shape := ⟨3, ![1, 256, 512]⟩
abbrev S1024x256 : Shape := ⟨2, ![1024, 256]⟩
abbrev S256x256 : Shape := ⟨2, ![256, 256]⟩
abbrev S256x128 : Shape := ⟨2, ![256, 128]⟩
abbrev S1x256x128 : Shape := ⟨3, ![1, 256, 128]⟩
abbrev S128x256 : Shape := ⟨2, ![128, 256]⟩
abbrev S64x256 : Shape := ⟨2, ![64, 256]⟩
abbrev S1x64x256 : Shape := ⟨3, ![1, 64, 256]⟩
abbrev S16x256 : Shape := ⟨2, ![16, 256]⟩
abbrev S1x16x256 : Shape := ⟨3, ![1, 16, 256]⟩

abbrev nBuf : Space → Nat
  | .hbm => 93
  | .vmem => 28
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x3328, .f32⟩
  | .hbm, ⟨4, _⟩ => ⟨S64, .f32⟩
  | .hbm, ⟨5, _⟩ => ⟨S64, .f32⟩
  | .hbm, ⟨6, _⟩ => ⟨S512, .f32⟩
  | .hbm, ⟨7, _⟩ => ⟨S1024x3328, .bf16⟩
  | .hbm, ⟨8, _⟩ => ⟨S1024x512, .bf16⟩
  | .hbm, ⟨9, _⟩ => ⟨S1024x2x4x64, .bf16⟩
  | .hbm, ⟨10, _⟩ => ⟨S1024x4x2x64, .bf16⟩
  | .hbm, ⟨11, _⟩ => ⟨S1024x512, .bf16⟩
  | .hbm, ⟨12, _⟩ => ⟨S1024x2816, .bf16⟩
  | .hbm, ⟨13, _⟩ => ⟨S1024x3328, .bf16⟩
  | .hbm, ⟨14, _⟩ => ⟨S1x1024, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S128, .i32⟩
  | .hbm, ⟨53, _⟩ => ⟨S_, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S128, .i1⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S1x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S128x128, .f32⟩
  | .hbm, ⟨77, _⟩ => ⟨S_, .f32⟩
  | .hbm, ⟨78, _⟩ => ⟨S128x128, .f32⟩
  | .hbm, ⟨79, _⟩ => ⟨S128x128, .f32⟩
  | .hbm, ⟨80, _⟩ => ⟨S128x128, .bf16⟩
  | .hbm, ⟨81, _⟩ => ⟨S1x512, .f32⟩
  | .hbm, ⟨82, _⟩ => ⟨S1x4096x1024, .f32⟩
  | .hbm, ⟨83, _⟩ => ⟨S1x6x1024, .f32⟩
  | .hbm, ⟨84, _⟩ => ⟨S1x4096x512, .bf16⟩
  | .hbm, ⟨85, _⟩ => ⟨S1x4096x128, .bf16⟩
  | .hbm, ⟨86, _⟩ => ⟨S1x160x4096, .bf16⟩
  | .hbm, ⟨87, _⟩ => ⟨S1x4096x1024, .f32⟩
  | .hbm, ⟨88, _⟩ => ⟨S1x4096x512, .bf16⟩
  | .hbm, ⟨89, _⟩ => ⟨S1x4096x512, .bf16⟩
  | .hbm, ⟨90, _⟩ => ⟨S1x4096x1024, .bf16⟩
  | .hbm, ⟨91, _⟩ => ⟨S1x4096x128, .f32⟩
  | .hbm, ⟨92, _⟩ => ⟨S1x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3328, .bf16⟩
  | .local _ .vmem, ⟨5, _⟩ => ⟨S1x512, .f32⟩
  | .local _ .vmem, ⟨6, _⟩ => ⟨S1x128, .f32⟩
  | .local _ .vmem, ⟨7, _⟩ => ⟨S512x512, .bf16⟩
  | .local _ .vmem, ⟨8, _⟩ => ⟨S128x128, .bf16⟩
  | .local _ .vmem, ⟨9, _⟩ => ⟨S1x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x128, .bf16⟩
  | .local _ .vmem, ⟨13, _⟩ => ⟨S1x512x128, .bf16⟩
  | .local _ .vmem, ⟨14, _⟩ => ⟨S1x160x512, .bf16⟩
  | .local _ .vmem, ⟨15, _⟩ => ⟨S1x160x512, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x128, .f32⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_1 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41_0 : Ref sig .tc := ⟨.hbm, 84, rfl⟩
abbrev main_v41_1 : Ref sig .tc := ⟨.hbm, 85, rfl⟩
abbrev main_v41_2 : Ref sig .tc := ⟨.hbm, 86, rfl⟩
abbrev main_v41_3 : Ref sig .tc := ⟨.hbm, 87, rfl⟩
abbrev main_v41_4 : Ref sig .tc := ⟨.hbm, 88, rfl⟩
abbrev main_v41_5 : Ref sig .tc := ⟨.hbm, 89, rfl⟩
abbrev main_v41_6 : Ref sig .tc := ⟨.hbm, 90, rfl⟩
abbrev main_v41_7 : Ref sig .tc := ⟨.hbm, 91, rfl⟩
abbrev main_v41_8 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x160x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S16x256x1024 : Shape := ⟨3, ![16, 256, 1024]⟩
abbrev S1x1x6144 : Shape := ⟨3, ![1, 1, 6144]⟩
abbrev S1024 : Shape := ⟨1, ![1024]⟩
abbrev S1024x3328 : Shape := ⟨2, ![1024, 3328]⟩
abbrev S64 : Shape := ⟨1, ![64]⟩
abbrev S512 : Shape := ⟨1, ![512]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x3328 : Shape := ⟨3, ![16, 256, 3328]⟩
abbrev S16x256x128 : Shape := ⟨3, ![16, 256, 128]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S1x1x1x64 : Shape := ⟨4, ![1, 1, 1, 64]⟩
abbrev S1x4096x128 : Shape := ⟨3, ![1, 4096, 128]⟩

abbrev nBuf : Space → Nat
  | .hbm => 59
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x3328, .f32⟩
  | .hbm, ⟨4, _⟩ => ⟨S64, .f32⟩
  | .hbm, ⟨5, _⟩ => ⟨S64, .f32⟩
  | .hbm, ⟨6, _⟩ => ⟨S512, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x3328, .f32⟩
  | .hbm, ⟨37, _⟩ => ⟨S16x256x128, .f32⟩
  | .hbm, ⟨38, _⟩ => ⟨S16x256x2x64, .f32⟩
  | .hbm, ⟨39, _⟩ => ⟨S16x256x2x64, .f32⟩
  | .hbm, ⟨40, _⟩ => ⟨S_, .f32⟩
  | .hbm, ⟨41, _⟩ => ⟨S16x256x2, .f32⟩
  | .hbm, ⟨42, _⟩ => ⟨S16x256x2x1, .f32⟩
  | .hbm, ⟨43, _⟩ => ⟨S_, .f32⟩
  | .hbm, ⟨44, _⟩ => ⟨S16x256x2x1, .f32⟩
  | .hbm, ⟨45, _⟩ => ⟨S16x256x2x1, .f32⟩
  | .hbm, ⟨46, _⟩ => ⟨S_, .f32⟩
  | .hbm, ⟨47, _⟩ => ⟨S16x256x2x1, .f32⟩
  | .hbm, ⟨48, _⟩ => ⟨S16x256x2x1, .f32⟩
  | .hbm, ⟨49, _⟩ => ⟨S16x256x2x1, .f32⟩
  | .hbm, ⟨50, _⟩ => ⟨S16x256x2x64, .f32⟩
  | .hbm, ⟨51, _⟩ => ⟨S16x256x2x64, .f32⟩
  | .hbm, ⟨52, _⟩ => ⟨S1x1x1x64, .f32⟩
  | .hbm, ⟨53, _⟩ => ⟨S16x256x2x64, .f32⟩
  | .hbm, ⟨54, _⟩ => ⟨S16x256x2x64, .f32⟩
  | .hbm, ⟨55, _⟩ => ⟨S16x256x128, .f32⟩
  | .hbm, ⟨56, _⟩ => ⟨S16x256x2x64, .f32⟩
  | .hbm, ⟨57, _⟩ => ⟨S1x4096x128, .f32⟩
  | .hbm, ⟨58, _⟩ => ⟨S1x4096x128, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.MlpRef.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp

/-- A row divided by its root mean square, times a weight. -/
def nrm (x g : Fin 1024 → EReal) (k : Fin 1024) : EReal :=
  x k * Ideal.rsqrt (Ideal.div (∑ l, x l * x l) (Ideal.ofBits .f32 0x44800000#32) + Ideal.ofBits .f32 0x358637BD#32) * g k

/-- The modulated normalised row. -/
def hrow (x g sc sh : Fin 1024 → EReal) (k : Fin 1024) : EReal := nrm x g k * (1 + sc k) + sh k

/-- The hidden row: the square of the positive part of the first product. -/
def frow (x g sc sh : Fin 1024 → EReal) (w1 : Fin 1024 → Fin 4096 → EReal) (j : Fin 4096) : EReal :=
  max (∑ l, hrow x g sc sh l * w1 l j) 0 * max (∑ l, hrow x g sc sh l * w1 l j) 0

/-- The row with the gated second product added. -/
def yrow (x g sc sh : Fin 1024 → EReal) (w1 : Fin 1024 → Fin 4096 → EReal) (w2 : Fin 4096 → Fin 1024 → EReal)
    (g2 : Fin 1024 → EReal) (k : Fin 1024) : EReal :=
  x k + g2 k * ∑ j, frow x g sc sh w1 j * w2 j k

end Cert.Mlp

namespace Cert.Reference2Ideal.Mlp
open Cert.Reference2Ideal Cert.Reference2Ideal.Gen Cert.Mlp

/-- The modulated normalised rows. -/
def refH (x : FVec Ideal S8x4096x1024 .f32) (md : FVec Ideal S8x1x6144 .f32) (g : FVec Ideal S1024 .f32) : FVec Ideal S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 4096] md slices_S8x1x6144_S8x1x1024_0_0_4096)))) (broadcastInDim S8x4096x1024 ![0, 1, 2] bcast_S8x1x1024_S8x4096x1024_0_1_2 (extractStridedSlice S8x1x1024 ![0, 0, 3072] md slices_S8x1x6144_S8x1x1024_0_0_3072))

/-- The hidden rows. -/
def refF (x : FVec Ideal S8x4096x1024 .f32) (md : FVec Ideal S8x1x6144 .f32) (g : FVec Ideal S1024 .f32) (w1 : FVec Ideal S1024x4096 .f32) : FVec Ideal S8x4096x4096 .f32 :=
  mulf (maximumf (Host.dotGeneral dot_S8x4096x1024_S1024x4096_S8x4096x4096_2_0_01_1_n_n none (refH x md g) w1) (broadcastInDim S8x4096x4096 ![] bcast_S_S8x4096x4096 (constant S_ .f32 0x00000000#32))) (maximumf (Host.dotGeneral dot_S8x4096x1024_S1024x4096_S8x4096x4096_2_0_01_1_n_n none (refH x md g) w1) (broadcastInDim S8x4096x4096 ![] bcast_S_S8x4096x4096 (constant S_ .f32 0x00000000#32)))

/-- The rows before the last norm. -/
def refY (x : FVec Ideal S8x4096x1024 .f32) (md : FVec Ideal S8x1x6144 .f32) (g : FVec Ideal S1024 .f32) (w1 : FVec Ideal S1024x4096 .f32) (w2 : FVec Ideal S4096x1024 .f32) : FVec Ideal S8x4096x1024 .f32 :=
  addf x (mulf (broadcastInDim S8x4096x1024 ![0, 1, 2] bcast_S8x1x1024_S8x4096x1024_0_1_2 (extractStridedSlice S8x1x1024 ![0, 0, 5120] md slices_S8x1x6144_S8x1x1024_0_0_5120)) (Host.dotGeneral dot_S8x4096x4096_S4096x1024_S8x4096x1024_2_0_01_1_n_n none (refF x md g w1) w2))

/-- The result. -/
def refZ (x : FVec Ideal S8x4096x1024 .f32) (md : FVec Ideal S8x1x6144 .f32) (g : FVec Ideal S1024 .f32) (w1 : FVec Ideal S1024x4096 .f32) (w2 : FVec Ideal S4096x1024 .f32) (fg : FVec Ideal S1024 .f32) : FVec Ideal S8x4096x1024 .f32 :=
  mulf (mulf (refY x md g w1 w2) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (refY x md g w1 w2) (refY x md g w1 w2)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 fg))

theorem res_eq (m : (ℓ : Loc nD τ sig) → Buf (Elt Ideal) ℓ) (c : Dev nD) :
    Value.res_main_v44 m c = refZ (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

section
variable (x : FVec Ideal S8x4096x1024 .f32) (md : FVec Ideal S8x1x6144 .f32) (g : FVec Ideal S1024 .f32) (w1 : FVec Ideal S1024x4096 .f32) (w2 : FVec Ideal S4096x1024 .f32) (fg : FVec Ideal S1024 .f32)

/-- Column `o + k` of the modulation of sample `b`. -/
def mcol (md : FVec Ideal S8x1x6144 .f32) (b : Fin 8) (o : Nat) (ho : o + 1024 ≤ 6144) (k : Fin 1024) : EReal :=
  md (ix3 b 0 ⟨o + k.val, by omega⟩)

theorem refH_at (b : Fin 8) (r : Fin 4096) (k : Fin 1024) : refH x md g (ix3 b r k)
    = hrow (fun k => x (ix3 b r k)) (fun k => g (ix1 k)) (mcol md b 4096 (by decide)) (mcol md b 3072 (by decide)) k := by
  pointwise [refH]
  simp only [hrow, nrm, mcol]
  try rfl

theorem refF_at (b : Fin 8) (r : Fin 4096) (j : Fin 4096) : refF x md g w1 (ix3 b r j)
    = frow (fun k => x (ix3 b r k)) (fun k => g (ix1 k)) (mcol md b 4096 (by decide)) (mcol md b 3072 (by decide))
        (fun l j => w1 (ix2 l j)) j := by
  pointwise [refF]
  simp only [refH_at, frow]

theorem refY_at (b : Fin 8) (r : Fin 4096) (k : Fin 1024) : refY x md g w1 w2 (ix3 b r k)
    = yrow (fun k => x (ix3 b r k)) (fun k => g (ix1 k)) (mcol md b 4096 (by decide)) (mcol md b 3072 (by decide))
        (fun l j => w1 (ix2 l j)) (fun j k => w2 (ix2 j k)) (mcol md b 5120 (by decide)) k := by
  pointwise [refY]
  simp only [refF_at, yrow, mcol]
  try rfl

theorem refZ_at (b : Fin 8) (r : Fin 4096) (k : Fin 1024) : refZ x md g w1 w2 fg (ix3 b r k)
    = nrm (yrow (fun k => x (ix3 b r k)) (fun k => g (ix1 k)) (mcol md b 4096 (by decide)) (mcol md b 3072 (by decide))
        (fun l j => w1 (ix2 l j)) (fun j k => w2 (ix2 j k)) (mcol md b 5120 (by decide))) (fun k => fg (ix1 k)) k := by
  pointwise [refZ]
  simp only [refY_at, nrm]
  try rfl
end

end Cert.Reference2Ideal.Mlp
-- ==== Proof.MlpValue.lean ====
module

public import proofs.«01_k».proof.Proof.Gen.Kernel2Ideal.Value
public import proofs.«01_k».proof.Proof.MlpRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Mlp
open Cert.Kernel2Ideal Cert.Kernel2Ideal.Gen Cert.Mlp
open Cert.Reference2Ideal.Mlp (refZ mcol refZ_at)

variable (m : (ℓ : Loc nD τ sig) → Buf (Elt Ideal) ℓ)

theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![t.val / 4, t.val % 4, 0] :=
  (by decide +kernel : ∀ t : Fin grid0.N, _)

theorem pay3_at (v0 : Vec Ideal S1x1024x1024 .f32) (v12 : Vec Ideal S1x1024 .f32) (v16 v22 : Vec Ideal S1x1x1024 .f32)
    (r k : Fin 1024) : k0_pay3 v0 v12 v16 v22 (ix2 r k)
      = hrow (fun k => v0 (ix3 0 r k)) (fun k => v12 (ix2 0 k)) (fun k => v16 (ix3 0 0 k)) (fun k => v22 (ix3 0 0 k)) k := by
  pointwise [k0_pay3, k0_pay2]
  simp only [hrow, nrm]
  try rfl

/-- One column block of the hidden rows. -/
def fblk (h : FVec Ideal S1024x1024 .bf16) (w : Vec Ideal S1024x1024 .bf16) (r k : Fin 1024) : EReal :=
  max (∑ l : Fin 1024, (h (ix2 r l) : EReal) * (w (ix2 l k) : EReal)) 0 * max (∑ l : Fin 1024, (h (ix2 r l) : EReal) * (w (ix2 l k) : EReal)) 0

theorem pay5_at (h : FVec Ideal S1024x1024 .bf16) (w : Vec Ideal S1024x1024 .bf16) (r k : Fin 1024) :
    k0_pay5 h w (ix2 r k) = fblk h w r k := by
  pointwise [k0_pay5]
  rfl

theorem pay6_eq (h : FVec Ideal S1024x1024 .bf16) (w : Vec Ideal S1024x1024 .bf16) : k0_pay6 h w = k0_pay5 h w := rfl
theorem pay7_eq (h : FVec Ideal S1024x1024 .bf16) (w : Vec Ideal S1024x1024 .bf16) : k0_pay7 h w = k0_pay5 h w := rfl
theorem pay4_eq (v0 : Vec Ideal S1x1024x1024 .f32) (v12 : Vec Ideal S1x1024 .f32) (v16 v22 : Vec Ideal S1x1x1024 .f32)
    (w : Vec Ideal S1024x1024 .bf16) : k0_pay4 v0 v12 v16 v22 w = k0_pay5 (k0_pay3 v0 v12 v16 v22) w := rfl

theorem pay1_at (v0 : Vec Ideal S1x1024x1024 .f32) (v67 : Vec Ideal S1x1x1024 .f32) (v69 : Vec Ideal S1024x4096 .bf16)
    (v70 : Vec Ideal S4096x1024 .bf16) (v86 : Vec Ideal S1x1024 .f32) (r k : Fin 1024) :
    k0_pay1 (k0_pay2 v0) (k0_pay8 v67) v69 v70 v86 (ix3 0 r k)
      = nrm (fun k => (v0 (ix3 0 r k) : EReal) + (v67 (ix3 0 0 k) : EReal) * ∑ j : Fin 4096, (v69 (ix2 r j) : EReal) * (v70 (ix2 j k) : EReal)) (fun k => v86 (ix2 0 k)) k := by
  pointwise [k0_pay1, k0_pay2, k0_pay8]
  simp only [nrm]
  try rfl

/-- A column block's entry is the hidden row's, once the loads are known to be the rows. -/
theorem piece_at (v0 : Vec Ideal S1x1024x1024 .f32) (v12 : Vec Ideal S1x1024 .f32) (v16 v22 : Vec Ideal S1x1x1024 .f32)
    (w : Vec Ideal S1024x1024 .bf16) (xr g sc sh : Fin 1024 → EReal) (W1 : Fin 1024 → Fin 4096 → EReal) (r x1 : Fin 1024) (j : Fin 4096)
    (hx : ∀ k, (v0 (ix3 0 r k) : EReal) = xr k) (hg : ∀ k, (v12 (ix2 0 k) : EReal) = g k)
    (hsc : ∀ k, (v16 (ix3 0 0 k) : EReal) = sc k) (hsh : ∀ k, (v22 (ix3 0 0 k) : EReal) = sh k)
    (hw : ∀ l, (w (ix2 l x1) : EReal) = W1 l j) :
    k0_pay5 (k0_pay3 v0 v12 v16 v22) w (ix2 r x1) = frow xr g sc sh W1 j := by
  refine (pay5_at _ _ _ _).trans ?_
  obtain rfl : (fun k => v0 (ix3 0 r k)) = xr := funext hx
  obtain rfl : (fun k => v12 (ix2 0 k)) = g := funext hg
  obtain rfl : (fun k => v16 (ix3 0 0 k)) = sc := funext hsc
  obtain rfl : (fun k => v22 (ix3 0 0 k)) = sh := funext hsh
  simp only [fblk, frow, pay3_at, hw]

/-- The sample a grid point works on. -/
def smp (t : Fin cfg0.N) : Fin 8 := ⟨t.val / 4, by have : t.val < 32 := lt_of_lt_of_eq t.isLt (by decide); omega⟩

/-- Row `r` of the row block a grid point works on. -/
def row (t : Fin cfg0.N) (r : Fin 1024) : Fin 4096 := ⟨t.val % 4 * 1024 + r.val, by omega⟩

theorem read0 (c : Dev nD) (t : Fin cfg0.N) (r k : Fin 1024) : (iblk m c 0 t (ix3 0 r k) : EReal)
    = m ((c.tc : Thread nD τ).loc main_arg0) (ix3 (smp t) (row t r) k) := by
  have ht : t.val < 32 := lt_of_lt_of_eq t.isLt (by decide)
  blk_point [iblk, V, idx t, smp, row]

theorem read1 (c : Dev nD) (t : Fin cfg0.N) (i : Fin 6) (k : Fin 1024) : (iblk m c 1 t (ix3 0 i k) : EReal)
    = m ((c.tc : Thread nD τ).loc main_arg1) (ix3 (smp t) 0 ⟨i.val * 1024 + k.val, by omega⟩) := by
  have ht : t.val < 32 := lt_of_lt_of_eq t.isLt (by decide)
  blk_point [iblk, V, idx t, smp]

theorem read2 (c : Dev nD) (t : Fin cfg0.N) (k : Fin 1024) : (iblk m c 2 t (ix2 0 k) : EReal)
    = m ((c.tc : Thread nD τ).loc main_arg2) (ix1 k) := by
  have ht : t.val < 32 := lt_of_lt_of_eq t.isLt (by decide)
  blk_point [iblk, V, idx t]

theorem read3 (c : Dev nD) (t : Fin cfg0.N) (l : Fin 1024) (j : Fin 4096) : (iblk m c 3 t (ix2 l j) : EReal)
    = m ((c.tc : Thread nD τ).loc main_arg3) (ix2 l j) := by
  have ht : t.val < 32 := lt_of_lt_of_eq t.isLt (by decide)
  blk_point [iblk, V, idx t]

theorem read4 (c : Dev nD) (t : Fin cfg0.N) (l : Fin 4096) (j : Fin 1024) : (iblk m c 4 t (ix2 l j) : EReal)
    = m ((c.tc : Thread nD τ).loc main_arg4) (ix2 l j) := by
  have ht : t.val < 32 := lt_of_lt_of_eq t.isLt (by decide)
  blk_point [iblk, V, idx t]

theorem read5 (c : Dev nD) (t : Fin cfg0.N) (k : Fin 1024) : (iblk m c 5 t (ix2 0 k) : EReal)
    = m ((c.tc : Thread nD τ).loc main_arg5) (ix1 k) := by
  have ht : t.val < 32 := lt_of_lt_of_eq t.isLt (by decide)
  blk_point [iblk, V, idx t]

theorem final (c : Dev nD) : (dats m 0 c).arrAt 6 (cfgs 0).N
    = refZ (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_covers 6 _ (by decide +kernel) fun t hf y => ?_
  blk_simp
  rw [after0_6]
  unfold Gen.outsAt0
  frame_open
  simp (disch := decide) only [↓ View.readCov_skip, ↓ View.readCov_cons_toLoadRect, ↓ View.readCov_fill]
  frame_out
  idx_vars y
  rw [Subsingleton.elim y0 0]
  rw [pay1_at]
  generalize hV : View.readCov (Val := Elt Ideal) (View.whole cc0_scratch0) _ _ = W
  have e : ∀ j : Fin 4096, (W (ix2 y1 j) : EReal)
      = frow (fun k => iblk m c 0 t (ix3 0 y1 k)) (fun k => iblk m c 2 t (ix2 0 k)) (fun k => iblk m c 1 t (ix3 0 4 k))
          (fun k => iblk m c 1 t (ix3 0 3 k)) (fun l j => iblk m c 3 t (ix2 l j)) j := by
    intro j
    rw [← hV, View.readCov_eq_canon']
    have hi : (Rect.unit (s := S1024x4096) ![0, 0] ![1024, 4096] inb_S1024x4096_S1024x4096_0_0).toLoadRect.idx (ix2 y1 j) = (ix2 y1 j : S1024x4096.Idx) := by
      funext a
      apply Fin.ext
      match a with
      | 0 => show 0 + 1 * y1.val = y1.val; omega
      | 1 => show 0 + 1 * j.val = j.val; omega
    dsimp only
    rw [hi]
    canon_tiles x h
    all_goals
      idx_vars x
      have h0' : y1.val = x0.val := h0.trans (by first | rfl | simp)
      obtain rfl : y1 = x0 := Fin.ext h0'
      first | replace h1 : j.val = 3072 + x1.val := h1 | replace h1 : j.val = 2048 + x1.val := h1 | replace h1 : j.val = 1024 + x1.val := h1 | replace h1 : j.val = x1.val := h1
      first | rw [pay4_eq] | rw [pay6_eq] | rw [pay7_eq] | skip
      refine piece_at _ _ _ _ _ _ _ _ _ _ y1 x1 j (fun _ => rfl) (fun _ => rfl) (fun k => ?_) (fun k => ?_) (fun l => ?_)
      · pointwise
        try rfl
      · pointwise
        try rfl
      · pointwise
        exact congrArg (fun q : Fin 4096 => iblk m c 3 t (ix2 l q)) (Fin.ext h1.symm)
  simp only [e, read0, read1, read2, read3, read4, read5]
  pointwise
  simp only [read1]
  have hj : ((View.whole main_v5).slice (win0_6.rect t)).emb (ix3 0 y1 y2) = (ix3 (smp t) (row t y1) y2 : S8x4096x1024.Idx) := by
    blk_ext [idx t, smp, row]
  refine Eq.trans ?_ (congrArg _ hj.symm)
  exact (refZ_at _ _ _ _ _ _ _ _ _).symm

end Cert.Kernel2Ideal.Mlp
-- ==== Proof.AttnLoop.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WritesUnit

/-!
The counted loop of the attention kernel: what its two trips, of two key blocks each, leave in the running sums.
-/

@[expose] public section

set_option maxRecDepth 16384

noncomputable section

open Idealize.ShloMosaic Idealize.ShloMosaic.TcCoe Idealize.SL.Sem
open Idealize.ShloMosaic.Pipeline (Dat)

namespace Cert.KernelIdeal.Att
open Cert.KernelIdeal Cert.KernelIdeal.Gen

/-- A load of a box of a rank-3 buffer, read at an index of the box. -/
theorem rd {sig : RefSig} {κ : Kind} {sp : Space} {e : EltTy} {Val : EltTy → Type} {n0 n1 n2 s0 s1 s2 : ℕ}
    (v : View sig κ sp (⟨3, ![n0, n1, n2]⟩ : Shape) e) (f : v.ty.Contents Val) (off : Fin 3 → ℕ) (o0 o1 o2 : ℕ)
    (inb : ∀ a, off a + (![s0, s1, s2] : Fin 3 → ℕ) a ≤ (⟨3, ![n0, n1, n2]⟩ : Shape).size a) (hoff : off = ![o0, o1, o2])
    (x : Fin s0) (y : Fin s1) (z : Fin s2) (x' : Fin n0) (y' : Fin n1) (z' : Fin n2)
    (hx : (x' : ℕ) = o0 + x) (hy : (y' : ℕ) = o1 + y) (hz : (z' : ℕ) = o2 + z) :
    v.readAt Val (Rect.unit (s := (⟨3, ![n0, n1, n2]⟩ : Shape)) off ![s0, s1, s2] inb).toLoadRect f (ix3 x y z)
      = v.read Val f (ix3 x' y' z') := by
  subst hoff
  refine congrArg (v.read Val f) (funext fun a => Fin.ext ?_)
  match a with
  | 0 => show o0 + 1 * (x : ℕ) = x'; omega
  | 1 => show o1 + 1 * (y : ℕ) = y'; omega
  | 2 => show o2 + 1 * (z : ℕ) = z'; omega

/-- One block's contribution: values against the powers of two of the shifted scores. -/
def part {n : ℕ} (V : Fin n → EReal) (K : Fin n → Fin 128 → EReal) (q : Fin 128 → EReal) (s : EReal) : EReal :=
  ∑ j, V j * FloatOps.exp2 (F := Ideal) (φ := .f32) ((∑ l, K j l * q l) - s)

theorem off1 : ∀ (k : Fin k0_t1_loop.trips) (b : Fin 2), k0_off1 k (BitVec.ofNat 32 b.val) = ![0, 0, 2048 * k.val + 1024 * b.val] := by
  decide +kernel
theorem off2 : ∀ (k : Fin k0_t1_loop.trips) (b : Fin 2), k0_off2 k (BitVec.ofNat 32 b.val) = ![0, 2048 * k.val + 1024 * b.val, 0] := by
  decide +kernel
theorem off3 : ∀ (k : Fin k0_t1_loop.trips) (b : Fin 2), k0_off3 k (BitVec.ofNat 32 b.val) = ![0, 80, 2048 * k.val + 1024 * b.val] := by
  decide +kernel

/-- Key `j` of block `b` of trip `k`. -/
def key (k : Fin k0_t1_loop.trips) (b : Fin 2) (j : Fin 1024) : Fin 4096 :=
  ⟨2048 * k.val + 1024 * b.val + j.val, by have := lt_of_lt_of_le k.isLt k0_t1_abs.2.1; omega⟩

/-- Row `r` of head `h` of the stacked value rows. -/
def vrow (h : Fin 2) (r : Fin 80) : Fin 160 := ⟨80 * h.val + r.val, by omega⟩

/-- The two blocks of one trip. -/
def tripPart (x4 : Vec Ideal S1x4096x128 .bf16) (x5 : Vec Ideal S1x160x4096 .bf16) (q : Fin 128 → EReal) (s : EReal)
    (h : Fin 2) (r : Fin 80) (k : Fin k0_t1_loop.trips) (b : Fin 2) : EReal :=
  part (fun j => x5 (ix3 0 (vrow h r) (key k b j))) (fun j l => x4 (ix3 0 (key k b j) l)) q s

/-- The running sums a memory holds, at an index. -/
abbrev racc (f : BufTy.Contents (Elt Ideal) (View.whole cc0_scratch1).ty) (h : Fin 2) (r : Fin 80) (q : Fin 4096) : EReal :=
  (View.whole cc0_scratch1).read (Elt Ideal) f (ix3 h r q)

/-- The query rows a memory holds, at an index. -/
abbrev rq (Q : BufTy.Contents (Elt Ideal) (View.whole cc0_scratch0).ty) (h : Fin 2) (q : Fin 4096) (l : Fin 128) : EReal :=
  (View.whole cc0_scratch0).read (Elt Ideal) Q (ix3 h q l)

theorem trip_at (c : Dev nD) (i : grid0.Coords) (arg2 : Memref sig .tc .smem S1x1 .f32) (harg2 : arg2.IsWhole) (arg3 : Memref sig .tc .vmem S1x1024x512 .f32) (harg3 : arg3.IsWhole) (arg4 : Memref sig .tc .vmem S1x512x128 .bf16) (harg4 : arg4.IsWhole) (arg5 : Memref sig .tc .vmem S1x160x512 .bf16) (harg5 : arg5.IsWhole) (arg6 : Memref sig .tc .vmem S1x4096x128 .bf16) (harg6 : arg6.IsWhole) (arg7 : Memref sig .tc .vmem S1x160x4096 .bf16) (harg7 : arg7.IsWhole) (arg8 : Memref sig .tc .vmem S1x1024x512 .bf16) (harg8 : arg8.IsWhole) (v83 : EReal) (x4 : Vec Ideal S1x4096x128 .bf16) (x5 : Vec Ideal S1x160x4096 .bf16) (Q : BufTy.Contents (Elt Ideal) (View.whole cc0_scratch0).ty) (f : BufTy.Contents (Elt Ideal) (View.whole cc0_scratch1).ty) (k : Fin k0_t1_loop.trips) (h : Fin 2) (r : Fin 80) (q : Fin 4096) :
    racc ((View.whole cc0_scratch1).writes (Elt Ideal) f (tripL_k0_t1 (F := Ideal) Variants.none c none i arg2 harg2 arg3 harg3 arg4 harg4 arg5 harg5 arg6 harg6 arg7 harg7 arg8 harg8 scM0_0 (Memref.isWhole_whole _) scM0_1 (Memref.isWhole_whole _) v83 (harg6.unread x4) (harg7.unread x5) Q k f)) h r q
      = racc f h r q
          + tripPart x4 x5 (rq Q h q) v83 h r k 0
          + tripPart x4 x5 (rq Q h q) v83 h r k 1 := by
  have e70 : ∀ (b : Fin 2) (w : BitVec 32) (hw : w = BitVec.ofNat 32 b.val) inb (r : Fin 80) (j : Fin 1024), View.readAt (Elt Ideal) arg7.view (Rect.unit (s := S1x160x4096) (k0_off1 k w) ![1, 80, 1024] inb).toLoadRect (harg7.unread x5) (ix3 0 r j)
      = x5 (ix3 0 (vrow 0 r) (key k b j)) := fun b w hw inb r j => by
    subst hw
    rw [← congrFun (harg7.read_unread x5) (ix3 0 (vrow 0 r) (key k b j))]
    exact rd _ _ _ _ _ _ inb (off1 k b) _ _ _ _ _ _ rfl (by show 80 * 0 + r.val = 0 + r.val; omega) rfl
  have e71 : ∀ (b : Fin 2) (w : BitVec 32) (hw : w = BitVec.ofNat 32 b.val) inb (r : Fin 80) (j : Fin 1024), View.readAt (Elt Ideal) arg7.view (Rect.unit (s := S1x160x4096) (k0_off3 k w) ![1, 80, 1024] inb).toLoadRect (harg7.unread x5) (ix3 0 r j)
      = x5 (ix3 0 (vrow 1 r) (key k b j)) := fun b w hw inb r j => by
    subst hw
    rw [← congrFun (harg7.read_unread x5) (ix3 0 (vrow 1 r) (key k b j))]
    exact rd _ _ _ _ _ _ inb (off3 k b) _ _ _ _ _ _ rfl (by show 80 * 1 + r.val = 80 + r.val; omega) rfl
  have e6 : ∀ (b : Fin 2) (w : BitVec 32) (hw : w = BitVec.ofNat 32 b.val) inb (j : Fin 1024) (l : Fin 128), View.readAt (Elt Ideal) arg6.view (Rect.unit (s := S1x4096x128) (k0_off2 k w) ![1, 1024, 128] inb).toLoadRect (harg6.unread x4) (ix3 0 j l)
      = x4 (ix3 0 (key k b j) l) := fun b w hw inb j l => by
    subst hw
    rw [← congrFun (harg6.read_unread x4) (ix3 0 (key k b j) l)]
    exact rd _ _ _ _ _ _ inb (off2 k b) _ _ _ _ _ _ rfl rfl (by omega)
  have e9 : ∀ (h : ℕ) (h' : Fin 2) (e : h = h'.val) inb (q : Fin 4096) (l : Fin 128), View.readAt (Elt Ideal) (View.whole cc0_scratch0) (Rect.unit (s := S2x4096x128) ![h, 0, 0] ![1, 4096, 128] inb).toLoadRect Q (ix3 0 q l)
      = (View.whole cc0_scratch0).read (Elt Ideal) Q (ix3 h' q l) := fun h h' e inb q l => by
    exact rd _ _ _ _ _ _ inb rfl _ _ _ _ _ _ (by omega) (by omega) (by omega)
  have e10 : ∀ (h : ℕ) (h' : Fin 2) (e : h = h'.val) inb (r : Fin 80) (q : Fin 4096), View.readAt (Elt Ideal) (View.whole cc0_scratch1) (Rect.unit (s := S2x80x4096) ![h, 0, 0] ![1, 80, 4096] inb).toLoadRect f (ix3 0 r q)
      = (View.whole cc0_scratch1).read (Elt Ideal) f (ix3 h' r q) := fun h h' e inb q l => by
    exact rd _ _ _ _ _ _ inb rfl _ _ _ _ _ _ (by omega) (by omega) (by omega)
  unfold racc
  unfold tripL_k0_t1 trip_k0_t1
  dsimp only
  unfold trip_k0_t1.sl.v258 trip_k0_t1.sl.HW_arg10_3
  unfold trip_k0_t1.sl.v251 trip_k0_t1.sl.HW_arg10_2
  simp (disch := decide) only [↓ View.readCov_skip, ↓ View.readCov_cons_toLoadRect, ↓ View.readCov_fill]
  match h with
  | 0 =>
    rw [View.read_writes_cons_unit_of_not_mem _ _ _ _ _ _ rfl 0 (by left; exact Nat.zero_lt_one)]
    rw [View.read_writes_cons_unit_of_mem _ _ _ _ _ _ (ix3 0 r q) rfl (fun a => by match a with | 0 => rfl | 1 => (show (r:ℕ) = 0 + r; omega) | 2 => (show (q:ℕ) = 0 + q; omega))]
    unfold trip_k0_t1.sl.v239 trip_k0_t1.sl.v250 trip_k0_t1.sl.v238 trip_k0_t1.sl.v237 trip_k0_t1.sl.v249 trip_k0_t1.sl.cst_122
    unfold trip_k0_t1.sl.v248 trip_k0_t1.sl.HW_arg10_2
    simp (disch := decide) only [↓ View.readCov_skip, ↓ View.readCov_cons_toLoadRect, ↓ View.readCov_fill]
    pointwise [k0_pay24, trip_k0_t1.sl.v210, trip_k0_t1.sl.v247, trip_k0_t1.sl.v207, trip_k0_t1.sl.v245, trip_k0_t1.sl.v202, trip_k0_t1.sl.v195, trip_k0_t1.sl.v206, trip_k0_t1.sl.v193, trip_k0_t1.sl.v205, trip_k0_t1.sl.v204, trip_k0_t1.sl.v203, trip_k0_t1.sl.v201, trip_k0_t1.sl.v198, trip_k0_t1.sl.v200, trip_k0_t1.sl.v242, trip_k0_t1.sl.cst_121, trip_k0_t1.sl.cst_122]
    simp only [e70 1 1#32 rfl, e70 0 0#32 rfl, e6 1 1#32 rfl, e6 0 0#32 rfl, e9 0 0 rfl, e10 0 0 rfl]
    rfl
  | 1 =>
    rw [View.read_writes_cons_unit_of_mem _ _ _ _ _ _ (ix3 0 r q) rfl (fun a => by match a with | 0 => rfl | 1 => (show (r:ℕ) = 0 + r; omega) | 2 => (show (q:ℕ) = 0 + q; omega))]
    unfold trip_k0_t1.sl.v230 trip_k0_t1.sl.v227 trip_k0_t1.sl.v215 trip_k0_t1.sl.v226
    pointwise [k0_pay25, trip_k0_t1.sl.v214, trip_k0_t1.sl.v213, trip_k0_t1.sl.v225, trip_k0_t1.sl.v224, trip_k0_t1.sl.v223, trip_k0_t1.sl.v221, trip_k0_t1.sl.v220, trip_k0_t1.sl.v202, trip_k0_t1.sl.v242, trip_k0_t1.sl.v198, trip_k0_t1.sl.cst_121, trip_k0_t1.sl.cst_122]
    simp only [e71 1 1#32 rfl, e71 0 0#32 rfl, e6 1 1#32 rfl, e6 0 0#32 rfl, e9 1 1 rfl, e10 1 1 rfl]
    rfl

theorem trips_eq : k0_t1_loop.trips = 2 := by decide +kernel

/-- What the whole loop leaves in the running sums. -/
theorem loop_at (c : Dev nD) (i : grid0.Coords) (arg2 : Memref sig .tc .smem S1x1 .f32) (harg2 : arg2.IsWhole) (arg3 : Memref sig .tc .vmem S1x1024x512 .f32) (harg3 : arg3.IsWhole) (arg4 : Memref sig .tc .vmem S1x512x128 .bf16) (harg4 : arg4.IsWhole) (arg5 : Memref sig .tc .vmem S1x160x512 .bf16) (harg5 : arg5.IsWhole) (arg6 : Memref sig .tc .vmem S1x4096x128 .bf16) (harg6 : arg6.IsWhole) (arg7 : Memref sig .tc .vmem S1x160x4096 .bf16) (harg7 : arg7.IsWhole) (arg8 : Memref sig .tc .vmem S1x1024x512 .bf16) (harg8 : arg8.IsWhole) (v83 : EReal) (x4 : Vec Ideal S1x4096x128 .bf16) (x5 : Vec Ideal S1x160x4096 .bf16) (Q : BufTy.Contents (Elt Ideal) (View.whole cc0_scratch0).ty) (G : BufTy.Contents (Elt Ideal) (View.whole cc0_scratch1).ty) (h : Fin 2) (r : Fin 80) (q : Fin 4096) :
    racc ((View.whole cc0_scratch1).writes (Elt Ideal) G (pb_k0_t1 (F := Ideal) Variants.none c none i arg2 harg2 arg3 harg3 arg4 harg4 arg5 harg5 arg6 harg6 arg7 harg7 arg8 harg8 scM0_0 (Memref.isWhole_whole _) scM0_1 (Memref.isWhole_whole _) v83 (harg6.unread x4) (harg7.unread x5) Q G k0_t1_loop.trips)) h r q
      = racc G h r q + tripPart x4 x5 (rq Q h q) v83 h r ⟨0, by rw [trips_eq]; omega⟩ 0
          + tripPart x4 x5 (rq Q h q) v83 h r ⟨0, by rw [trips_eq]; omega⟩ 1
          + tripPart x4 x5 (rq Q h q) v83 h r ⟨1, by rw [trips_eq]; omega⟩ 0
          + tripPart x4 x5 (rq Q h q) v83 h r ⟨1, by rw [trips_eq]; omega⟩ 1 := by
  have h0 := fun f => trip_at c i arg2 harg2 arg3 harg3 arg4 harg4 arg5 harg5 arg6 harg6 arg7 harg7 arg8 harg8 v83 x4 x5 Q f ⟨0, by rw [trips_eq]; omega⟩ h r q
  have h1 := fun f => trip_at c i arg2 harg2 arg3 harg3 arg4 harg4 arg5 harg5 arg6 harg6 arg7 harg7 arg8 harg8 v83 x4 x5 Q f ⟨1, by rw [trips_eq]; omega⟩ h r q
  have p0 := pb_k0_t1_succ (F := Ideal) Variants.none c none i arg2 harg2 arg3 harg3 arg4 harg4 arg5 harg5 arg6 harg6 arg7 harg7 arg8 harg8 scM0_0 (Memref.isWhole_whole _) scM0_1 (Memref.isWhole_whole _) v83 (harg6.unread x4) (harg7.unread x5) Q G ⟨0, by rw [trips_eq]; omega⟩
  have p1 := pb_k0_t1_succ (F := Ideal) Variants.none c none i arg2 harg2 arg3 harg3 arg4 harg4 arg5 harg5 arg6 harg6 arg7 harg7 arg8 harg8 scM0_0 (Memref.isWhole_whole _) scM0_1 (Memref.isWhole_whole _) v83 (harg6.unread x4) (harg7.unread x5) Q G ⟨1, by rw [trips_eq]; omega⟩
  refine (congrArg (fun L => racc ((View.whole cc0_scratch1).writes (Elt Ideal) G L) h r q) ((congrArg _ trips_eq).trans p1)).trans ?_
  dsimp only
  rw [View.writes_append]
  refine (h1 _).trans ?_
  refine congrArg₂ _ (congrArg₂ _ ?_ rfl) rfl
  refine (congrArg (fun L => racc ((View.whole cc0_scratch1).writes (Elt Ideal) G L) h r q) p0).trans ?_
  dsimp only
  rw [View.writes_append]
  exact h0 _
end Cert.KernelIdeal.Att
-- ==== Proof.AttnBlock.lean ====
module

public import proofs.«01_k».proof.Proof.AttnLoop

/-!
One block of the attention kernel's result: the quotient of the two running sums, as a function of the blocks read.
-/

@[expose] public section

set_option maxRecDepth 16384

noncomputable section

open Idealize.ShloMosaic Idealize.ShloMosaic.TcCoe Idealize.SL.Sem
open Idealize.ShloMosaic.Pipeline (Dat)

namespace Cert.KernelIdeal.Att
open Cert.KernelIdeal Cert.KernelIdeal.Gen

variable (m : (ℓ : Loc nD τ sig) → Buf (Elt Ideal) ℓ)

/-- The scale of the query rows. -/
abbrev qs : EReal := Named.named (F := Ideal) κ "q_scale" (φ := .f32) 0x3E38AA3B#32

/-- Query row `q` of head `h`: the other head's lanes are zero. -/
def qrow (x1 : Vec Ideal S1x1024x512 .f32) (h : Fin 2) (q : Fin 4096) (l : Fin 128) : EReal :=
  if l.val / 64 = h.val then x1 (ix3 0 ⟨q.val % 1024, by omega⟩ ⟨128 * (q.val / 1024) + l.val, by omega⟩) * qs else 0

/-- The running sum `r` of head `h` for one query row. -/
def accv (x0 : EReal) (x2 : Vec Ideal S1x512x128 .bf16) (x3 : Vec Ideal S1x160x512 .bf16) (x4 : Vec Ideal S1x4096x128 .bf16)
    (x5 : Vec Ideal S1x160x4096 .bf16) (h : Fin 2) (r : Fin 80) (q : Fin 128 → EReal) : EReal :=
  part (fun j : Fin 512 => x3 (ix3 0 (vrow h r) j)) (fun j l => x2 (ix3 0 j l)) q x0
    + tripPart x4 x5 q x0 h r ⟨0, by rw [trips_eq]; omega⟩ 0 + tripPart x4 x5 q x0 h r ⟨0, by rw [trips_eq]; omega⟩ 1
    + tripPart x4 x5 q x0 h r ⟨1, by rw [trips_eq]; omega⟩ 0 + tripPart x4 x5 q x0 h r ⟨1, by rw [trips_eq]; omega⟩ 1

theorem sel_lo (a : EReal) : ∀ k : Fin 128, Scalar.select (IntOp.xori (IntOp.cmpi CmpIPredicate.sge (BitVec.ofNat 32 k.val) 64#32) 1#1) a 0
    = if k.val / 64 = 0 then a else 0 := by
  have h : ∀ k : Fin 128, IntOp.xori (IntOp.cmpi CmpIPredicate.sge (BitVec.ofNat 32 k.val) 64#32) 1#1 = if k.val / 64 = 0 then 1#1 else 0#1 := by
    decide +kernel
  intro k
  rw [h k]
  by_cases e : k.val / 64 = 0
  · rw [if_pos e, if_pos e]; rfl
  · rw [if_neg e, if_neg e]; rfl

theorem sel_hi (a : EReal) : ∀ k : Fin 128, Scalar.select (IntOp.cmpi CmpIPredicate.sge (BitVec.ofNat 32 k.val) 64#32) a 0
    = if k.val / 64 = 1 then a else 0 := by
  have h : ∀ k : Fin 128, IntOp.cmpi CmpIPredicate.sge (BitVec.ofNat 32 k.val) 64#32 = if k.val / 64 = 1 then 1#1 else 0#1 := by
    decide +kernel
  intro k
  rw [h k]
  by_cases e : k.val / 64 = 1
  · rw [if_pos e, if_pos e]; rfl
  · rw [if_neg e, if_neg e]; rfl

theorem qp_lo (v : Vec Ideal S1x1024x128 .f32) (x1 : Vec Ideal S1x1024x512 .f32) (g : Fin 4) (y : Fin 1024) (l : Fin 128) (q : Fin 4096) (h : Fin 2)
    (o : ℕ) (ho : o = 128 * g.val) (e : v (ix3 0 y l) = x1 (ix3 0 y ⟨o + l.val, by omega⟩)) (hq : q.val = 1024 * g.val + y.val) (hh : h.val = 0) :
    k0_pay10 v (ix3 0 y l) = qrow x1 h q l := by
  subst ho
  pointwise [k0_pay10, k0_pay8, k0_pay9]
  rw [e]
  refine (sel_lo _ l).trans ?_
  unfold qrow
  rw [hh]
  have a1 : (⟨q.val % 1024, by omega⟩ : Fin 1024) = y := Fin.ext (by show q.val % 1024 = y.val; omega)
  have a2 : (⟨128 * (q.val / 1024) + l.val, by omega⟩ : Fin 512) = ⟨128 * g.val + l.val, by omega⟩ := Fin.ext (by show 128 * (q.val / 1024) + l.val = 128 * g.val + l.val; omega)
  rw [a1, a2]

theorem qp_hi (v : Vec Ideal S1x1024x128 .f32) (x1 : Vec Ideal S1x1024x512 .f32) (g : Fin 4) (y : Fin 1024) (l : Fin 128) (q : Fin 4096) (h : Fin 2)
    (o : ℕ) (ho : o = 128 * g.val) (e : v (ix3 0 y l) = x1 (ix3 0 y ⟨o + l.val, by omega⟩)) (hq : q.val = 1024 * g.val + y.val) (hh : h.val = 1) :
    k0_pay11 v (ix3 0 y l) = qrow x1 h q l := by
  subst ho
  pointwise [k0_pay11, k0_pay8, k0_pay9]
  rw [e]
  refine (sel_hi _ l).trans ?_
  unfold qrow
  rw [hh]
  have a1 : (⟨q.val % 1024, by omega⟩ : Fin 1024) = y := Fin.ext (by show q.val % 1024 = y.val; omega)
  have a2 : (⟨128 * (q.val / 1024) + l.val, by omega⟩ : Fin 512) = ⟨128 * g.val + l.val, by omega⟩ := Fin.ext (by show 128 * (q.val / 1024) + l.val = 128 * g.val + l.val; omega)
  rw [a1, a2]

theorem p14 (v : Vec Ideal S1x1024x128 .f32) : k0_pay14 (k0_pay13 v) = k0_pay10 v := rfl
theorem p15 (v : Vec Ideal S1x1024x128 .f32) : k0_pay15 k0_pay8 (k0_pay12 v) = k0_pay11 v := rfl
theorem p17 (v : Vec Ideal S1x1024x128 .f32) : k0_pay17 k0_pay8 v = k0_pay10 v := rfl
theorem p18 (v : Vec Ideal S1x1024x128 .f32) : k0_pay18 k0_pay8 v = k0_pay11 v := rfl
theorem p20 (v : Vec Ideal S1x1024x128 .f32) : k0_pay20 k0_pay8 (k0_pay19 v) = k0_pay10 v := rfl
theorem p21 (v : Vec Ideal S1x1024x128 .f32) : k0_pay21 k0_pay8 (k0_pay19 v) = k0_pay11 v := rfl

/-- The stored quotient, at lane `64 h + d`. -/
theorem pay_at (a b : Vec Ideal S1x80x1024 .f32) (r : Fin 1024) (k : Fin 128) (h : Fin 2) (d : Fin 64) (hk : k.val = 64 * h.val + d.val) :
    k0_pay28 a b (ix3 0 r k)
      = Ideal.div ((if h = 0 then a else b) (ix3 0 ⟨d.val, by omega⟩ r)) ((if h = 0 then a else b) (ix3 0 64 r)) := by
  pointwise [k0_pay28]
  match h with
  | 0 =>
    have e : k.val = d.val := by rw [hk]; show 64 * 0 + d.val = d.val; omega
    have e' : (⟨k.val, by omega⟩ : Fin 80) = ⟨d.val, by omega⟩ := Fin.ext e
    rw [dif_pos (by omega : k.val < 64), if_pos rfl]
    exact congrArg (fun z : Fin 80 => Ideal.div (a (ix3 0 z r)) (a (ix3 0 64 r))) e'
  | 1 =>
    have e : k.val = 64 + d.val := by rw [hk]; show 64 * 1 + d.val = _; omega
    have e' : (⟨k.val - 64, by omega⟩ : Fin 80) = ⟨d.val, by omega⟩ := Fin.ext (by show k.val - 64 = d.val; omega)
    rw [dif_neg (by omega : ¬ k.val < 64)]
    exact congrArg (fun z : Fin 80 => Ideal.div (b (ix3 0 z r)) (b (ix3 0 64 r))) e'

/-- The lane of head pair `g`, head `h`, coordinate `d`. -/
def lane (g : Fin 4) (h : Fin 2) (d : Fin 64) : Fin 512 := ⟨128 * g.val + 64 * h.val + d.val, by omega⟩
/-- The query row of head pair `g`, position `r`. -/
def qi (g : Fin 4) (r : Fin 1024) : Fin 4096 := ⟨1024 * g.val + r.val, by omega⟩

/-- A running sum read back from what was written. -/
theorem rdc (L : List (View.Piece (Elt Ideal) S2x80x4096 .f32)) (h : Fin 2) (hn : ℕ) (g : Fin 4) (o : ℕ)
    (inb : ∀ a, (![hn, 0, o] : Fin 3 → ℕ) a + (![1, 80, 1024] : Fin 3 → ℕ) a ≤ S2x80x4096.size a) (hh : hn = h.val) (ho : o = 1024 * g.val)
    (d : Fin 80) (r : Fin 1024) :
    (View.whole cc0_scratch1).readCov (Val := Elt Ideal) L (Rect.unit (s := S2x80x4096) ![hn, 0, o] ![1, 80, 1024] inb).toLoadRect (ix3 0 d r)
      = racc ((View.whole cc0_scratch1).writes (Elt Ideal) (View.whole cc0_scratch1).junk L) h d (qi g r) :=
  rd _ _ _ _ _ _ inb rfl _ _ _ _ _ _ (by show h.val = hn + 0; omega) (by omega) (by show 1024 * g.val + r.val = o + r.val; omega)

/-- One of the four stored pieces, in the running sums it is computed from. -/
theorem piece_out (L : List (View.Piece (Elt Ideal) S2x80x4096 .f32)) (o : ℕ)
    (inb0 : ∀ a, (![0, 0, o] : Fin 3 → ℕ) a + (![1, 80, 1024] : Fin 3 → ℕ) a ≤ S2x80x4096.size a)
    (inb1 : ∀ a, (![1, 0, o] : Fin 3 → ℕ) a + (![1, 80, 1024] : Fin 3 → ℕ) a ≤ S2x80x4096.size a)
    (g : Fin 4) (h : Fin 2) (d : Fin 64) (r : Fin 1024) (k : Fin 128) (ho : o = 1024 * g.val) (hk : k.val = 64 * h.val + d.val) :
    k0_pay28 ((View.whole cc0_scratch1).readCov (Val := Elt Ideal) L (Rect.unit (s := S2x80x4096) ![0, 0, o] ![1, 80, 1024] inb0).toLoadRect)
        ((View.whole cc0_scratch1).readCov (Val := Elt Ideal) L (Rect.unit (s := S2x80x4096) ![1, 0, o] ![1, 80, 1024] inb1).toLoadRect) (ix3 0 r k)
      = Ideal.div (racc ((View.whole cc0_scratch1).writes (Elt Ideal) (View.whole cc0_scratch1).junk L) h ⟨d.val, by omega⟩ (qi g r))
          (racc ((View.whole cc0_scratch1).writes (Elt Ideal) (View.whole cc0_scratch1).junk L) h 64 (qi g r)) := by
  rw [pay_at _ _ r k h d hk]
  match h with
  | 0 =>
    rw [if_pos rfl]
    exact congrArg₂ Ideal.div (rdc L 0 0 g o inb0 rfl ho _ r) (rdc L 0 0 g o inb0 rfl ho _ r)
  | 1 =>
    rw [if_neg (show ¬ (1 : Fin 2) = 0 by decide)]
    exact congrArg₂ Ideal.div (rdc L 1 1 g o inb1 rfl ho _ r) (rdc L 1 1 g o inb1 rfl ho _ r)

theorem out_at (c : Dev nD) (t : Fin cfg0.N) (r : Fin 1024) (g : Fin 4) (h : Fin 2) (d : Fin 64) :
    ((dats m 0 c).after 6 t : Vec Ideal S1x1024x512 .bf16) (ix3 0 r (lane g h d))
      = Ideal.div
          (accv (iblk m c 0 t (ix2 0 0)) (iblk m c 2 t) (iblk m c 3 t) (iblk m c 4 t) (iblk m c 5 t) h ⟨d.val, by omega⟩ (qrow (iblk m c 1 t) h (qi g r)))
          (accv (iblk m c 0 t (ix2 0 0)) (iblk m c 2 t) (iblk m c 3 t) (iblk m c 4 t) (iblk m c 5 t) h 64 (qrow (iblk m c 1 t) h (qi g r))) := by
  rw [after0_6]; unfold Gen.outsAt0
  frame_open
  generalize hQ : (View.whole cc0_scratch0).writes (Elt Ideal) (View.whole cc0_scratch0).junk _ = Q
  generalize hG : (View.whole cc0_scratch1).writes (Elt Ideal) (View.whole cc0_scratch1).junk _ = G
  generalize hL : pb_k0_t1 (F := Ideal) Variants.none c none (grid0.coords t) _ _ _ _ _ _ _ _ _ _ _ _ _ _ _ _ _ _ _ _ _ _ _ _ ++ _ = L
  have e1 : ∀ (o : ℕ) (ho : o + 128 ≤ 512) inb (y : Fin 1024) (l : Fin 128), View.readAt (Elt Ideal) (ms0_1 t).view
      (Rect.unit (s := S1x1024x512) ![0, 0, o] ![1, 1024, 128] inb).toLoadRect ((hs0_1 t).unread (iblk m c 1 t)) (ix3 0 y l)
      = (iblk m c 1 t : Vec Ideal S1x1024x512 .f32) (ix3 0 y ⟨o + l.val, by omega⟩) := fun o ho inb y l => by
    rw [← congrFun ((hs0_1 t).read_unread (iblk m c 1 t)) (ix3 0 y ⟨o + l.val, by omega⟩)]
    exact rd _ _ _ _ _ _ inb rfl _ _ _ _ _ _ rfl (by omega) rfl
  have eQ : ∀ h q l, rq Q h q l = qrow (iblk m c 1 t) h q l := by
    intro h q l
    rw [← hQ]
    unfold rq
    rw [View.read_writes_junk_apply_eq_canon]
    clear hQ hG hL
    canon_tiles x hx
    all_goals
      idx_vars x
      obtain rfl : x0 = 0 := Subsingleton.elim _ _
      obtain rfl : l = x2 := Fin.ext hx2
    · rw [p21]; exact qp_hi _ _ 3 x1 l q h 384 rfl (e1 384 (by omega) _ x1 l) hx1 hx0
    · rw [p20]; exact qp_lo _ _ 3 x1 l q h 384 rfl (e1 384 (by omega) _ x1 l) hx1 hx0
    · rw [p18]; exact qp_hi _ _ 2 x1 l q h 256 rfl (e1 256 (by omega) _ x1 l) hx1 hx0
    · rw [p17]; exact qp_lo _ _ 2 x1 l q h 256 rfl (e1 256 (by omega) _ x1 l) hx1 hx0
    · rw [p15]; exact qp_hi _ _ 1 x1 l q h 128 rfl (e1 128 (by omega) _ x1 l) hx1 hx0
    · rw [p14]; exact qp_lo _ _ 1 x1 l q h 128 rfl (e1 128 (by omega) _ x1 l) hx1 hx0
    · exact qp_hi _ _ 0 x1 l q h 0 rfl (e1 0 (by omega) _ x1 l) (by show q.val = 1024 * 0 + x1.val; omega) hx0
    · exact qp_lo _ _ 0 x1 l q h 0 rfl (e1 0 (by omega) _ x1 l) (by show q.val = 1024 * 0 + x1.val; omega) hx0
  have eL : ∀ h d q, racc ((View.whole cc0_scratch1).writes (Elt Ideal) (View.whole cc0_scratch1).junk L) h d q
      = accv (iblk m c 0 t (ix2 0 0)) (iblk m c 2 t) (iblk m c 3 t) (iblk m c 4 t) (iblk m c 5 t) h d (qrow (iblk m c 1 t) h q) := by
    intro h d q
    rw [← hL, View.writes_append, hG]
    refine (loop_at c _ _ _ _ _ _ _ _ _ _ _ _ _ _ _ _ _ _ Q _ h d q).trans ?_
    clear hL
    have e0 : ∀ inb hf, View.readAt (Elt Ideal) (ms0_0 t).view (Rect.unit (s := S1x1) ![0, 0] ![1, 1] inb).toLoadRect ((hs0_0 t).unread (iblk m c 0 t)) (Shape.Idx.first hf)
        = (iblk m c 0 t : Vec Ideal S1x1 .f32) (ix2 0 0) := fun inb hf => by
      rw [← congrFun ((hs0_0 t).read_unread (iblk m c 0 t)) (ix2 0 0)]
      exact congrArg (View.read (Elt Ideal) (ms0_0 t).view ((hs0_0 t).unread (iblk m c 0 t)))
        (funext fun a => by match a with | 0 => exact Subsingleton.elim (α := Fin 1) _ _ | 1 => exact Subsingleton.elim (α := Fin 1) _ _)
    have e2 : ∀ inb (j : Fin 512) (l : Fin 128), View.readAt (Elt Ideal) (ms0_2 t).view
        (Rect.unit (s := S1x512x128) ![0, 0, 0] ![1, 512, 128] inb).toLoadRect ((hs0_2 t).unread (iblk m c 2 t)) (ix3 0 j l)
        = (iblk m c 2 t : Vec Ideal S1x512x128 .bf16) (ix3 0 j l) := fun inb j l => by
      rw [← congrFun ((hs0_2 t).read_unread (iblk m c 2 t)) (ix3 0 j l)]
      exact rd _ _ _ _ _ _ inb rfl _ _ _ _ _ _ rfl (by omega) (by omega)
    have e3 : ∀ (h : Fin 2) (o : ℕ) (ho : o = 80 * h.val) inb (d : Fin 80) (j : Fin 512), View.readAt (Elt Ideal) (ms0_3 t).view
        (Rect.unit (s := S1x160x512) ![0, o, 0] ![1, 80, 512] inb).toLoadRect ((hs0_3 t).unread (iblk m c 3 t)) (ix3 0 d j)
        = (iblk m c 3 t : Vec Ideal S1x160x512 .bf16) (ix3 0 (vrow h d) j) := fun h o ho inb d j => by
      rw [← congrFun ((hs0_3 t).read_unread (iblk m c 3 t)) (ix3 0 (vrow h d) j)]
      exact rd _ _ _ _ _ _ inb rfl _ _ _ _ _ _ rfl (by show 80 * h.val + d.val = o + d.val; omega) (by omega)
    have e9 : ∀ LQ, (View.whole cc0_scratch0).writes (Elt Ideal) (View.whole cc0_scratch0).junk LQ = Q → ∀ (hn : ℕ) (h : Fin 2) (e : hn = h.val) inb (q : Fin 4096) (l : Fin 128),
        (View.whole cc0_scratch0).readCov (Val := Elt Ideal) LQ (Rect.unit (s := S2x4096x128) ![hn, 0, 0] ![1, 4096, 128] inb).toLoadRect (ix3 0 q l)
          = rq Q h q l := fun LQ hL hn h e inb q l => by
      subst hL
      exact rd _ _ _ _ _ _ inb rfl _ _ _ _ _ _ (by omega) (by omega) (by omega)
    have erq : rq Q h q = qrow (iblk m c 1 t) h q := funext (eQ h q)
    rw [erq, e0]
    unfold accv
    refine congrArg (fun z : EReal => z + _ + _ + _ + _) ?_
    rw [← hG]
    unfold racc
    clear hG
    match h with
    | 0 =>
      rw [View.read_writes_cons_unit_of_not_mem _ _ _ _ _ _ rfl 0 (by left; exact Nat.zero_lt_one)]
      rw [View.read_writes_cons_unit_of_mem _ _ _ _ _ _ (ix3 0 d q) rfl (fun a => by match a with | 0 => rfl | 1 => (show (d:ℕ) = 0 + d; omega) | 2 => (show (q:ℕ) = 0 + q; omega))]
      pointwise [k0_pay22]
      simp only [e0, e2, e3 0 0 rfl, e9 _ hQ 0 0 rfl, eQ]
      rfl
    | 1 =>
      rw [View.read_writes_cons_unit_of_mem _ _ _ _ _ _ (ix3 0 d q) rfl (fun a => by match a with | 0 => rfl | 1 => (show (d:ℕ) = 0 + d; omega) | 2 => (show (q:ℕ) = 0 + q; omega))]
      pointwise [k0_pay23]
      simp only [e0, e2, e3 1 80 rfl, e9 _ hQ 1 1 rfl, eQ]
      rfl
  clear hQ hG hL
  frame_out
  rw [← eL, ← eL]
  clear eL eQ e1
  have hg := g.isLt
  have hh := h.isLt
  have hd := d.isLt
  canon_tiles x hx
  all_goals
    idx_vars x
    obtain rfl : x0 = 0 := Subsingleton.elim _ _
    obtain rfl : r = x1 := Fin.ext hx1
    replace hx2 : 128 * g.val + 64 * h.val + d.val = _ := hx2
  · exact piece_out L _ _ _ g h d r x2 (by omega) (by omega)
  · exact piece_out L _ _ _ g h d r x2 (by omega) (by omega)
  · exact piece_out L _ _ _ g h d r x2 (by omega) (by omega)
  · exact piece_out L _ _ _ g h d r x2 (by omega) (by omega)
end Cert.KernelIdeal.Att
-- ==== Proof.AttnReads.lean ====
module

public import proofs.«01_k».proof.Proof.AttnBlock

/-!
The blocks the attention kernel reads, in the arrays of the program's arguments.
-/

@[expose] public section

set_option maxRecDepth 16384

noncomputable section

open Idealize.ShloMosaic Idealize.ShloMosaic.TcCoe Idealize.SL.Sem
open Idealize.ShloMosaic.Pipeline (Dat)

namespace Cert.KernelIdeal.Att
open Cert.KernelIdeal Cert.KernelIdeal.Gen

variable (m : (ℓ : Loc nD τ sig) → Buf (Elt Ideal) ℓ)

theorem idx : ∀ t : Fin cfg0.N, win0_0.index t = ![0, 0] ∧ win0_1.index t = ![t.val / 4, t.val % 4, 0]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val / 4, t.val % 4, 0] :=
  (by decide +kernel : ∀ t : Fin grid0.N, _)

/-- The sample a grid point works on. -/
def smp (t : Fin cfg0.N) : Fin 8 := ⟨t.val / 4, by have : t.val < 32 := lt_of_lt_of_eq t.isLt (by decide); omega⟩

/-- Row `r` of the row block a grid point works on. -/
def row (t : Fin cfg0.N) (r : Fin 1024) : Fin 4096 := ⟨t.val % 4 * 1024 + r.val, by omega⟩

/-- The query head of pair `g` that reads key head `h`. -/
def qhead (g : Fin 4) (h : Fin 2) : Fin 8 := ⟨4 * h.val + g.val, by omega⟩

/-- The lane of key head `h`, coordinate `d`. -/
def klane (h : Fin 2) (d : Fin 64) : Fin 128 := ⟨64 * h.val + d.val, by omega⟩

theorem read0 (c : Dev nD) (t : Fin cfg0.N) : (iblk m c 0 t (ix2 0 0) : EReal)
    = m ((c.tc : Thread nD τ).loc main_arg5) (ix1 0) := by
  have ht : t.val < 32 := lt_of_lt_of_eq t.isLt (by decide)
  blk_point [iblk, V, idx t]

theorem read1 (c : Dev nD) (t : Fin cfg0.N) (r : Fin 1024) (g : Fin 4) (h : Fin 2) (d : Fin 64) :
    (iblk m c 1 t (ix3 0 r (lane g h d)) : EReal)
    = m ((c.tc : Thread nD τ).loc main_arg0) (ix4 (smp t) (row t r) (qhead g h) d) := by
  have ht : t.val < 32 := lt_of_lt_of_eq t.isLt (by decide)
  blk_point [iblk, V, idx t, smp, row, qhead, lane]

theorem read2 (c : Dev nD) (t : Fin cfg0.N) (j : Fin 512) (h : Fin 2) (d : Fin 64) :
    (iblk m c 2 t (ix3 0 j (klane h d)) : EReal)
    = m ((c.tc : Thread nD τ).loc main_arg3) (ix4 (smp t) j h d) := by
  have ht : t.val < 32 := lt_of_lt_of_eq t.isLt (by decide)
  blk_point [iblk, V, idx t, smp, klane]

theorem read4 (c : Dev nD) (t : Fin cfg0.N) (j : Fin 4096) (h : Fin 2) (d : Fin 64) :
    (iblk m c 4 t (ix3 0 j (klane h d)) : EReal)
    = m ((c.tc : Thread nD τ).loc main_arg1) (ix4 (smp t) j h d) := by
  have ht : t.val < 32 := lt_of_lt_of_eq t.isLt (by decide)
  blk_point [iblk, V, idx t, smp, klane]

/-- The stacked value rows of `512` keys: per head its 64 coordinates, then ones. -/
def stack3 (x : FVec Ideal S8x512x2x64 .f32) : FVec Ideal S8x160x512 .bf16 :=
  shapeCast S8x160x512 (concatenate S8x2x80x512 2 [⟨S8x2x64x512, truncf .bf16 (transpose S8x2x64x512 [0, 2, 3, 1] x transposes_S8x512x2x64_S8x2x64x512_0_2_3_1) bitsLt_bf16_f32⟩,
    ⟨S8x2x16x512, broadcastInDim S8x2x16x512 ![] bcast_S_S8x2x16x512 (constant S_ .bf16 0x3F80#16)⟩] concatenates_S8x2x64x512_S8x2x16x512_S8x2x80x512_d2)
    shapeCasts_S8x2x80x512_S8x160x512

theorem V3 (c : Dev nD) : (V m c main_v11 : FVec Ideal S8x160x512 .bf16) = stack3 (m ((c.tc : Thread nD τ).loc main_arg4)) := by
  unfold V hostOps0 stack3
  after_results <;> rfl

theorem stack3_at (x : FVec Ideal S8x512x2x64 .f32) (b : Fin 8) (h : Fin 2) (d : Fin 80) (j : Fin 512) :
    (stack3 x (ix3 b (vrow h d) j) : EReal) = if hd : d.val < 64 then x (ix4 b j h ⟨d.val, hd⟩) else 1 := by
  unfold vrow
  pointwise [stack3]

theorem blk3 (c : Dev nD) (t : Fin cfg0.N) (r : Fin 160) (j : Fin 512) :
    (iblk m c 3 t (ix3 0 r j) : EReal) = stack3 (m ((c.tc : Thread nD τ).loc main_arg4)) (ix3 (smp t) r j) := by
  have ht : t.val < 32 := lt_of_lt_of_eq t.isLt (by decide)
  rw [← V3]
  refine congrArg (V m c main_v11) ?_
  blk_ext [idx t, smp]

theorem read3 (c : Dev nD) (t : Fin cfg0.N) (j : Fin 512) (h : Fin 2) (d : Fin 64) :
    (iblk m c 3 t (ix3 0 (vrow h ⟨d.val, by omega⟩) j) : EReal) = m ((c.tc : Thread nD τ).loc main_arg4) (ix4 (smp t) j h d) :=
  (blk3 m c t _ j).trans ((stack3_at _ _ h ⟨d.val, by omega⟩ j).trans (dif_pos d.isLt))

theorem ones3 (c : Dev nD) (t : Fin cfg0.N) (j : Fin 512) (h : Fin 2) : (iblk m c 3 t (ix3 0 (vrow h 64) j) : EReal) = (1 : EReal) :=
  (blk3 m c t _ j).trans ((stack3_at _ _ h 64 j).trans (dif_neg (by decide)))

/-- The stacked value rows of `4096` keys: per head its 64 coordinates, then ones. -/
def stack5 (x : FVec Ideal S8x4096x2x64 .f32) : FVec Ideal S8x160x4096 .bf16 :=
  shapeCast S8x160x4096 (concatenate S8x2x80x4096 2 [⟨S8x2x64x4096, truncf .bf16 (transpose S8x2x64x4096 [0, 2, 3, 1] x transposes_S8x4096x2x64_S8x2x64x4096_0_2_3_1) bitsLt_bf16_f32⟩,
    ⟨S8x2x16x4096, broadcastInDim S8x2x16x4096 ![] bcast_S_S8x2x16x4096 (constant S_ .bf16 0x3F80#16)⟩] concatenates_S8x2x64x4096_S8x2x16x4096_S8x2x80x4096_d2)
    shapeCasts_S8x2x80x4096_S8x160x4096

theorem V5 (c : Dev nD) : (V m c main_v16 : FVec Ideal S8x160x4096 .bf16) = stack5 (m ((c.tc : Thread nD τ).loc main_arg2)) := by
  unfold V hostOps0 stack5
  after_results <;> rfl

theorem stack5_at (x : FVec Ideal S8x4096x2x64 .f32) (b : Fin 8) (h : Fin 2) (d : Fin 80) (j : Fin 4096) :
    (stack5 x (ix3 b (vrow h d) j) : EReal) = if hd : d.val < 64 then x (ix4 b j h ⟨d.val, hd⟩) else 1 := by
  unfold vrow
  pointwise [stack5]

theorem blk5 (c : Dev nD) (t : Fin cfg0.N) (r : Fin 160) (j : Fin 4096) :
    (iblk m c 5 t (ix3 0 r j) : EReal) = stack5 (m ((c.tc : Thread nD τ).loc main_arg2)) (ix3 (smp t) r j) := by
  have ht : t.val < 32 := lt_of_lt_of_eq t.isLt (by decide)
  rw [← V5]
  refine congrArg (V m c main_v16) ?_
  blk_ext [idx t, smp]

theorem read5 (c : Dev nD) (t : Fin cfg0.N) (j : Fin 4096) (h : Fin 2) (d : Fin 64) :
    (iblk m c 5 t (ix3 0 (vrow h ⟨d.val, by omega⟩) j) : EReal) = m ((c.tc : Thread nD τ).loc main_arg2) (ix4 (smp t) j h d) :=
  (blk5 m c t _ j).trans ((stack5_at _ _ h ⟨d.val, by omega⟩ j).trans (dif_pos d.isLt))

theorem ones5 (c : Dev nD) (t : Fin cfg0.N) (j : Fin 4096) (h : Fin 2) : (iblk m c 5 t (ix3 0 (vrow h 64) j) : EReal) = (1 : EReal) :=
  (blk5 m c t _ j).trans ((stack5_at _ _ h 64 j).trans (dif_neg (by decide)))
end Cert.KernelIdeal.Att
-- ==== Proof.AttnRef.lean ====
module

public import proofs.«01_k».proof.Proof.Gen.ReferenceIdeal.Run
public import Idealize.ShloMosaic.Lib.Pipeline.ValueKit
public import Idealize.ShloMosaic.Lib.Pipeline.ReadBack
public import Idealize.ShloMosaic.Lib.Pointwise
public import Idealize.ShloMosaic.Lib.Claim

/-!
The attention reference's result at an index: the softmax average over the joined keys.
-/

@[expose] public section

set_option maxRecDepth 16384

noncomputable section

open Idealize.ShloMosaic Idealize.ShloMosaic.TcCoe Idealize.SL.Sem
open Idealize.ShloMosaic.Pipeline (Dat)

namespace Cert.ReferenceIdeal.Att
open Cert.ReferenceIdeal Cert.ReferenceIdeal.Gen

/-- The cached rows, then the new ones. -/
def refK (ck : FVec Ideal S8x512x2x64 .f32) (k : FVec Ideal S8x4096x2x64 .f32) : FVec Ideal S8x4608x2x64 .f32 :=
  (concatenate S8x4608x2x64 1 [⟨S8x512x2x64, ck⟩, ⟨S8x4096x2x64, k⟩] concatenates_S8x512x2x64_S8x4096x2x64_S8x4608x2x64_d1)

/-- The scaled scores. -/
def refS (q : FVec Ideal S8x4096x8x64 .f32) (ck : FVec Ideal S8x512x2x64 .f32) (k : FVec Ideal S8x4096x2x64 .f32) : FVec Ideal S8x2x4x4096x4608 .f32 :=
  (mulf (transpose S8x2x4x4096x4608 [0, 1, 4, 3, 2] (Host.dotGeneral dot_S8x4608x2x64_S8x4096x2x4x64_S8x2x4608x4096x4_3_4_1_13_02_02 none (refK ck k) (shapeCast _ q shapeCasts_S8x4096x8x64_S8x4096x2x4x64)) transposes_S8x2x4608x4096x4_S8x2x4x4096x4608_0_1_4_3_2) (broadcastInDim S8x2x4x4096x4608 ![] bcast_S_S8x2x4x4096x4608 (constant S_ .f32 0x3E000000#32)))

/-- The largest score of a row. -/
def refM (s : FVec Ideal S8x2x4x4096x4608 .f32) : FVec Ideal S8x2x4x4096 .f32 :=
  (maximumf (broadcastInDim S8x2x4x4096 ![] bcast_S_S8x2x4x4096 (constant S_ .f32 0xFF800000#32)) (Host.reduce FloatOps.maximumf s (constant S_ .f32 0xFF800000#32) reducesTo_S8x2x4x4096x4608_S8x2x4x4096_d4 h_S_))

/-- The exponentials of the scores less the row's largest. -/
def refE (s : FVec Ideal S8x2x4x4096x4608 .f32) : FVec Ideal S8x2x4x4096x4608 .f32 :=
  (Host.exp (subf s (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (refM s)))))

/-- The weights. -/
def refP (s : FVec Ideal S8x2x4x4096x4608 .f32) : FVec Ideal S8x2x4x4096x4608 .f32 :=
  (Host.divf (refE s) (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (Host.reduceAdd (refE s) (constant S_ .f32 0x00000000#32) reducesTo_S8x2x4x4096x4608_S8x2x4x4096_d4 h_S_))))

/-- The result. -/
def refZ (q : FVec Ideal S8x4096x8x64 .f32) (k v : FVec Ideal S8x4096x2x64 .f32) (ck cv : FVec Ideal S8x512x2x64 .f32) : FVec Ideal S8x4096x512 .bf16 :=
  truncf .bf16 (shapeCast _ (transpose S8x4096x4x2x64 [0, 1, 3, 2, 4] (transpose S8x4096x2x4x64 [0, 4, 1, 3, 2] (Host.dotGeneral dot_S8x4608x2x64_S8x2x4x4096x4608_S8x2x64x4x4096_1_4_3_23_02_01 none (refK cv v) (refP (refS q ck k))) transposes_S8x2x64x4x4096_S8x4096x2x4x64_0_4_1_3_2) transposes_S8x4096x2x4x64_S8x4096x4x2x64_0_1_3_2_4) shapeCasts_S8x4096x4x2x64_S8x4096x512) bitsLt_bf16_f32

/-- The joined row. -/
def cat {α : Type} (a : Fin 512 → α) (b : Fin 4096 → α) (j : Fin 4608) : α := if h : j.val < 512 then a ⟨j.val, h⟩ else b ⟨j.val - 512, by omega⟩

theorem refK_at (ck : FVec Ideal S8x512x2x64 .f32) (k : FVec Ideal S8x4096x2x64 .f32) (b : Fin 8) (j : Fin 4608) (h : Fin 2) (d : Fin 64) :
    (refK ck k (ix4 b j h d) : EReal) = cat (fun j => (ck (ix4 b j h d) : EReal)) (fun j => (k (ix4 b j h d) : EReal)) j := by
  pointwise [refK]
  rfl

theorem refS_at (q : FVec Ideal S8x4096x8x64 .f32) (ck : FVec Ideal S8x512x2x64 .f32) (k : FVec Ideal S8x4096x2x64 .f32) (b : Fin 8) (h : Fin 2) (g : Fin 4) (n : Fin 4096) (j : Fin 4608) :
    (refS q ck k (ix5 b h g n j) : EReal) = (∑ d : Fin 64, (refK ck k (ix4 b j h d) : EReal) * q (ix4 b n ⟨h.val * 4 + g.val, by omega⟩ d)) * Ideal.ofBits .f32 0x3E000000#32 := by
  pointwise [refS]

/-- A value that is a real number. -/
def IsR (x : EReal) : Prop := ∃ r : ℝ, x = (r : EReal)

theorem fold_max_isR {ι : Type} (S : Finset ι) (f : ι → EReal) (hf : ∀ i, IsR (f i)) (hS : S.Nonempty) :
    IsR (Finset.fold max (⊥ : EReal) f S) := by
  classical
  induction S using Finset.induction_on with
  | empty => exact absurd hS (by simp)
  | insert a S ha ih =>
    rw [Finset.fold_insert ha]
    obtain ⟨r, hr⟩ := hf a
    rcases S.eq_empty_or_nonempty with rfl | hS'
    · exact ⟨r, by rw [Finset.fold_empty, hr]; exact max_eq_left bot_le⟩
    · obtain ⟨r', hr'⟩ := ih hS'
      exact ⟨max r r', by rw [hr, hr']; exact (EReal.coe_strictMono.monotone.map_max).symm⟩

theorem reduce_isR {n0 n1 n2 n3 n4 : ℕ} {t u : Shape} (h : (⟨5, ![n0, n1, n2, n3, n4]⟩ : Shape).ReducesTo [4] t) (hu : 0 < u.numel) (hn : 0 < n4)
    (x : FVec Ideal (⟨5, ![n0, n1, n2, n3, n4]⟩ : Shape) .f32) (v : FVec Ideal u .f32) (hx : ∀ i, IsR (x i)) (hv : ∀ i, (v i : EReal) = ⊥) (j : t.Idx) :
    IsR (Host.reduce (FloatOps.maximumf (F := Ideal) (φ := .f32)) x v h hu j) := by
  pointwise
  rw [hv]
  exact fold_max_isR _ _ (fun i => hx _) ⟨⟨0, hn⟩, Finset.mem_univ _⟩

theorem refM_isR (s : FVec Ideal S8x2x4x4096x4608 .f32) (hs : ∀ i, IsR (s i)) (i : S8x2x4x4096.Idx) : IsR (refM s i) := by
  unfold refM
  rw [ValueIdx.maximumf_apply]
  have e : ∀ i, (constant S_ .f32 0xFF800000#32 : FVec Ideal S_ .f32) i = (⊥ : EReal) := fun i => by
    pointwise
    simp [Ideal.ofBits, Ideal.ieee]
  obtain ⟨r, hr⟩ := reduce_isR reducesTo_S8x2x4x4096x4608_S8x2x4x4096_d4 h_S_ (by omega) s (constant S_ .f32 0xFF800000#32) hs e i
  rw [hr]
  have hb : (broadcastInDim S8x2x4x4096 ![] bcast_S_S8x2x4x4096 (constant S_ .f32 0xFF800000#32 : FVec Ideal S_ .f32) i : EReal) = ⊥ := e _
  exact ⟨r, by rw [hb]; exact max_eq_right bot_le⟩

theorem refE_at (s : FVec Ideal S8x2x4x4096x4608 .f32) (b : Fin 8) (h : Fin 2) (g : Fin 4) (n : Fin 4096) (j : Fin 4608) :
    (refE s (ix5 b h g n j) : EReal) = Ideal.exp ((s (ix5 b h g n j) : EReal) - refM s (ix4 b h g n)) := by
  pointwise [refE]

theorem refP_at (s : FVec Ideal S8x2x4x4096x4608 .f32) (b : Fin 8) (h : Fin 2) (g : Fin 4) (n : Fin 4096) (j : Fin 4608) :
    (refP s (ix5 b h g n j) : EReal) = Ideal.div (refE s (ix5 b h g n j) : EReal) (∑ j, (refE s (ix5 b h g n j) : EReal)) := by
  pointwise [refP]

theorem refZ_at (q : FVec Ideal S8x4096x8x64 .f32) (k v : FVec Ideal S8x4096x2x64 .f32) (ck cv : FVec Ideal S8x512x2x64 .f32) (b : Fin 8) (h : Fin 2) (g : Fin 4) (n : Fin 4096) (d : Fin 64) :
    (refZ q k v ck cv (ix3 b n ⟨128 * g.val + 64 * h.val + d.val, by omega⟩) : EReal) = ∑ j : Fin 4608, (refK cv v (ix4 b j h d) : EReal) * (refP (refS q ck k) (ix5 b h g n j) : EReal) := by
  pointwise [refZ]
end Cert.ReferenceIdeal.Att
-- ==== Proof.Softmax.lean ====
module

public import Idealize.ShloMosaic.Lib.Pointwise
public import Idealize.ShloMosaic.Lib.Claim

/-!
The softmax average in the extended reals: powers of two of shifted scores, divided by their sum, are the softmax weights.
-/

@[expose] public section

set_option maxRecDepth 16384

noncomputable section

open Idealize.ShloMosaic Idealize.ShloMosaic.TcCoe Idealize.SL.Sem
open Idealize.ShloMosaic.Pipeline (Dat)

namespace Cert.Soft
open Idealize.ShloMosaic

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem sum_mul_coe {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

theorem soft {ι : Type} [Fintype ι] [Nonempty ι] (v : ι → EReal) (E e : ι → ℝ) (c : ℝ) (hc : 0 < c) (hE : ∀ j, E j = e j * c) (he : ∀ j, 0 < e j) :
    Ideal.div (∑ j, v j * (E j : EReal)) (∑ j, (1 : EReal) * (E j : EReal))
      = ∑ j, v j * Ideal.div (e j : EReal) (∑ j, (e j : EReal)) := by
  have hs : 0 < ∑ j, e j := Finset.sum_pos (fun j _ => he j) Finset.univ_nonempty
  have hS : ∑ j, E j = (∑ j, e j) * c := by rw [Finset.sum_mul]; exact Finset.sum_congr rfl fun j _ => hE j
  have hS0 : 0 < ∑ j, E j := by rw [hS]; exact mul_pos hs hc
  have e1 : (∑ j, (1 : EReal) * (E j : EReal)) = ((∑ j, E j : ℝ) : EReal) := by
    rw [coe_sum]; exact Finset.sum_congr rfl fun j _ => one_mul _
  rw [e1, Ideal.div_coe hS0.ne', sum_mul_coe _ _ _ (by positivity)]
  refine Finset.sum_congr rfl fun j _ => ?_
  rw [← coe_sum, Ideal.div_coe hs.ne', mul_assoc, ← EReal.coe_mul, ← EReal.coe_mul]
  congr 2
  rw [hS, hE]
  field_simp

/-- An eighth over the logarithm of two. -/
abbrev qc : ℝ := 8⁻¹ * (Real.log 2)⁻¹

theorem eighth : Ideal.ofBits .f32 0x3E000000#32 = ((8⁻¹ : ℝ) : EReal) := by
  simp [Ideal.ofBits, Ideal.ieee, -EReal.coe_mul]
  norm_num

theorem pow_exp (t σ M : ℝ) : Real.rpow 2 (t * qc - σ) = Real.exp (t * 8⁻¹ - M) * (Real.exp M * Real.rpow 2 (-σ)) := by
  have h2 : (0 : ℝ) < 2 := two_pos
  have hl : Real.log 2 ≠ 0 := (Real.log_pos one_lt_two).ne'
  show (2 : ℝ) ^ (t * qc - σ) = Real.exp (t * 8⁻¹ - M) * (Real.exp M * (2 : ℝ) ^ (-σ))
  rw [Real.rpow_def_of_pos h2, Real.rpow_def_of_pos h2, ← Real.exp_add, ← Real.exp_add]
  congr 1
  unfold qc
  field_simp
  ring

theorem soft_at {ι κ : Type} [Fintype ι] [Nonempty ι] [Fintype κ] (v : ι → EReal) (k : ι → κ → ℝ) (q : κ → ℝ) (σ M : ℝ) :
    Ideal.div (∑ j, v j * Ideal.exp2 ((∑ d, (k j d : EReal) * ((q d : EReal) * (qc : EReal))) - (σ : EReal)))
        (∑ j, (1 : EReal) * Ideal.exp2 ((∑ d, (k j d : EReal) * ((q d : EReal) * (qc : EReal))) - (σ : EReal)))
      = ∑ j, v j * Ideal.div (Ideal.exp ((∑ d, (k j d : EReal) * (q d : EReal)) * Ideal.ofBits .f32 0x3E000000#32 - (M : EReal)))
          (∑ j, Ideal.exp ((∑ d, (k j d : EReal) * (q d : EReal)) * Ideal.ofBits .f32 0x3E000000#32 - (M : EReal))) := by
  have a : ∀ j, Ideal.exp2 ((∑ d, (k j d : EReal) * ((q d : EReal) * (qc : EReal))) - (σ : EReal))
      = ((Real.rpow 2 ((∑ d, k j d * q d) * qc - σ) : ℝ) : EReal) := fun j => by
    have e : (∑ d, (k j d : EReal) * ((q d : EReal) * (qc : EReal))) = (((∑ d, k j d * q d) * qc : ℝ) : EReal) := by
      rw [Finset.sum_mul, coe_sum]
      exact Finset.sum_congr rfl fun d _ => by rw [← EReal.coe_mul, ← EReal.coe_mul, mul_assoc]
    rw [e, ← EReal.coe_sub, Ideal.exp2_coe]
  have b : ∀ j, Ideal.exp ((∑ d, (k j d : EReal) * (q d : EReal)) * Ideal.ofBits .f32 0x3E000000#32 - (M : EReal))
      = ((Real.exp ((∑ d, k j d * q d) * 8⁻¹ - M) : ℝ) : EReal) := fun j => by
    have e : (∑ d, (k j d : EReal) * (q d : EReal)) = ((∑ d, k j d * q d : ℝ) : EReal) := by
      rw [coe_sum]
      exact Finset.sum_congr rfl fun d _ => by rw [← EReal.coe_mul]
    rw [e, eighth, ← EReal.coe_mul, ← EReal.coe_sub, Ideal.exp_coe]
  simp only [a, b]
  exact soft v _ _ (Real.exp M * Real.rpow 2 (-σ)) (mul_pos (Real.exp_pos _) (Real.rpow_pos_of_pos two_pos _)) (fun j => pow_exp _ σ M) (fun j => Real.exp_pos _)
end Cert.Soft
-- ==== Proof.AttnValue.lean ====
module

public import proofs.«01_k».proof.Proof.AttnReads
public import proofs.«01_k».proof.Proof.AttnRef
public import proofs.«01_k».proof.Proof.Softmax

/-!
The attention kernel's result is the reference's.
-/

@[expose] public section

set_option maxRecDepth 16384

noncomputable section

open Idealize.ShloMosaic Idealize.ShloMosaic.TcCoe Idealize.SL.Sem
open Idealize.ShloMosaic.Pipeline (Dat)

namespace Cert.KernelIdeal.Att
open Cert.KernelIdeal Cert.KernelIdeal.Gen Cert.Soft
open Cert.ReferenceIdeal.Att (cat IsR refK refS refM refE refP refZ refK_at refS_at refM_isR refE_at refP_at refZ_at)

variable (m : (ℓ : Loc nD τ sig) → Buf (Elt Ideal) ℓ)

theorem cat_lo {α : Type} (a : Fin 512 → α) (b : Fin 4096 → α) (j : Fin 512) (h : j.val < 4608) : cat a b ⟨j.val, h⟩ = a j :=
  dif_pos j.isLt

theorem cat_hi {α : Type} (a : Fin 512 → α) (b : Fin 4096 → α) (j : Fin 4096) (h : 512 + j.val < 4608) : cat a b ⟨512 + j.val, h⟩ = b j := by
  have e : ¬ (512 + j.val < 512) := by omega
  refine (dif_neg e).trans (congrArg b (Fin.ext ?_))
  show 512 + j.val - 512 = j.val
  omega

theorem sum_cat (f : Fin 4608 → EReal) :
    ∑ j, f j = ∑ j : Fin 512, f ⟨j.val, by omega⟩ + ∑ j : Fin 4096, f ⟨512 + j.val, by omega⟩ :=
  Fin.sum_univ_add (a := 512) (b := 4096) f

theorem trip_eq (x4 : Vec Ideal S1x4096x128 .bf16) (x5 : Vec Ideal S1x160x4096 .bf16) (q : Fin 128 → EReal) (s : EReal)
    (h : Fin 2) (r : Fin 80) (i : Fin 4) (k : Fin k0_t1_loop.trips) (b : Fin 2) (e : i.val = 2 * k.val + b.val) :
    (∑ t : Fin 1024, (x5 (ix3 0 (vrow h r) ⟨i.val * 1024 + t.val, by omega⟩) : EReal)
      * Ideal.exp2 ((∑ l, (x4 (ix3 0 ⟨i.val * 1024 + t.val, by omega⟩ l) : EReal) * q l) - s)) = tripPart x4 x5 q s h r k b := by
  unfold tripPart part
  refine Finset.sum_congr rfl fun t _ => ?_
  have e' : (⟨i.val * 1024 + t.val, by omega⟩ : Fin 4096) = key k b t := Fin.ext (by show i.val * 1024 + t.val = 2048 * k.val + 1024 * b.val + t.val; omega)
  rw [e']
  rfl

theorem accv_sum (x0 : EReal) (x2 : Vec Ideal S1x512x128 .bf16) (x3 : Vec Ideal S1x160x512 .bf16) (x4 : Vec Ideal S1x4096x128 .bf16)
    (x5 : Vec Ideal S1x160x4096 .bf16) (h : Fin 2) (r : Fin 80) (q : Fin 128 → EReal) :
    accv x0 x2 x3 x4 x5 h r q = ∑ j : Fin 4608, cat (fun j => (x3 (ix3 0 (vrow h r) j) : EReal)) (fun j => (x5 (ix3 0 (vrow h r) j) : EReal)) j
      * Ideal.exp2 ((∑ l, cat (fun j => (x2 (ix3 0 j l) : EReal)) (fun j => (x4 (ix3 0 j l) : EReal)) j * q l) - x0) := by
  rw [sum_cat]
  simp only [cat_lo, cat_hi]
  rw [Fin.sum_univ_tiles 4 1024 rfl (fun j : Fin 4096 => (x5 (ix3 0 (vrow h r) j) : EReal) * Ideal.exp2 ((∑ l, (x4 (ix3 0 j l) : EReal) * q l) - x0)),
    Fin.sum_univ_four]
  rw [trip_eq x4 x5 q x0 h r 0 ⟨0, by rw [trips_eq]; omega⟩ 0 rfl, trip_eq x4 x5 q x0 h r 1 ⟨0, by rw [trips_eq]; omega⟩ 1 rfl,
    trip_eq x4 x5 q x0 h r 2 ⟨1, by rw [trips_eq]; omega⟩ 0 rfl, trip_eq x4 x5 q x0 h r 3 ⟨1, by rw [trips_eq]; omega⟩ 1 rfl]
  unfold accv
  rw [← add_assoc, ← add_assoc, ← add_assoc]
  rfl

/-- A score over the 128 lanes is the score over the head's 64. -/
theorem score_lanes (K : Fin 128 → EReal) (x1 : Vec Ideal S1x1024x512 .f32) (h : Fin 2) (g : Fin 4) (r : Fin 1024) :
    ∑ l, K l * qrow x1 h (qi g r) l = ∑ d : Fin 64, K (klane h d) * ((x1 (ix3 0 r (lane g h d)) : EReal) * qs) := by
  have e : ∀ (h' : Fin 2) (d : Fin 64), K ⟨h'.val * 64 + d.val, by omega⟩ * qrow x1 h (qi g r) ⟨h'.val * 64 + d.val, by omega⟩
      = if h' = h then K (klane h d) * ((x1 (ix3 0 r (lane g h d)) : EReal) * qs) else 0 := by
    intro h' d
    unfold qrow
    by_cases hh : h' = h
    · subst hh
      have c : (⟨h'.val * 64 + d.val, by omega⟩ : Fin 128).val / 64 = h'.val := by show (h'.val * 64 + d.val) / 64 = h'.val; omega
      rw [if_pos c, if_pos rfl]
      have a1 : (⟨h'.val * 64 + d.val, by omega⟩ : Fin 128) = klane h' d := Fin.ext (by show h'.val * 64 + d.val = 64 * h'.val + d.val; omega)
      have a2 : (⟨(qi g r).val % 1024, by omega⟩ : Fin 1024) = r := Fin.ext (by show (1024 * g.val + r.val) % 1024 = r.val; omega)
      have a3 : (⟨128 * ((qi g r).val / 1024) + (klane h' d).val, by have := (qi g r).isLt; have := (klane h' d).isLt; omega⟩ : Fin 512) = lane g h' d :=
        Fin.ext (by show 128 * ((1024 * g.val + r.val) / 1024) + (64 * h'.val + d.val) = 128 * g.val + 64 * h'.val + d.val; omega)
      rw [a1, a2]
      exact congrArg (fun z => K (klane h' d) * ((x1 (ix3 0 r z) : EReal) * qs)) a3
    · have c : ¬ (⟨h'.val * 64 + d.val, by omega⟩ : Fin 128).val / 64 = h.val := by
        show ¬ (h'.val * 64 + d.val) / 64 = h.val
        intro c; exact hh (Fin.ext (by omega))
      rw [if_neg c, if_neg hh, mul_zero]
  rw [Fin.sum_univ_tiles 2 64 rfl (fun l : Fin 128 => K l * qrow x1 h (qi g r) l)]
  simp only [e]
  rw [Fin.sum_univ_two]
  match h with
  | 0 => simp
  | 1 => simp

theorem qs_eq : qs = ((qc : ℝ) : EReal) := IdealRules.named_const.ideal_named_scalar _ _ _ _ rfl
end Cert.KernelIdeal.Att
-- ==== Proof.AttnFinal.lean ====
module

public import proofs.«01_k».proof.Proof.AttnValue

/-!
The attention kernel's array is the reference's, for real queries, keys and shift.
-/

@[expose] public section

set_option maxRecDepth 16384

noncomputable section

open Idealize.ShloMosaic Idealize.ShloMosaic.TcCoe Idealize.SL.Sem
open Idealize.ShloMosaic.Pipeline (Dat)

namespace Cert.KernelIdeal.Att
open Cert.KernelIdeal Cert.KernelIdeal.Gen Cert.Soft
open Cert.ReferenceIdeal.Att (cat IsR refK refS refM refE refP refZ refK_at refS_at refM_isR refE_at refP_at refZ_at)

variable (m : (ℓ : Loc nD τ sig) → Buf (Elt Ideal) ℓ)

theorem isR_mul {x y : EReal} (hx : IsR x) (hy : IsR y) : IsR (x * y) := by
  obtain ⟨a, rfl⟩ := hx
  obtain ⟨b, rfl⟩ := hy
  exact ⟨a * b, (EReal.coe_mul a b).symm⟩

theorem isR_sum {ι : Type} (S : Finset ι) (f : ι → EReal) (hf : ∀ i, IsR (f i)) : IsR (∑ i ∈ S, f i) := by
  choose g hg using hf
  refine ⟨∑ i ∈ S, g i, ?_⟩
  rw [coe_sum]
  exact Finset.sum_congr rfl fun i _ => hg i

theorem isR_cat (a : Fin 512 → EReal) (b : Fin 4096 → EReal) (ha : ∀ j, IsR (a j)) (hb : ∀ j, IsR (b j)) (j : Fin 4608) : IsR (cat a b j) := by
  unfold cat
  split
  · exact ha _
  · exact hb _

theorem cat_one (j : Fin 4608) : cat (fun _ => (1 : EReal)) (fun _ => (1 : EReal)) j = 1 := by
  unfold cat
  split <;> rfl

section Scores
variable (q : FVec Ideal S8x4096x8x64 .f32) (ck : FVec Ideal S8x512x2x64 .f32) (k : FVec Ideal S8x4096x2x64 .f32)
  (hq : ∀ i, IsR (q i)) (hk : ∀ i, IsR (k i)) (hck : ∀ i, IsR (ck i))
include hk hck

theorem refK_isR (b : Fin 8) (j : Fin 4608) (h : Fin 2) (d : Fin 64) : IsR (refK ck k (ix4 b j h d)) := by
  rw [refK_at]
  exact isR_cat _ _ (fun j => hck _) (fun j => hk _) j

include hq

theorem refS_isR (i : Cert.ReferenceIdeal.S8x2x4x4096x4608.Idx) : IsR (refS q ck k i) := by
  idx_vars i
  rw [refS_at]
  exact isR_mul (isR_sum _ _ fun d => isR_mul (refK_isR ck k hk hck _ _ _ _) (hq _)) ⟨_, eighth⟩

end Scores

/-- The quotient of a query row's two accumulators is the reference's, whatever blocks hold the arrays' values. -/
theorem core (q : FVec Ideal S8x4096x8x64 .f32) (k v : FVec Ideal S8x4096x2x64 .f32) (ck cv : FVec Ideal S8x512x2x64 .f32)
    (hq : ∀ i, IsR (q i)) (hk : ∀ i, IsR (k i)) (hck : ∀ i, IsR (ck i))
    (x0 : EReal) (hx0 : IsR x0) (x1 : Vec Ideal S1x1024x512 .f32) (x2 : Vec Ideal S1x512x128 .bf16) (x3 : Vec Ideal S1x160x512 .bf16)
    (x4 : Vec Ideal S1x4096x128 .bf16) (x5 : Vec Ideal S1x160x4096 .bf16)
    (b : Fin 8) (n : Fin 4096) (h : Fin 2) (g : Fin 4) (r : Fin 1024) (d : Fin 64)
    (r1 : ∀ d, (x1 (ix3 0 r (lane g h d)) : EReal) = q (ix4 b n (qhead g h) d))
    (r2 : ∀ j d, (x2 (ix3 0 j (klane h d)) : EReal) = ck (ix4 b j h d))
    (r3 : ∀ j, (x3 (ix3 0 (vrow h ⟨d.val, by omega⟩) j) : EReal) = cv (ix4 b j h d))
    (r4 : ∀ j d, (x4 (ix3 0 j (klane h d)) : EReal) = k (ix4 b j h d))
    (r5 : ∀ j, (x5 (ix3 0 (vrow h ⟨d.val, by omega⟩) j) : EReal) = v (ix4 b j h d))
    (o3 : ∀ j, (x3 (ix3 0 (vrow h 64) j) : EReal) = 1) (o5 : ∀ j, (x5 (ix3 0 (vrow h 64) j) : EReal) = 1) :
    Ideal.div (accv x0 x2 x3 x4 x5 h ⟨d.val, by omega⟩ (qrow x1 h (qi g r))) (accv x0 x2 x3 x4 x5 h 64 (qrow x1 h (qi g r)))
      = refZ q k v ck cv (ix3 b n (lane g h d)) := by
  have hSR := refS_isR q ck k hq hk hck
  obtain ⟨M, hM⟩ := refM_isR _ hSR (ix4 b h g n)
  obtain ⟨σ, rfl⟩ := hx0
  choose kr hkr using fun (j : Fin 4608) (d : Fin 64) => refK_isR ck k hk hck b j h d
  choose qr hqr using fun (d : Fin 64) => hq (ix4 b n (qhead g h) d)
  have hv : ∀ j, cat (fun j => (x3 (ix3 0 (vrow h ⟨d.val, by omega⟩) j) : EReal)) (fun j => (x5 (ix3 0 (vrow h ⟨d.val, by omega⟩) j) : EReal)) j
      = refK cv v (ix4 b j h d) := by
    intro j
    rw [refK_at]
    simp only [r3, r5]
  have ho : ∀ j, cat (fun j => (x3 (ix3 0 (vrow h 64) j) : EReal)) (fun j => (x5 (ix3 0 (vrow h 64) j) : EReal)) j = 1 := by
    intro j
    simp only [o3, o5]
    exact cat_one j
  have hsc : ∀ j, (∑ l, cat (fun j => (x2 (ix3 0 j l) : EReal)) (fun j => (x4 (ix3 0 j l) : EReal)) j * qrow x1 h (qi g r) l)
      = ∑ d, (kr j d : EReal) * ((qr d : EReal) * ((qc : ℝ) : EReal)) := by
    intro j
    refine (score_lanes (fun l => cat (fun j => (x2 (ix3 0 j l) : EReal)) (fun j => (x4 (ix3 0 j l) : EReal)) j) _ h g r).trans ?_
    refine Finset.sum_congr rfl fun d _ => ?_
    rw [r1, qs_eq, hqr, ← hkr, refK_at]
    simp only [r2, r4]
  rw [accv_sum, accv_sum]
  simp only [hv, ho, hsc]
  refine (soft_at _ kr qr σ M).trans ?_
  refine Eq.trans ?_ (refZ_at q k v ck cv b h g n d).symm
  have hE : ∀ j, Ideal.exp ((∑ d, (kr j d : EReal) * (qr d : EReal)) * Ideal.ofBits .f32 0x3E000000#32 - (M : EReal))
      = refE (refS q ck k) (ix5 b h g n j) := by
    intro j
    rw [refE_at, refS_at, hM]
    refine congrArg (fun z => Ideal.exp (z * Ideal.ofBits .f32 0x3E000000#32 - (M : EReal))) ?_
    refine Finset.sum_congr rfl fun d _ => ?_
    rw [hkr, ← hqr]
    refine congrArg (fun z => (kr j d : EReal) * (q (ix4 b n z d) : EReal)) ?_
    exact Fin.ext (by show 4 * h.val + g.val = h.val * 4 + g.val; omega)
  simp only [hE]
  refine Finset.sum_congr rfl fun j _ => ?_
  rw [refP_at]

theorem final_at (c : Dev nD) (t : Fin cfg0.N) (r : Fin 1024) (g : Fin 4) (h : Fin 2) (d : Fin 64)
    (hq : ∀ i, IsR (m ((c.tc : Thread nD τ).loc main_arg0) i)) (hk : ∀ i, IsR (m ((c.tc : Thread nD τ).loc main_arg1) i))
    (hck : ∀ i, IsR (m ((c.tc : Thread nD τ).loc main_arg3) i)) (hs : ∀ i, IsR (m ((c.tc : Thread nD τ).loc main_arg5) i)) :
    (((dats m 0 c).after 6 t : Vec Ideal S1x1024x512 .bf16) (ix3 0 r (lane g h d)) : EReal)
      = refZ (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (ix3 (smp t) (row t r) (lane g h d)) := by
  refine (out_at m c t r g h d).trans ?_
  rw [read0]
  exact core _ _ _ _ _ hq hk hck _ (hs _) _ _ _ _ _ (smp t) (row t r) h g r d
    (fun d => read1 m c t r g h d) (fun j d => read2 m c t j h d) (fun j => read3 m c t j h d)
    (fun j d => read4 m c t j h d) (fun j => read5 m c t j h d) (fun j => ones3 m c t j h) (fun j => ones5 m c t j h)

theorem final (c : Dev nD)
    (hq : ∀ i, IsR (m ((c.tc : Thread nD τ).loc main_arg0) i)) (hk : ∀ i, IsR (m ((c.tc : Thread nD τ).loc main_arg1) i))
    (hck : ∀ i, IsR (m ((c.tc : Thread nD τ).loc main_arg3) i)) (hs : ∀ i, IsR (m ((c.tc : Thread nD τ).loc main_arg5) i)) :
    (dats m 0 c).arrAt 6 (cfgs 0).N
      = refZ (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 6 _ (by decide +kernel) fun t hf y => ?_
  blk_simp
  idx_vars y
  rw [Subsingleton.elim y0 0]
  have hl : y2 = lane ⟨y2.val / 128, by omega⟩ ⟨y2.val % 128 / 64, by omega⟩ ⟨y2.val % 64, by omega⟩ :=
    Fin.ext (by show y2.val = 128 * (y2.val / 128) + 64 * (y2.val % 128 / 64) + y2.val % 64; omega)
  have hj : ((View.whole main_v18).slice (win0_6.rect t)).emb (ix3 0 y1 y2) = (ix3 (smp t) (row t y1) y2 : S8x4096x512.Idx) := by
    blk_ext [idx t, smp, row]
  refine Eq.trans ?_ (congrArg _ hj.symm)
  rw [hl]
  exact final_at m c t y1 _ _ _ hq hk hck hs

/-- The run: the result is the array of the blocks, the arguments are as launched. -/
theorem run_blocks (ρ : Dev nD → PrngReg) : θ_run defs (onTc (τ := τ) (main (F := Ideal))) ⟨m, fun _ => 0, ρ⟩ fun r => ∀ c : Dev nD,
      r.2.mem ((c.tc : Thread nD τ).loc main_v18) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Att
-- ==== Proof.AttnPre.lean ====
module

public import proofs.«01_k».proof.Defs
public import proofs.«01_k».proof.Proof.AttnRef
public import Idealize.ShloMosaic.Lib.ReduceAll
public import Idealize.ShloMosaic.Lib.WordCmp

/-!
The precondition read back: the queries, the keys and the shift are real numbers.
-/

@[expose] public section

set_option maxRecDepth 16384

noncomputable section

open Idealize.ShloMosaic Idealize.ShloMosaic.TcCoe Idealize.SL.Sem

namespace Cert.Pre_finite.Att
open Cert.Pre_finite
open Cert.ReferenceIdeal.Att (IsR)

/-- The shape relations the predicate states. -/
theorem facts : Cert.Pre_finite.Facts where
  bcast_S_S8x4096x8x64 := by decide
  reducesTo_S8x4096x8x64_S_d0_1_2_3 := by decide
  h_S_ := by decide
  bcast_S_S8x4096x2x64 := by decide
  reducesTo_S8x4096x2x64_S_d0_1_2_3 := by decide
  bcast_S_S8x512x2x64 := by decide
  reducesTo_S8x512x2x64_S_d0_1_2_3 := by decide
  bcast_S_S1 := by decide
  reducesTo_S1_S_d0 := by decide

/-- A value whose magnitude is below infinity is real. -/
theorem isR_of_lt (x : EReal) (h : max x (-x) < ⊤) : IsR x := by
  induction x using EReal.rec with
  | bot => simp at h
  | coe r => exact ⟨r, rfl⟩
  | top => simp at h

theorem inf_eq : Ideal.ofBits .f32 0x7F800000#32 = (⊤ : EReal) := by
  simp [Ideal.ofBits, Ideal.ieee]

/-- A conjunct of the predicate: every element is real. -/
theorem all_isR {s : Shape} {axes : List (Fin s.rank)} (x : FVec Ideal s .f32) (hb : S_.BroadcastsInDim s (![] : Fin 0 → Fin s.rank))
    (hr : s.ReducesTo axes S_) (h0 : 0 < S_.numel)
    (e : Host.reduce IntOp.andi (cmpf .olt (Host.absf x) (broadcastInDim s ![] hb (constant S_ .f32 0x7F800000#32))) (constantI S_ 1 1#1) hr h0 ix0 = 1#1)
    (i : s.Idx) : IsR (x i) := by
  have h := Host.reduce_andi_all _ _ hr h0 ix0 e i
  have h' : Ideal.cmp .olt (max (x i : EReal) (-(x i : EReal))) (Ideal.ofBits .f32 0x7F800000#32) = 1#1 := h
  rw [inf_eq] at h'
  exact isR_of_lt _ (of_decide_eq_true (WordCmp.ofBool_eq_one_iff _ |>.1 h'))

theorem read [hPre : Facts] (a0 : FVec Ideal S8x4096x8x64 .f32) (a1 a2 : FVec Ideal S8x4096x2x64 .f32) (a3 a4 : FVec Ideal S8x512x2x64 .f32) (a5 : FVec Ideal S1 .f32)
    (h : fn (F := Ideal) a0 a1 a2 a3 a4 a5 = fun _ => 1#1) :
    (∀ i, IsR (a0 i)) ∧ (∀ i, IsR (a1 i)) ∧ (∀ i, IsR (a3 i)) ∧ ∀ i, IsR (a5 i) := by
  have e := congrFun h ix0
  obtain ⟨e, e5⟩ := IntOp.andi_eq_one.1 e
  obtain ⟨e, e3⟩ := IntOp.andi_eq_one.1 e
  obtain ⟨e0, e1⟩ := IntOp.andi_eq_one.1 e
  exact ⟨all_isR a0 _ _ _ e0, all_isR a1 _ _ _ e1, all_isR a3 _ _ _ e3, all_isR a5 _ _ _ e5⟩

end Cert.Pre_finite.Att
-- ==== Proof.MixMath.lean ====
module

public import Idealize.ShloMosaic.Lib.Pipeline.ValueKit
public import Idealize.ShloMosaic.Lib.Pointwise
public import Idealize.ShloMosaic.Lib.Claim

/-!
The scalar functions of the merge: padded sequences, sums of shifted products, the gate.
-/

@[expose] public section

noncomputable section

open Idealize.ShloMosaic Idealize.ShloMosaic.TcCoe Idealize.SL.Sem

namespace Cert.Mix

/-- A sequence of 4096 entries preceded and followed by zeros; entry 16 is the first. -/
def padded (x : Fin 4096 → EReal) (j : ℕ) : EReal :=
  if h : 16 ≤ j ∧ j < 4112 then x ⟨j - 16, by omega⟩ else 0

theorem padded_of {x : Fin 4096 → EReal} {j : ℕ} (h1 : 16 ≤ j) (h2 : j < 4112) (s : Fin 4096) (hs : s.val = j - 16) : padded x j = x s := by
  unfold padded; rw [dif_pos ⟨h1, h2⟩]; exact congrArg x (Fin.ext hs.symm)

theorem padded_lo {x : Fin 4096 → EReal} {j : ℕ} (h : j < 16) : padded x j = 0 := dif_neg (by omega)

theorem padded_hi {x : Fin 4096 → EReal} {j : ℕ} (h : 4112 ≤ j) : padded x j = 0 := dif_neg (by omega)

/-- The sum of the first terms of a sequence, from a start, one after another. -/
def csum (a : EReal) (f : ℕ → EReal) : ℕ → EReal
  | 0 => a
  | n + 1 => csum a f n + f n

theorem csum_start (a : EReal) (f : ℕ → EReal) (n : ℕ) : csum a f n = csum 0 f n + a := by
  induction n with
  | zero => simp [csum]
  | succ n ih => simp only [csum, ih]; rw [add_right_comm]

theorem csum_congr (a : EReal) {f g : ℕ → EReal} (n : ℕ) (h : ∀ k, k < n → f k = g k) : csum a f n = csum a g n := by
  induction n with
  | zero => rfl
  | succ n ih => simp only [csum]; rw [ih fun k hk => h k (by omega), h n (by omega)]

/-- The convolution at a position: 31 taps centred at it, and the bias. -/
def convAt (x : Fin 4096 → EReal) (w : Fin 31 → EReal) (b : EReal) (s : ℕ) : EReal :=
  csum 0 (fun k => padded x (s + 1 + k) * w (Fin.ofNat 31 k)) 31 + b

/-- The logistic function. -/
def lgst (x : EReal) : EReal := Ideal.div 1 (1 + Ideal.exp (-x))

/-- The mean of 512 entries. -/
def mean512 (y : Fin 512 → EReal) : EReal := Ideal.div (∑ c, y c) (Ideal.ofBits .f32 0x44000000#32)

/-- The normalised row, scaled and shifted. -/
def lnRow (y g b : Fin 512 → EReal) (c : Fin 512) : EReal :=
  (y c - mean512 y) * Ideal.rsqrt (mean512 (fun k => (y k - mean512 y) * (y k - mean512 y)) + Ideal.ofBits .f32 0x358637BD#32) * g c + b c

/-- The swish of the normalised row. -/
def swRow (y g b : Fin 512 → EReal) (c : Fin 512) : EReal := lnRow y g b c * lgst (lnRow y g b c)

/-- The sum of a window of entries from a start. -/
def poolSum (x : Fin 4096 → EReal) (w first s : ℕ) : EReal := csum 0 (fun k => padded x (s + first + k)) w

end Cert.Mix
-- ==== Proof.MixDefs.lean ====
module

public import proofs.«01_k».proof.Proof.Gen.Reference3Ideal.Run
public import proofs.«01_k».proof.Proof.MixMath

/-!
The reference of the merge, in steps.
-/

@[expose] public section

set_option maxRecDepth 16384

noncomputable section

open Idealize.ShloMosaic Idealize.ShloMosaic.TcCoe Idealize.SL.Sem
open Idealize.ShloMosaic.Pipeline (Dat)

namespace Cert.Reference3Ideal.Mix
open Cert.Reference3Ideal Cert.Reference3Ideal.Gen Cert.Mix

/-- The convolution's input, padded. -/
def refPad (a0 : FVec Ideal S8x4096x1024 .f32) : FVec Ideal S8x4126x512 .f32 :=
  pad S8x4126x512 ![0, 15, 0] ![0, 15, 0] ![0, 0, 0] (extractStridedSlice S8x4096x512 ![0, 0, 0] a0 slices_S8x4096x1024_S8x4096x512_0_0_0) (sitofp .f32 (constantI S_ 32 0#32)) pads_S8x4096x512_S8x4126x512_000_15150_000 h_S_

/-- The first eleven products of the convolution. -/
def refC1 (a0 : FVec Ideal S8x4096x1024 .f32) (a7 : FVec Ideal S31x512 .f32) : FVec Ideal S8x4096x512 .f32 :=
  addf (addf (addf (addf (addf (addf (addf (addf (addf (addf (addf (broadcastInDim S8x4096x512 ![] bcast_S_S8x4096x512 (constant S_ .f32 0x00000000#32)) (mulf (extractStridedSlice S8x4096x512 ![0, 0, 0] (refPad a0) slices_S8x4126x512_S8x4096x512_0_0_0) (broadcastInDim S8x4096x512 ![0, 1, 2] bcast_S1x1x512_S8x4096x512_0_1_2 (broadcastInDim S1x1x512 ![2] bcast_S512_S1x1x512_2 (shapeCast _ (extractStridedSlice S1x512 ![0, 0] a7 slices_S31x512_S1x512_0_0) shapeCasts_S1x512_S512))))) (mulf (extractStridedSlice S8x4096x512 ![0, 1, 0] (refPad a0) slices_S8x4126x512_S8x4096x512_0_1_0) (broadcastInDim S8x4096x512 ![0, 1, 2] bcast_S1x1x512_S8x4096x512_0_1_2 (broadcastInDim S1x1x512 ![2] bcast_S512_S1x1x512_2 (shapeCast _ (extractStridedSlice S1x512 ![1, 0] a7 slices_S31x512_S1x512_1_0) shapeCasts_S1x512_S512))))) (mulf (extractStridedSlice S8x4096x512 ![0, 2, 0] (refPad a0) slices_S8x4126x512_S8x4096x512_0_2_0) (broadcastInDim S8x4096x512 ![0, 1, 2] bcast_S1x1x512_S8x4096x512_0_1_2 (broadcastInDim S1x1x512 ![2] bcast_S512_S1x1x512_2 (shapeCast _ (extractStridedSlice S1x512 ![2, 0] a7 slices_S31x512_S1x512_2_0) shapeCasts_S1x512_S512))))) (mulf (extractStridedSlice S8x4096x512 ![0, 3, 0] (refPad a0) slices_S8x4126x512_S8x4096x512_0_3_0) (broadcastInDim S8x4096x512 ![0, 1, 2] bcast_S1x1x512_S8x4096x512_0_1_2 (broadcastInDim S1x1x512 ![2] bcast_S512_S1x1x512_2 (shapeCast _ (extractStridedSlice S1x512 ![3, 0] a7 slices_S31x512_S1x512_3_0) shapeCasts_S1x512_S512))))) (mulf (extractStridedSlice S8x4096x512 ![0, 4, 0] (refPad a0) slices_S8x4126x512_S8x4096x512_0_4_0) (broadcastInDim S8x4096x512 ![0, 1, 2] bcast_S1x1x512_S8x4096x512_0_1_2 (broadcastInDim S1x1x512 ![2] bcast_S512_S1x1x512_2 (shapeCast _ (extractStridedSlice S1x512 ![4, 0] a7 slices_S31x512_S1x512_4_0) shapeCasts_S1x512_S512))))) (mulf (extractStridedSlice S8x4096x512 ![0, 5, 0] (refPad a0) slices_S8x4126x512_S8x4096x512_0_5_0) (broadcastInDim S8x4096x512 ![0, 1, 2] bcast_S1x1x512_S8x4096x512_0_1_2 (broadcastInDim S1x1x512 ![2] bcast_S512_S1x1x512_2 (shapeCast _ (extractStridedSlice S1x512 ![5, 0] a7 slices_S31x512_S1x512_5_0) shapeCasts_S1x512_S512))))) (mulf (extractStridedSlice S8x4096x512 ![0, 6, 0] (refPad a0) slices_S8x4126x512_S8x4096x512_0_6_0) (broadcastInDim S8x4096x512 ![0, 1, 2] bcast_S1x1x512_S8x4096x512_0_1_2 (broadcastInDim S1x1x512 ![2] bcast_S512_S1x1x512_2 (shapeCast _ (extractStridedSlice S1x512 ![6, 0] a7 slices_S31x512_S1x512_6_0) shapeCasts_S1x512_S512))))) (mulf (extractStridedSlice S8x4096x512 ![0, 7, 0] (refPad a0) slices_S8x4126x512_S8x4096x512_0_7_0) (broadcastInDim S8x4096x512 ![0, 1, 2] bcast_S1x1x512_S8x4096x512_0_1_2 (broadcastInDim S1x1x512 ![2] bcast_S512_S1x1x512_2 (shapeCast _ (extractStridedSlice S1x512 ![7, 0] a7 slices_S31x512_S1x512_7_0) shapeCasts_S1x512_S512))))) (mulf (extractStridedSlice S8x4096x512 ![0, 8, 0] (refPad a0) slices_S8x4126x512_S8x4096x512_0_8_0) (broadcastInDim S8x4096x512 ![0, 1, 2] bcast_S1x1x512_S8x4096x512_0_1_2 (broadcastInDim S1x1x512 ![2] bcast_S512_S1x1x512_2 (shapeCast _ (extractStridedSlice S1x512 ![8, 0] a7 slices_S31x512_S1x512_8_0) shapeCasts_S1x512_S512))))) (mulf (extractStridedSlice S8x4096x512 ![0, 9, 0] (refPad a0) slices_S8x4126x512_S8x4096x512_0_9_0) (broadcastInDim S8x4096x512 ![0, 1, 2] bcast_S1x1x512_S8x4096x512_0_1_2 (broadcastInDim S1x1x512 ![2] bcast_S512_S1x1x512_2 (shapeCast _ (extractStridedSlice S1x512 ![9, 0] a7 slices_S31x512_S1x512_9_0) shapeCasts_S1x512_S512))))) (mulf (extractStridedSlice S8x4096x512 ![0, 10, 0] (refPad a0) slices_S8x4126x512_S8x4096x512_0_10_0) (broadcastInDim S8x4096x512 ![0, 1, 2] bcast_S1x1x512_S8x4096x512_0_1_2 (broadcastInDim S1x1x512 ![2] bcast_S512_S1x1x512_2 (shapeCast _ (extractStridedSlice S1x512 ![10, 0] a7 slices_S31x512_S1x512_10_0) shapeCasts_S1x512_S512))))

/-- The first twenty-two products. -/
def refC2 (a0 : FVec Ideal S8x4096x1024 .f32) (a7 : FVec Ideal S31x512 .f32) : FVec Ideal S8x4096x512 .f32 :=
  addf (addf (addf (addf (addf (addf (addf (addf (addf (addf (addf (refC1 a0 a7) (mulf (extractStridedSlice S8x4096x512 ![0, 11, 0] (refPad a0) slices_S8x4126x512_S8x4096x512_0_11_0) (broadcastInDim S8x4096x512 ![0, 1, 2] bcast_S1x1x512_S8x4096x512_0_1_2 (broadcastInDim S1x1x512 ![2] bcast_S512_S1x1x512_2 (shapeCast _ (extractStridedSlice S1x512 ![11, 0] a7 slices_S31x512_S1x512_11_0) shapeCasts_S1x512_S512))))) (mulf (extractStridedSlice S8x4096x512 ![0, 12, 0] (refPad a0) slices_S8x4126x512_S8x4096x512_0_12_0) (broadcastInDim S8x4096x512 ![0, 1, 2] bcast_S1x1x512_S8x4096x512_0_1_2 (broadcastInDim S1x1x512 ![2] bcast_S512_S1x1x512_2 (shapeCast _ (extractStridedSlice S1x512 ![12, 0] a7 slices_S31x512_S1x512_12_0) shapeCasts_S1x512_S512))))) (mulf (extractStridedSlice S8x4096x512 ![0, 13, 0] (refPad a0) slices_S8x4126x512_S8x4096x512_0_13_0) (broadcastInDim S8x4096x512 ![0, 1, 2] bcast_S1x1x512_S8x4096x512_0_1_2 (broadcastInDim S1x1x512 ![2] bcast_S512_S1x1x512_2 (shapeCast _ (extractStridedSlice S1x512 ![13, 0] a7 slices_S31x512_S1x512_13_0) shapeCasts_S1x512_S512))))) (mulf (extractStridedSlice S8x4096x512 ![0, 14, 0] (refPad a0) slices_S8x4126x512_S8x4096x512_0_14_0) (broadcastInDim S8x4096x512 ![0, 1, 2] bcast_S1x1x512_S8x4096x512_0_1_2 (broadcastInDim S1x1x512 ![2] bcast_S512_S1x1x512_2 (shapeCast _ (extractStridedSlice S1x512 ![14, 0] a7 slices_S31x512_S1x512_14_0) shapeCasts_S1x512_S512))))) (mulf (extractStridedSlice S8x4096x512 ![0, 15, 0] (refPad a0) slices_S8x4126x512_S8x4096x512_0_15_0) (broadcastInDim S8x4096x512 ![0, 1, 2] bcast_S1x1x512_S8x4096x512_0_1_2 (broadcastInDim S1x1x512 ![2] bcast_S512_S1x1x512_2 (shapeCast _ (extractStridedSlice S1x512 ![15, 0] a7 slices_S31x512_S1x512_15_0) shapeCasts_S1x512_S512))))) (mulf (extractStridedSlice S8x4096x512 ![0, 16, 0] (refPad a0) slices_S8x4126x512_S8x4096x512_0_16_0) (broadcastInDim S8x4096x512 ![0, 1, 2] bcast_S1x1x512_S8x4096x512_0_1_2 (broadcastInDim S1x1x512 ![2] bcast_S512_S1x1x512_2 (shapeCast _ (extractStridedSlice S1x512 ![16, 0] a7 slices_S31x512_S1x512_16_0) shapeCasts_S1x512_S512))))) (mulf (extractStridedSlice S8x4096x512 ![0, 17, 0] (refPad a0) slices_S8x4126x512_S8x4096x512_0_17_0) (broadcastInDim S8x4096x512 ![0, 1, 2] bcast_S1x1x512_S8x4096x512_0_1_2 (broadcastInDim S1x1x512 ![2] bcast_S512_S1x1x512_2 (shapeCast _ (extractStridedSlice S1x512 ![17, 0] a7 slices_S31x512_S1x512_17_0) shapeCasts_S1x512_S512))))) (mulf (extractStridedSlice S8x4096x512 ![0, 18, 0] (refPad a0) slices_S8x4126x512_S8x4096x512_0_18_0) (broadcastInDim S8x4096x512 ![0, 1, 2] bcast_S1x1x512_S8x4096x512_0_1_2 (broadcastInDim S1x1x512 ![2] bcast_S512_S1x1x512_2 (shapeCast _ (extractStridedSlice S1x512 ![18, 0] a7 slices_S31x512_S1x512_18_0) shapeCasts_S1x512_S512))))) (mulf (extractStridedSlice S8x4096x512 ![0, 19, 0] (refPad a0) slices_S8x4126x512_S8x4096x512_0_19_0) (broadcastInDim S8x4096x512 ![0, 1, 2] bcast_S1x1x512_S8x4096x512_0_1_2 (broadcastInDim S1x1x512 ![2] bcast_S512_S1x1x512_2 (shapeCast _ (extractStridedSlice S1x512 ![19, 0] a7 slices_S31x512_S1x512_19_0) shapeCasts_S1x512_S512))))) (mulf (extractStridedSlice S8x4096x512 ![0, 20, 0] (refPad a0) slices_S8x4126x512_S8x4096x512_0_20_0) (broadcastInDim S8x4096x512 ![0, 1, 2] bcast_S1x1x512_S8x4096x512_0_1_2 (broadcastInDim S1x1x512 ![2] bcast_S512_S1x1x512_2 (shapeCast _ (extractStridedSlice S1x512 ![20, 0] a7 slices_S31x512_S1x512_20_0) shapeCasts_S1x512_S512))))) (mulf (extractStridedSlice S8x4096x512 ![0, 21, 0] (refPad a0) slices_S8x4126x512_S8x4096x512_0_21_0) (broadcastInDim S8x4096x512 ![0, 1, 2] bcast_S1x1x512_S8x4096x512_0_1_2 (broadcastInDim S1x1x512 ![2] bcast_S512_S1x1x512_2 (shapeCast _ (extractStridedSlice S1x512 ![21, 0] a7 slices_S31x512_S1x512_21_0) shapeCasts_S1x512_S512))))

/-- The convolution. -/
def refC3 (a0 : FVec Ideal S8x4096x1024 .f32) (a7 : FVec Ideal S31x512 .f32) (a8 : FVec Ideal S512 .f32) : FVec Ideal S8x4096x512 .f32 :=
  addf (addf (addf (addf (addf (addf (addf (addf (addf (addf (refC2 a0 a7) (mulf (extractStridedSlice S8x4096x512 ![0, 22, 0] (refPad a0) slices_S8x4126x512_S8x4096x512_0_22_0) (broadcastInDim S8x4096x512 ![0, 1, 2] bcast_S1x1x512_S8x4096x512_0_1_2 (broadcastInDim S1x1x512 ![2] bcast_S512_S1x1x512_2 (shapeCast _ (extractStridedSlice S1x512 ![22, 0] a7 slices_S31x512_S1x512_22_0) shapeCasts_S1x512_S512))))) (mulf (extractStridedSlice S8x4096x512 ![0, 23, 0] (refPad a0) slices_S8x4126x512_S8x4096x512_0_23_0) (broadcastInDim S8x4096x512 ![0, 1, 2] bcast_S1x1x512_S8x4096x512_0_1_2 (broadcastInDim S1x1x512 ![2] bcast_S512_S1x1x512_2 (shapeCast _ (extractStridedSlice S1x512 ![23, 0] a7 slices_S31x512_S1x512_23_0) shapeCasts_S1x512_S512))))) (mulf (extractStridedSlice S8x4096x512 ![0, 24, 0] (refPad a0) slices_S8x4126x512_S8x4096x512_0_24_0) (broadcastInDim S8x4096x512 ![0, 1, 2] bcast_S1x1x512_S8x4096x512_0_1_2 (broadcastInDim S1x1x512 ![2] bcast_S512_S1x1x512_2 (shapeCast _ (extractStridedSlice S1x512 ![24, 0] a7 slices_S31x512_S1x512_24_0) shapeCasts_S1x512_S512))))) (mulf (extractStridedSlice S8x4096x512 ![0, 25, 0] (refPad a0) slices_S8x4126x512_S8x4096x512_0_25_0) (broadcastInDim S8x4096x512 ![0, 1, 2] bcast_S1x1x512_S8x4096x512_0_1_2 (broadcastInDim S1x1x512 ![2] bcast_S512_S1x1x512_2 (shapeCast _ (extractStridedSlice S1x512 ![25, 0] a7 slices_S31x512_S1x512_25_0) shapeCasts_S1x512_S512))))) (mulf (extractStridedSlice S8x4096x512 ![0, 26, 0] (refPad a0) slices_S8x4126x512_S8x4096x512_0_26_0) (broadcastInDim S8x4096x512 ![0, 1, 2] bcast_S1x1x512_S8x4096x512_0_1_2 (broadcastInDim S1x1x512 ![2] bcast_S512_S1x1x512_2 (shapeCast _ (extractStridedSlice S1x512 ![26, 0] a7 slices_S31x512_S1x512_26_0) shapeCasts_S1x512_S512))))) (mulf (extractStridedSlice S8x4096x512 ![0, 27, 0] (refPad a0) slices_S8x4126x512_S8x4096x512_0_27_0) (broadcastInDim S8x4096x512 ![0, 1, 2] bcast_S1x1x512_S8x4096x512_0_1_2 (broadcastInDim S1x1x512 ![2] bcast_S512_S1x1x512_2 (shapeCast _ (extractStridedSlice S1x512 ![27, 0] a7 slices_S31x512_S1x512_27_0) shapeCasts_S1x512_S512))))) (mulf (extractStridedSlice S8x4096x512 ![0, 28, 0] (refPad a0) slices_S8x4126x512_S8x4096x512_0_28_0) (broadcastInDim S8x4096x512 ![0, 1, 2] bcast_S1x1x512_S8x4096x512_0_1_2 (broadcastInDim S1x1x512 ![2] bcast_S512_S1x1x512_2 (shapeCast _ (extractStridedSlice S1x512 ![28, 0] a7 slices_S31x512_S1x512_28_0) shapeCasts_S1x512_S512))))) (mulf (extractStridedSlice S8x4096x512 ![0, 29, 0] (refPad a0) slices_S8x4126x512_S8x4096x512_0_29_0) (broadcastInDim S8x4096x512 ![0, 1, 2] bcast_S1x1x512_S8x4096x512_0_1_2 (broadcastInDim S1x1x512 ![2] bcast_S512_S1x1x512_2 (shapeCast _ (extractStridedSlice S1x512 ![29, 0] a7 slices_S31x512_S1x512_29_0) shapeCasts_S1x512_S512))))) (mulf (extractStridedSlice S8x4096x512 ![0, 30, 0] (refPad a0) slices_S8x4126x512_S8x4096x512_0_30_0) (broadcastInDim S8x4096x512 ![0, 1, 2] bcast_S1x1x512_S8x4096x512_0_1_2 (broadcastInDim S1x1x512 ![2] bcast_S512_S1x1x512_2 (shapeCast _ (extractStridedSlice S1x512 ![30, 0] a7 slices_S31x512_S1x512_30_0) shapeCasts_S1x512_S512))))) (broadcastInDim S8x4096x512 ![0, 1, 2] bcast_S1x1x512_S8x4096x512_0_1_2 (broadcastInDim S1x1x512 ![2] bcast_S512_S1x1x512_2 a8))

/-- The means of its rows. -/
def refMu (a0 : FVec Ideal S8x4096x1024 .f32) (a7 : FVec Ideal S31x512 .f32) (a8 : FVec Ideal S512 .f32) : FVec Ideal S8x4096x1 .f32 :=
  Host.divf (broadcastInDim S8x4096x1 ![0, 1] bcast_S8x4096_S8x4096x1_0_1 (Host.reduceAdd (refC3 a0 a7 a8) (constant S_ .f32 0x00000000#32) reducesTo_S8x4096x512_S8x4096_d2 h_S_)) (broadcastInDim S8x4096x1 ![] bcast_S_S8x4096x1 (constant S_ .f32 0x44000000#32))

/-- The rows less their means. -/
def refCen (a0 : FVec Ideal S8x4096x1024 .f32) (a7 : FVec Ideal S31x512 .f32) (a8 : FVec Ideal S512 .f32) : FVec Ideal S8x4096x512 .f32 :=
  subf (refC3 a0 a7 a8) (broadcastInDim S8x4096x512 ![0, 1, 2] bcast_S8x4096x1_S8x4096x512_0_1_2 (refMu a0 a7 a8))

/-- The normalised rows. -/
def refLn (a0 : FVec Ideal S8x4096x1024 .f32) (a7 : FVec Ideal S31x512 .f32) (a8 : FVec Ideal S512 .f32) (a9 : FVec Ideal S512 .f32) (a10 : FVec Ideal S512 .f32) : FVec Ideal S8x4096x512 .f32 :=
  addf (mulf (mulf (subf (refC3 a0 a7 a8) (broadcastInDim S8x4096x512 ![0, 1, 2] bcast_S8x4096x1_S8x4096x512_0_1_2 (refMu a0 a7 a8))) (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf (refCen a0 a7 a8) (refCen a0 a7 a8)) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 a9))) (broadcastInDim S8x4096x512 ![0, 1, 2] bcast_S1x1x512_S8x4096x512_0_1_2 (broadcastInDim S1x1x512 ![2] bcast_S512_S1x1x512_2 a10))

/-- The pool's input. -/
def refPx (a0 : FVec Ideal S8x4096x1024 .f32) : FVec Ideal S8x4096x512 .f32 :=
  extractStridedSlice S8x4096x512 ![0, 0, 512] a0 slices_S8x4096x1024_S8x4096x512_0_0_512

/-- The positions. -/
def refIota : IVec S4096 32 :=
  iotaInDim S4096 32 0

/-- The columns of pool group 0. -/
def refX0 (a0 : FVec Ideal S8x4096x1024 .f32) : FVec Ideal S8x4096x128 .f32 :=
  extractStridedSlice S8x4096x128 ![0, 0, 0] (refPx a0) slices_S8x4096x512_S8x4096x128_0_0_0

/-- The columns of pool group 0, padded. -/
def refXp0 (a0 : FVec Ideal S8x4096x1024 .f32) : FVec Ideal S8x4097x128 .f32 :=
  pad S8x4097x128 ![0, 1, 0] ![0, 0, 0] ![0, 0, 0] (refX0 a0) (sitofp .f32 (constantI S_ 32 0#32)) pads_S8x4096x128_S8x4097x128_000_100_000 h_S_

/-- The columns of pool group 1. -/
def refX1 (a0 : FVec Ideal S8x4096x1024 .f32) : FVec Ideal S8x4096x128 .f32 :=
  extractStridedSlice S8x4096x128 ![0, 0, 128] (refPx a0) slices_S8x4096x512_S8x4096x128_0_0_128

/-- The columns of pool group 1, padded. -/
def refXp1 (a0 : FVec Ideal S8x4096x1024 .f32) : FVec Ideal S8x4099x128 .f32 :=
  pad S8x4099x128 ![0, 2, 0] ![0, 1, 0] ![0, 0, 0] (refX1 a0) (sitofp .f32 (constantI S_ 32 0#32)) pads_S8x4096x128_S8x4099x128_000_210_000 h_S_

/-- The columns of pool group 2. -/
def refX2 (a0 : FVec Ideal S8x4096x1024 .f32) : FVec Ideal S8x4096x128 .f32 :=
  extractStridedSlice S8x4096x128 ![0, 0, 256] (refPx a0) slices_S8x4096x512_S8x4096x128_0_0_256

/-- The columns of pool group 2, padded. -/
def refXp2 (a0 : FVec Ideal S8x4096x1024 .f32) : FVec Ideal S8x4103x128 .f32 :=
  pad S8x4103x128 ![0, 4, 0] ![0, 3, 0] ![0, 0, 0] (refX2 a0) (sitofp .f32 (constantI S_ 32 0#32)) pads_S8x4096x128_S8x4103x128_000_430_000 h_S_

/-- The columns of pool group 3. -/
def refX3 (a0 : FVec Ideal S8x4096x1024 .f32) : FVec Ideal S8x4096x128 .f32 :=
  extractStridedSlice S8x4096x128 ![0, 0, 384] (refPx a0) slices_S8x4096x512_S8x4096x128_0_0_384

/-- The columns of pool group 3, padded. -/
def refXp3 (a0 : FVec Ideal S8x4096x1024 .f32) : FVec Ideal S8x4111x128 .f32 :=
  pad S8x4111x128 ![0, 8, 0] ![0, 7, 0] ![0, 0, 0] (refX3 a0) (sitofp .f32 (constantI S_ 32 0#32)) pads_S8x4096x128_S8x4111x128_000_870_000 h_S_

/-- The numbers of positions under the windows of group 3. -/
def refN3 : FVec Ideal S4096 .f32 :=
  sitofp .f32 (subi (minsi (broadcastInDim S4096 ![] bcast_S_S4096 (id (constantI S_ 32 4096#32))) (maxsi (broadcastInDim S4096 ![] bcast_S_S4096 (id (constantI S_ 32 0#32))) (addi (subi (refIota) (broadcastInDim S4096 ![] bcast_S_S4096 (constantI S_ 32 8#32))) (broadcastInDim S4096 ![] bcast_S_S4096 (constantI S_ 32 16#32))))) (minsi (broadcastInDim S4096 ![] bcast_S_S4096 (id (constantI S_ 32 4096#32))) (maxsi (broadcastInDim S4096 ![] bcast_S_S4096 (id (constantI S_ 32 0#32))) (subi (refIota) (broadcastInDim S4096 ![] bcast_S_S4096 (constantI S_ 32 8#32))))))

/-- Group 3's window means less the positions themselves. -/
def refPl3 (a0 : FVec Ideal S8x4096x1024 .f32) : FVec Ideal S8x4096x128 .f32 :=
  subf (Host.divf (addf (addf (addf (addf (addf (addf (addf (addf (addf (addf (addf (addf (addf (addf (addf (addf (broadcastInDim S8x4096x128 ![] bcast_S_S8x4096x128 (constant S_ .f32 0x00000000#32)) (extractStridedSlice S8x4096x128 ![0, 0, 0] (refXp3 a0) slices_S8x4111x128_S8x4096x128_0_0_0)) (extractStridedSlice S8x4096x128 ![0, 1, 0] (refXp3 a0) slices_S8x4111x128_S8x4096x128_0_1_0)) (extractStridedSlice S8x4096x128 ![0, 2, 0] (refXp3 a0) slices_S8x4111x128_S8x4096x128_0_2_0)) (extractStridedSlice S8x4096x128 ![0, 3, 0] (refXp3 a0) slices_S8x4111x128_S8x4096x128_0_3_0)) (extractStridedSlice S8x4096x128 ![0, 4, 0] (refXp3 a0) slices_S8x4111x128_S8x4096x128_0_4_0)) (extractStridedSlice S8x4096x128 ![0, 5, 0] (refXp3 a0) slices_S8x4111x128_S8x4096x128_0_5_0)) (extractStridedSlice S8x4096x128 ![0, 6, 0] (refXp3 a0) slices_S8x4111x128_S8x4096x128_0_6_0)) (extractStridedSlice S8x4096x128 ![0, 7, 0] (refXp3 a0) slices_S8x4111x128_S8x4096x128_0_7_0)) (extractStridedSlice S8x4096x128 ![0, 8, 0] (refXp3 a0) slices_S8x4111x128_S8x4096x128_0_8_0)) (extractStridedSlice S8x4096x128 ![0, 9, 0] (refXp3 a0) slices_S8x4111x128_S8x4096x128_0_9_0)) (extractStridedSlice S8x4096x128 ![0, 10, 0] (refXp3 a0) slices_S8x4111x128_S8x4096x128_0_10_0)) (extractStridedSlice S8x4096x128 ![0, 11, 0] (refXp3 a0) slices_S8x4111x128_S8x4096x128_0_11_0)) (extractStridedSlice S8x4096x128 ![0, 12, 0] (refXp3 a0) slices_S8x4111x128_S8x4096x128_0_12_0)) (extractStridedSlice S8x4096x128 ![0, 13, 0] (refXp3 a0) slices_S8x4111x128_S8x4096x128_0_13_0)) (extractStridedSlice S8x4096x128 ![0, 14, 0] (refXp3 a0) slices_S8x4111x128_S8x4096x128_0_14_0)) (extractStridedSlice S8x4096x128 ![0, 15, 0] (refXp3 a0) slices_S8x4111x128_S8x4096x128_0_15_0)) (broadcastInDim S8x4096x128 ![0, 1, 2] bcast_S1x4096x1_S8x4096x128_0_1_2 (broadcastInDim S1x4096x1 ![1] bcast_S4096_S1x4096x1_1 (refN3)))) (refX3 a0)

/-- Group 3's pooled columns. -/
def refPool3 (a0 : FVec Ideal S8x4096x1024 .f32) (a11 : FVec Ideal S4x128x128 .f32) : FVec Ideal S8x4096x128 .f32 :=
  Host.dotGeneral dot_S8x4096x128_S128x128_S8x4096x128_2_0_01_1_n_n none (refPl3 a0) (shapeCast _ (extractStridedSlice S1x128x128 ![3, 0, 0] a11 slices_S4x128x128_S1x128x128_3_0_0) shapeCasts_S1x128x128_S128x128)

/-- The numbers of positions under the windows of group 2. -/
def refN2 : FVec Ideal S4096 .f32 :=
  sitofp .f32 (subi (minsi (broadcastInDim S4096 ![] bcast_S_S4096 (id (constantI S_ 32 4096#32))) (maxsi (broadcastInDim S4096 ![] bcast_S_S4096 (id (constantI S_ 32 0#32))) (addi (subi (refIota) (broadcastInDim S4096 ![] bcast_S_S4096 (constantI S_ 32 4#32))) (broadcastInDim S4096 ![] bcast_S_S4096 (constantI S_ 32 8#32))))) (minsi (broadcastInDim S4096 ![] bcast_S_S4096 (id (constantI S_ 32 4096#32))) (maxsi (broadcastInDim S4096 ![] bcast_S_S4096 (id (constantI S_ 32 0#32))) (subi (refIota) (broadcastInDim S4096 ![] bcast_S_S4096 (constantI S_ 32 4#32))))))

/-- Group 2's window means less the positions themselves. -/
def refPl2 (a0 : FVec Ideal S8x4096x1024 .f32) : FVec Ideal S8x4096x128 .f32 :=
  subf (Host.divf (addf (addf (addf (addf (addf (addf (addf (addf (broadcastInDim S8x4096x128 ![] bcast_S_S8x4096x128 (constant S_ .f32 0x00000000#32)) (extractStridedSlice S8x4096x128 ![0, 0, 0] (refXp2 a0) slices_S8x4103x128_S8x4096x128_0_0_0)) (extractStridedSlice S8x4096x128 ![0, 1, 0] (refXp2 a0) slices_S8x4103x128_S8x4096x128_0_1_0)) (extractStridedSlice S8x4096x128 ![0, 2, 0] (refXp2 a0) slices_S8x4103x128_S8x4096x128_0_2_0)) (extractStridedSlice S8x4096x128 ![0, 3, 0] (refXp2 a0) slices_S8x4103x128_S8x4096x128_0_3_0)) (extractStridedSlice S8x4096x128 ![0, 4, 0] (refXp2 a0) slices_S8x4103x128_S8x4096x128_0_4_0)) (extractStridedSlice S8x4096x128 ![0, 5, 0] (refXp2 a0) slices_S8x4103x128_S8x4096x128_0_5_0)) (extractStridedSlice S8x4096x128 ![0, 6, 0] (refXp2 a0) slices_S8x4103x128_S8x4096x128_0_6_0)) (extractStridedSlice S8x4096x128 ![0, 7, 0] (refXp2 a0) slices_S8x4103x128_S8x4096x128_0_7_0)) (broadcastInDim S8x4096x128 ![0, 1, 2] bcast_S1x4096x1_S8x4096x128_0_1_2 (broadcastInDim S1x4096x1 ![1] bcast_S4096_S1x4096x1_1 (refN2)))) (refX2 a0)

/-- Group 2's pooled columns. -/
def refPool2 (a0 : FVec Ideal S8x4096x1024 .f32) (a11 : FVec Ideal S4x128x128 .f32) : FVec Ideal S8x4096x128 .f32 :=
  Host.dotGeneral dot_S8x4096x128_S128x128_S8x4096x128_2_0_01_1_n_n none (refPl2 a0) (shapeCast _ (extractStridedSlice S1x128x128 ![2, 0, 0] a11 slices_S4x128x128_S1x128x128_2_0_0) shapeCasts_S1x128x128_S128x128)

/-- The numbers of positions under the windows of group 1. -/
def refN1 : FVec Ideal S4096 .f32 :=
  sitofp .f32 (subi (minsi (broadcastInDim S4096 ![] bcast_S_S4096 (id (constantI S_ 32 4096#32))) (maxsi (broadcastInDim S4096 ![] bcast_S_S4096 (id (constantI S_ 32 0#32))) (addi (subi (refIota) (broadcastInDim S4096 ![] bcast_S_S4096 (constantI S_ 32 2#32))) (broadcastInDim S4096 ![] bcast_S_S4096 (constantI S_ 32 4#32))))) (minsi (broadcastInDim S4096 ![] bcast_S_S4096 (id (constantI S_ 32 4096#32))) (maxsi (broadcastInDim S4096 ![] bcast_S_S4096 (id (constantI S_ 32 0#32))) (subi (refIota) (broadcastInDim S4096 ![] bcast_S_S4096 (constantI S_ 32 2#32))))))

/-- Group 1's window means less the positions themselves. -/
def refPl1 (a0 : FVec Ideal S8x4096x1024 .f32) : FVec Ideal S8x4096x128 .f32 :=
  subf (Host.divf (addf (addf (addf (addf (broadcastInDim S8x4096x128 ![] bcast_S_S8x4096x128 (constant S_ .f32 0x00000000#32)) (extractStridedSlice S8x4096x128 ![0, 0, 0] (refXp1 a0) slices_S8x4099x128_S8x4096x128_0_0_0)) (extractStridedSlice S8x4096x128 ![0, 1, 0] (refXp1 a0) slices_S8x4099x128_S8x4096x128_0_1_0)) (extractStridedSlice S8x4096x128 ![0, 2, 0] (refXp1 a0) slices_S8x4099x128_S8x4096x128_0_2_0)) (extractStridedSlice S8x4096x128 ![0, 3, 0] (refXp1 a0) slices_S8x4099x128_S8x4096x128_0_3_0)) (broadcastInDim S8x4096x128 ![0, 1, 2] bcast_S1x4096x1_S8x4096x128_0_1_2 (broadcastInDim S1x4096x1 ![1] bcast_S4096_S1x4096x1_1 (refN1)))) (refX1 a0)

/-- Group 1's pooled columns. -/
def refPool1 (a0 : FVec Ideal S8x4096x1024 .f32) (a11 : FVec Ideal S4x128x128 .f32) : FVec Ideal S8x4096x128 .f32 :=
  Host.dotGeneral dot_S8x4096x128_S128x128_S8x4096x128_2_0_01_1_n_n none (refPl1 a0) (shapeCast _ (extractStridedSlice S1x128x128 ![1, 0, 0] a11 slices_S4x128x128_S1x128x128_1_0_0) shapeCasts_S1x128x128_S128x128)

/-- The numbers of positions under the windows of group 0. -/
def refN0 : FVec Ideal S4096 .f32 :=
  sitofp .f32 (subi (minsi (broadcastInDim S4096 ![] bcast_S_S4096 (id (constantI S_ 32 4096#32))) (maxsi (broadcastInDim S4096 ![] bcast_S_S4096 (id (constantI S_ 32 0#32))) (addi (subi (refIota) (broadcastInDim S4096 ![] bcast_S_S4096 (constantI S_ 32 1#32))) (broadcastInDim S4096 ![] bcast_S_S4096 (constantI S_ 32 2#32))))) (minsi (broadcastInDim S4096 ![] bcast_S_S4096 (id (constantI S_ 32 4096#32))) (maxsi (broadcastInDim S4096 ![] bcast_S_S4096 (id (constantI S_ 32 0#32))) (subi (refIota) (broadcastInDim S4096 ![] bcast_S_S4096 (constantI S_ 32 1#32))))))

/-- Group 0's window means less the positions themselves. -/
def refPl0 (a0 : FVec Ideal S8x4096x1024 .f32) : FVec Ideal S8x4096x128 .f32 :=
  subf (Host.divf (addf (addf (broadcastInDim S8x4096x128 ![] bcast_S_S8x4096x128 (constant S_ .f32 0x00000000#32)) (extractStridedSlice S8x4096x128 ![0, 0, 0] (refXp0 a0) slices_S8x4097x128_S8x4096x128_0_0_0)) (extractStridedSlice S8x4096x128 ![0, 1, 0] (refXp0 a0) slices_S8x4097x128_S8x4096x128_0_1_0)) (broadcastInDim S8x4096x128 ![0, 1, 2] bcast_S1x4096x1_S8x4096x128_0_1_2 (broadcastInDim S1x4096x1 ![1] bcast_S4096_S1x4096x1_1 (refN0)))) (refX0 a0)

/-- Group 0's pooled columns. -/
def refPool0 (a0 : FVec Ideal S8x4096x1024 .f32) (a11 : FVec Ideal S4x128x128 .f32) : FVec Ideal S8x4096x128 .f32 :=
  Host.dotGeneral dot_S8x4096x128_S128x128_S8x4096x128_2_0_01_1_n_n none (refPl0 a0) (shapeCast _ (extractStridedSlice S1x128x128 ![0, 0, 0] a11 slices_S4x128x128_S1x128x128_0_0_0) shapeCasts_S1x128x128_S128x128)

/-- The four groups side by side. -/
def refPoolAll (a0 : FVec Ideal S8x4096x1024 .f32) (a11 : FVec Ideal S4x128x128 .f32) : FVec Ideal S8x4096x512 .f32 :=
  (concatenate S8x4096x512 2 [⟨S8x4096x128, (refPool0 a0 a11)⟩, ⟨S8x4096x128, (refPool1 a0 a11)⟩, ⟨S8x4096x128, (refPool2 a0 a11)⟩, ⟨S8x4096x128, (refPool3 a0 a11)⟩] concatenates_S8x4096x128_S8x4096x128_S8x4096x128_S8x4096x128_S8x4096x512_d2)

/-- The gate of branch 0. -/
def refGate0 (a4 : FVec Ideal S8x4096x1024 .f32) (a16 : FVec Ideal S1024x4096 .f32) (a17 : FVec Ideal S4096 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (addf (Host.dotGeneral dot_S8x4096x1024_S1024x1024_S8x4096x1024_2_0_01_1_n_n none a4 (extractStridedSlice S1024x1024 ![0, 0] a16 slices_S1024x4096_S1024x1024_0_0)) (broadcastInDim S8x4096x1024 ![0, 1, 2] bcast_S1x1x1024_S8x4096x1024_0_1_2 (broadcastInDim S1x1x1024 ![2] bcast_S1024_S1x1x1024_2 (extractStridedSlice S1024 ![0] a17 slices_S4096_S1024_0)))))))

/-- Branch 0. -/
def refAttn (a5 : FVec Ideal S8x4096x512 .f32) : FVec Ideal S8x4096x512 .f32 :=
  shapeCast _ (transpose S8x4096x2x4x64 [0, 1, 3, 2, 4] (shapeCast _ a5 shapeCasts_S8x4096x512_S8x4096x4x2x64) transposes_S8x4096x4x2x64_S8x4096x2x4x64_0_1_3_2_4) shapeCasts_S8x4096x2x4x64_S8x4096x512

/-- Branch 0 projected. -/
def refTerm0 (a5 : FVec Ideal S8x4096x512 .f32) (a15 : FVec Ideal S4x512x1024 .f32) : FVec Ideal S8x4096x1024 .f32 :=
  Host.dotGeneral dot_S8x4096x512_S512x1024_S8x4096x1024_2_0_01_1_n_n none (refAttn a5) (shapeCast _ (extractStridedSlice S1x512x1024 ![0, 0, 0] a15 slices_S4x512x1024_S1x512x1024_0_0_0) shapeCasts_S1x512x1024_S512x1024)

/-- The gate of branch 1. -/
def refGate1 (a4 : FVec Ideal S8x4096x1024 .f32) (a16 : FVec Ideal S1024x4096 .f32) (a17 : FVec Ideal S4096 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (addf (Host.dotGeneral dot_S8x4096x1024_S1024x1024_S8x4096x1024_2_0_01_1_n_n none a4 (extractStridedSlice S1024x1024 ![0, 1024] a16 slices_S1024x4096_S1024x1024_0_1024)) (broadcastInDim S8x4096x1024 ![0, 1, 2] bcast_S1x1x1024_S8x4096x1024_0_1_2 (broadcastInDim S1x1x1024 ![2] bcast_S1024_S1x1x1024_2 (extractStridedSlice S1024 ![1024] a17 slices_S4096_S1024_1024)))))))

/-- Branch 1. -/
def refConv (a0 : FVec Ideal S8x4096x1024 .f32) (a7 : FVec Ideal S31x512 .f32) (a8 : FVec Ideal S512 .f32) (a9 : FVec Ideal S512 .f32) (a10 : FVec Ideal S512 .f32) : FVec Ideal S8x4096x512 .f32 :=
  mulf (refLn a0 a7 a8 a9 a10) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (refLn a0 a7 a8 a9 a10)))))

/-- Branch 1 projected. -/
def refTerm1 (a0 : FVec Ideal S8x4096x1024 .f32) (a7 : FVec Ideal S31x512 .f32) (a8 : FVec Ideal S512 .f32) (a9 : FVec Ideal S512 .f32) (a10 : FVec Ideal S512 .f32) (a15 : FVec Ideal S4x512x1024 .f32) : FVec Ideal S8x4096x1024 .f32 :=
  Host.dotGeneral dot_S8x4096x512_S512x1024_S8x4096x1024_2_0_01_1_n_n none (refConv a0 a7 a8 a9 a10) (shapeCast _ (extractStridedSlice S1x512x1024 ![1, 0, 0] a15 slices_S4x512x1024_S1x512x1024_1_0_0) shapeCasts_S1x512x1024_S512x1024)

/-- The gate of branch 2. -/
def refGate2 (a4 : FVec Ideal S8x4096x1024 .f32) (a16 : FVec Ideal S1024x4096 .f32) (a17 : FVec Ideal S4096 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (addf (Host.dotGeneral dot_S8x4096x1024_S1024x1024_S8x4096x1024_2_0_01_1_n_n none a4 (extractStridedSlice S1024x1024 ![0, 2048] a16 slices_S1024x4096_S1024x1024_0_2048)) (broadcastInDim S8x4096x1024 ![0, 1, 2] bcast_S1x1x1024_S8x4096x1024_0_1_2 (broadcastInDim S1x1x1024 ![2] bcast_S1024_S1x1x1024_2 (extractStridedSlice S1024 ![2048] a17 slices_S4096_S1024_2048)))))))

/-- Branch 2. -/
def refPool (a0 : FVec Ideal S8x4096x1024 .f32) (a11 : FVec Ideal S4x128x128 .f32) (a12 : FVec Ideal S512 .f32) : FVec Ideal S8x4096x512 .f32 :=
  mulf (refPoolAll a0 a11) (broadcastInDim S8x4096x512 ![0, 1, 2] bcast_S1x1x512_S8x4096x512_0_1_2 (broadcastInDim S1x1x512 ![2] bcast_S512_S1x1x512_2 a12))

/-- Branch 2 projected. -/
def refTerm2 (a0 : FVec Ideal S8x4096x1024 .f32) (a11 : FVec Ideal S4x128x128 .f32) (a12 : FVec Ideal S512 .f32) (a15 : FVec Ideal S4x512x1024 .f32) : FVec Ideal S8x4096x1024 .f32 :=
  Host.dotGeneral dot_S8x4096x512_S512x1024_S8x4096x1024_2_0_01_1_n_n none (refPool a0 a11 a12) (shapeCast _ (extractStridedSlice S1x512x1024 ![2, 0, 0] a15 slices_S4x512x1024_S1x512x1024_2_0_0) shapeCasts_S1x512x1024_S512x1024)

/-- The gate of branch 3. -/
def refGate3 (a4 : FVec Ideal S8x4096x1024 .f32) (a16 : FVec Ideal S1024x4096 .f32) (a17 : FVec Ideal S4096 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (addf (Host.dotGeneral dot_S8x4096x1024_S1024x1024_S8x4096x1024_2_0_01_1_n_n none a4 (extractStridedSlice S1024x1024 ![0, 3072] a16 slices_S1024x4096_S1024x1024_0_3072)) (broadcastInDim S8x4096x1024 ![0, 1, 2] bcast_S1x1x1024_S8x4096x1024_0_1_2 (broadcastInDim S1x1x1024 ![2] bcast_S1024_S1x1x1024_2 (extractStridedSlice S1024 ![3072] a17 slices_S4096_S1024_3072)))))))

/-- Branch 3. -/
def refSgu (a1 : FVec Ideal S8x4096x512 .f32) (a2 : FVec Ideal S8x4096x512 .f32) (a13 : FVec Ideal S4x128x128 .f32) (a14 : FVec Ideal S4x128 .f32) : FVec Ideal S8x4096x512 .f32 :=
  mulf a1 (shapeCast _ (addf (transpose S8x32x128x4x128 [1, 2, 4, 0, 3] (Host.dotGeneral dot_S8x32x128x4x128_S4x128x128_S4x8x32x128x128_2_2_014_1_3_0 none (shapeCast _ a2 shapeCasts_S8x4096x512_S8x32x128x4x128) a13) transposes_S4x8x32x128x128_S8x32x128x4x128_1_2_4_0_3) (broadcastInDim S8x32x128x4x128 ![0, 1, 2, 3, 4] bcast_S1x1x128x4x1_S8x32x128x4x128_0_1_2_3_4 (broadcastInDim S1x1x128x4x1 ![2, 3] bcast_S128x4_S1x1x128x4x1_2_3 (transpose S128x4 [1, 0] a14 transposes_S4x128_S128x4_1_0)))) shapeCasts_S8x32x128x4x128_S8x4096x512)

/-- Branch 3 projected. -/
def refTerm3 (a1 : FVec Ideal S8x4096x512 .f32) (a2 : FVec Ideal S8x4096x512 .f32) (a13 : FVec Ideal S4x128x128 .f32) (a14 : FVec Ideal S4x128 .f32) (a15 : FVec Ideal S4x512x1024 .f32) : FVec Ideal S8x4096x1024 .f32 :=
  Host.dotGeneral dot_S8x4096x512_S512x1024_S8x4096x1024_2_0_01_1_n_n none (refSgu a1 a2 a13 a14) (shapeCast _ (extractStridedSlice S1x512x1024 ![3, 0, 0] a15 slices_S4x512x1024_S1x512x1024_3_0_0) shapeCasts_S1x512x1024_S512x1024)

/-- The merged branches. -/
def refM (a0 : FVec Ideal S8x4096x1024 .f32) (a1 : FVec Ideal S8x4096x512 .f32) (a2 : FVec Ideal S8x4096x512 .f32) (a4 : FVec Ideal S8x4096x1024 .f32) (a5 : FVec Ideal S8x4096x512 .f32) (a7 : FVec Ideal S31x512 .f32) (a8 : FVec Ideal S512 .f32) (a9 : FVec Ideal S512 .f32) (a10 : FVec Ideal S512 .f32) (a11 : FVec Ideal S4x128x128 .f32) (a12 : FVec Ideal S512 .f32) (a13 : FVec Ideal S4x128x128 .f32) (a14 : FVec Ideal S4x128 .f32) (a15 : FVec Ideal S4x512x1024 .f32) (a16 : FVec Ideal S1024x4096 .f32) (a17 : FVec Ideal S4096 .f32) : FVec Ideal S8x4096x1024 .f32 :=
  addf (addf (addf (mulf (refGate0 a4 a16 a17) (refTerm0 a5 a15)) (mulf (refGate1 a4 a16 a17) (refTerm1 a0 a7 a8 a9 a10 a15))) (mulf (refGate2 a4 a16 a17) (refTerm2 a0 a11 a12 a15))) (mulf (refGate3 a4 a16 a17) (refTerm3 a1 a2 a13 a14 a15))

/-- The result. -/
def refZ (a0 : FVec Ideal S8x4096x1024 .f32) (a1 : FVec Ideal S8x4096x512 .f32) (a2 : FVec Ideal S8x4096x512 .f32) (a3 : FVec Ideal S8x4096x1024 .f32) (a4 : FVec Ideal S8x4096x1024 .f32) (a5 : FVec Ideal S8x4096x512 .f32) (a6 : FVec Ideal S8x1x6144 .f32) (a7 : FVec Ideal S31x512 .f32) (a8 : FVec Ideal S512 .f32) (a9 : FVec Ideal S512 .f32) (a10 : FVec Ideal S512 .f32) (a11 : FVec Ideal S4x128x128 .f32) (a12 : FVec Ideal S512 .f32) (a13 : FVec Ideal S4x128x128 .f32) (a14 : FVec Ideal S4x128 .f32) (a15 : FVec Ideal S4x512x1024 .f32) (a16 : FVec Ideal S1024x4096 .f32) (a17 : FVec Ideal S4096 .f32) (a18 : FVec Ideal S1024x1024 .f32) : FVec Ideal S8x4096x1024 .f32 :=
  addf a3 (mulf (broadcastInDim S8x4096x1024 ![0, 1, 2] bcast_S8x1x1024_S8x4096x1024_0_1_2 (extractStridedSlice S8x1x1024 ![0, 0, 2048] a6 slices_S8x1x6144_S8x1x1024_0_0_2048)) (Host.dotGeneral dot_S8x4096x1024_S1024x1024_S8x4096x1024_2_0_01_1_n_n none (refM a0 a1 a2 a4 a5 a7 a8 a9 a10 a11 a12 a13 a14 a15 a16 a17) a18))

end Cert.Reference3Ideal.Mix
-- ==== Proof.MixRun.lean ====
module

public import proofs.«01_k».proof.Proof.Gen.Reference3Ideal.Run
public import proofs.«01_k».proof.Proof.MixDefs

/-!
The third reference's run ends in its named term.
-/

@[expose] public section

set_option maxRecDepth 16384

noncomputable section

open Idealize.ShloMosaic Idealize.ShloMosaic.TcCoe Idealize.SL.Sem
open Idealize.ShloMosaic.Pipeline (Dat)

namespace Cert.Reference3Ideal.Mix
open Cert.Reference3Ideal Idealize.SL.Sem

set_option maxHeartbeats 8000000 in
theorem run_term (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v482) = refZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).1.trans rfl, (h c).2⟩) (Value.run (F := Ideal) m ρ)

end Cert.Reference3Ideal.Mix
-- ==== Proof.MixReads.lean ====
module

public import proofs.«01_k».proof.Proof.Gen.Kernel3Ideal.Value
public import Idealize.ShloMosaic.Lib.Pipeline.ReadBack
public import Idealize.ShloMosaic.Lib.Pipeline.ValueKit
public import Idealize.ShloMosaic.Lib.Pointwise
public import Idealize.ShloMosaic.Lib.Claim
public import proofs.«01_k».proof.Proof.MixMath

/-!
The blocks the merge reads at a grid point.
-/

@[expose] public section

set_option maxRecDepth 16384

noncomputable section

open Idealize.ShloMosaic Idealize.ShloMosaic.TcCoe Idealize.SL.Sem
open Idealize.ShloMosaic.Pipeline (Dat)

namespace Cert.Kernel3Ideal.Mix
open Cert.Kernel3Ideal Cert.Kernel3Ideal.Gen Cert.Mix

variable (m : (ℓ : Loc nD τ sig) → Buf (Elt Ideal) ℓ)

/-- The sample a grid point works on. -/
def smp (t : Fin cfg0.N) : Fin 8 := ⟨t.val / 8, by have : t.val < 64 := lt_of_lt_of_eq t.isLt (by decide); omega⟩

/-- Row `r` of the row block a grid point works on. -/
def row (t : Fin cfg0.N) (r : Fin 512) : Fin 4096 := ⟨t.val % 8 * 512 + r.val, by omega⟩

theorem idx : ∀ t : Fin cfg0.N, win0_0.index t = ![t.val / 8, t.val % 8, 0] ∧ win0_1.index t = ![t.val / 8, t.val % 8 * 32 - 1, 0]
    ∧ win0_2.index t = ![t.val / 8, min (t.val % 8 * 32 + 32) 255, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, 0, 0] ∧ win0_9.index t = ![0, 0] ∧ win0_10.index t = ![0, 0] ∧ win0_11.index t = ![0, 0]
    ∧ win0_12.index t = ![0, 0] ∧ win0_13.index t = ![0, 0, 0] ∧ win0_14.index t = ![0, 0] ∧ win0_15.index t = ![0, 0, 0]
    ∧ win0_16.index t = ![0, 0] ∧ win0_17.index t = ![0, 0] ∧ win0_18.index t = ![0, 0] ∧ win0_19.index t = ![0, 0, 0]
    ∧ win0_20.index t = ![0, 0] ∧ win0_21.index t = ![t.val / 8, t.val % 8, 0] :=
  (by decide +kernel : ∀ t : Fin grid0.N, _)

theorem coord1 : ∀ t : Fin cfg0.N, (grid0.coords t 1).val = t.val % 8 :=
  (by decide +kernel : ∀ t : Fin grid0.N, _)

theorem read0 (c : Dev nD) (t : Fin cfg0.N) (r : Fin 512) (k : Fin 1024) : (iblk m c 0 t (ix3 0 r k) : EReal)
    = m ((c.tc : Thread nD τ).loc main_arg0) (ix3 (smp t) (row t r) k) := by
  have ht : t.val < 64 := lt_of_lt_of_eq t.isLt (by decide)
  blk_point [iblk, V, idx t, smp, row]

theorem read1 (c : Dev nD) (t : Fin cfg0.N) (h : 0 < t.val % 8) (j : Fin 16) (k : Fin 1024) : (iblk m c 1 t (ix3 0 j k) : EReal)
    = m ((c.tc : Thread nD τ).loc main_arg0) (ix3 (smp t) ⟨t.val % 8 * 512 + j.val - 16, by omega⟩ k) := by
  have ht : t.val < 64 := lt_of_lt_of_eq t.isLt (by decide)
  blk_point [iblk, V, idx t, smp, row]

theorem read2 (c : Dev nD) (t : Fin cfg0.N) (h : t.val % 8 < 7) (j : Fin 16) (k : Fin 1024) : (iblk m c 2 t (ix3 0 j k) : EReal)
    = m ((c.tc : Thread nD τ).loc main_arg0) (ix3 (smp t) ⟨t.val % 8 * 512 + 512 + j.val, by omega⟩ k) := by
  have ht : t.val < 64 := lt_of_lt_of_eq t.isLt (by decide)
  blk_point [iblk, V, idx t, smp, row]

theorem read3 (c : Dev nD) (t : Fin cfg0.N) (r k : Fin 512) : (iblk m c 3 t (ix3 0 r k) : EReal)
    = m ((c.tc : Thread nD τ).loc main_arg1) (ix3 (smp t) (row t r) k) := by
  have ht : t.val < 64 := lt_of_lt_of_eq t.isLt (by decide)
  blk_point [iblk, V, idx t, smp, row]

theorem read4 (c : Dev nD) (t : Fin cfg0.N) (r k : Fin 512) : (iblk m c 4 t (ix3 0 r k) : EReal)
    = m ((c.tc : Thread nD τ).loc main_arg2) (ix3 (smp t) (row t r) k) := by
  have ht : t.val < 64 := lt_of_lt_of_eq t.isLt (by decide)
  blk_point [iblk, V, idx t, smp, row]

theorem read5 (c : Dev nD) (t : Fin cfg0.N) (r : Fin 512) (k : Fin 1024) : (iblk m c 5 t (ix3 0 r k) : EReal)
    = m ((c.tc : Thread nD τ).loc main_arg3) (ix3 (smp t) (row t r) k) := by
  have ht : t.val < 64 := lt_of_lt_of_eq t.isLt (by decide)
  blk_point [iblk, V, idx t, smp, row]

theorem read6 (c : Dev nD) (t : Fin cfg0.N) (r : Fin 512) (k : Fin 1024) : (iblk m c 6 t (ix3 0 r k) : EReal)
    = m ((c.tc : Thread nD τ).loc main_arg4) (ix3 (smp t) (row t r) k) := by
  have ht : t.val < 64 := lt_of_lt_of_eq t.isLt (by decide)
  blk_point [iblk, V, idx t, smp, row]

theorem read7 (c : Dev nD) (t : Fin cfg0.N) (r k : Fin 512) : (iblk m c 7 t (ix3 0 r k) : EReal)
    = m ((c.tc : Thread nD τ).loc main_arg5) (ix3 (smp t) (row t r) k) := by
  have ht : t.val < 64 := lt_of_lt_of_eq t.isLt (by decide)
  blk_point [iblk, V, idx t, smp, row]

theorem read8 (c : Dev nD) (t : Fin cfg0.N) (i : Fin 6) (k : Fin 1024) : (iblk m c 8 t (ix3 0 i k) : EReal)
    = m ((c.tc : Thread nD τ).loc main_arg6) (ix3 (smp t) 0 ⟨i.val * 1024 + k.val, by omega⟩) := by
  have ht : t.val < 64 := lt_of_lt_of_eq t.isLt (by decide)
  blk_point [iblk, V, idx t, smp, row]

theorem read9 (c : Dev nD) (t : Fin cfg0.N) (k : Fin 31) (q : Fin 512) : (iblk m c 9 t (ix2 k q) : EReal)
    = m ((c.tc : Thread nD τ).loc main_arg7) (ix2 k q) := by
  have ht : t.val < 64 := lt_of_lt_of_eq t.isLt (by decide)
  blk_point [iblk, V, idx t, smp, row]

theorem read10 (c : Dev nD) (t : Fin cfg0.N) (q : Fin 512) : (iblk m c 10 t (ix2 0 q) : EReal)
    = m ((c.tc : Thread nD τ).loc main_arg8) (ix1 q) := by
  have ht : t.val < 64 := lt_of_lt_of_eq t.isLt (by decide)
  blk_point [iblk, V, idx t, smp, row]

theorem read11 (c : Dev nD) (t : Fin cfg0.N) (q : Fin 512) : (iblk m c 11 t (ix2 0 q) : EReal)
    = m ((c.tc : Thread nD τ).loc main_arg9) (ix1 q) := by
  have ht : t.val < 64 := lt_of_lt_of_eq t.isLt (by decide)
  blk_point [iblk, V, idx t, smp, row]

theorem read12 (c : Dev nD) (t : Fin cfg0.N) (q : Fin 512) : (iblk m c 12 t (ix2 0 q) : EReal)
    = m ((c.tc : Thread nD τ).loc main_arg10) (ix1 q) := by
  have ht : t.val < 64 := lt_of_lt_of_eq t.isLt (by decide)
  blk_point [iblk, V, idx t, smp, row]

theorem read13 (c : Dev nD) (t : Fin cfg0.N) (g : Fin 4) (i j : Fin 128) : (iblk m c 13 t (ix3 g i j) : EReal)
    = m ((c.tc : Thread nD τ).loc main_arg11) (ix3 g i j) := by
  have ht : t.val < 64 := lt_of_lt_of_eq t.isLt (by decide)
  blk_point [iblk, V, idx t, smp, row]

theorem read14 (c : Dev nD) (t : Fin cfg0.N) (q : Fin 512) : (iblk m c 14 t (ix2 0 q) : EReal)
    = m ((c.tc : Thread nD τ).loc main_arg12) (ix1 q) := by
  have ht : t.val < 64 := lt_of_lt_of_eq t.isLt (by decide)
  blk_point [iblk, V, idx t, smp, row]

theorem read15 (c : Dev nD) (t : Fin cfg0.N) (g : Fin 4) (i j : Fin 128) : (iblk m c 15 t (ix3 g i j) : EReal)
    = m ((c.tc : Thread nD τ).loc main_arg13) (ix3 g i j) := by
  have ht : t.val < 64 := lt_of_lt_of_eq t.isLt (by decide)
  blk_point [iblk, V, idx t, smp, row]

theorem read16 (c : Dev nD) (t : Fin cfg0.N) (i : Fin 128) (g : Fin 4) (d : Fin 128) : (iblk m c 16 t (ix2 i ⟨g.val * 128 + d.val, by omega⟩) : EReal)
    = m ((c.tc : Thread nD τ).loc main_arg14) (ix2 g i) := by
  have ht : t.val < 64 := lt_of_lt_of_eq t.isLt (by decide)
  blk_point [iblk, V, idx t, smp, row]

theorem read17 (c : Dev nD) (t : Fin cfg0.N) (q : Fin 1024) (j : Fin 4096) : (iblk m c 17 t (ix2 q j) : EReal)
    = m ((c.tc : Thread nD τ).loc main_arg16) (ix2 q j) := by
  have ht : t.val < 64 := lt_of_lt_of_eq t.isLt (by decide)
  blk_point [iblk, V, idx t, smp, row]

theorem read18 (c : Dev nD) (t : Fin cfg0.N) (j : Fin 4096) : (iblk m c 18 t (ix2 0 j) : EReal)
    = m ((c.tc : Thread nD τ).loc main_arg17) (ix1 j) := by
  have ht : t.val < 64 := lt_of_lt_of_eq t.isLt (by decide)
  blk_point [iblk, V, idx t, smp, row]

theorem read20 (c : Dev nD) (t : Fin cfg0.N) (q k : Fin 1024) : (iblk m c 20 t (ix2 q k) : EReal)
    = m ((c.tc : Thread nD τ).loc main_arg18) (ix2 q k) := by
  have ht : t.val < 64 := lt_of_lt_of_eq t.isLt (by decide)
  blk_point [iblk, V, idx t, smp, row]

end Cert.Kernel3Ideal.Mix
-- ==== Proof.MixPay.lean ====
module

public import proofs.«01_k».proof.Proof.MixReads

/-!
The stages of the convolution's chains, at an entry: each adds products of a row and a tap to what came before.
-/

@[expose] public section

set_option maxRecDepth 16384

noncomputable section

open Idealize.ShloMosaic Idealize.ShloMosaic.TcCoe Idealize.SL.Sem
open Idealize.ShloMosaic.Pipeline (Dat)

namespace Cert.Kernel3Ideal.Mix
open Cert.Kernel3Ideal Cert.Kernel3Ideal.Gen Cert.Mix

/-- The gate of a position in one column of the gates' product. -/
def gateV (a4 : FVec Ideal S8x4096x1024 .f32) (a16 : FVec Ideal S1024x4096 .f32) (a17 : FVec Ideal S4096 .f32) (b : Fin 8) (s : Fin 4096) (j : Fin 4096) : EReal :=
  lgst ((∑ q : Fin 1024, (a4 (ix3 b s q) : EReal) * (a16 (ix2 q j) : EReal)) + (a17 (ix1 j) : EReal))

theorem pay13_at (v53 : Vec Ideal S1x512 .f32) (v57 : Vec Ideal S1x64x512 .f32) (v59 : Vec Ideal S1x512 .f32) (v63 : Vec Ideal S1x64x512 .f32) (v65 : Vec Ideal S1x512 .f32) (v69 : Vec Ideal S1x64x512 .f32) (v71 : Vec Ideal S1x512 .f32) (v75 : Vec Ideal S1x64x512 .f32) (v77 : Vec Ideal S1x512 .f32) (r : Fin 64) (k : Fin 512) : k0_pay13 v53 v57 v59 v63 v65 v69 v71 v75 v77 (ix2 r k) = (((((v53 (ix2 0 k) : EReal) + ((v57 (ix3 0 r k) : EReal) * (v59 (ix2 0 k) : EReal))) + ((v63 (ix3 0 r k) : EReal) * (v65 (ix2 0 k) : EReal))) + ((v69 (ix3 0 r k) : EReal) * (v71 (ix2 0 k) : EReal))) + ((v75 (ix3 0 r k) : EReal) * (v77 (ix2 0 k) : EReal))) := by
  pointwise [k0_pay13]
  try rfl

theorem pay14_at (v81 : Vec Ideal S1x64x512 .f32) (r : Fin 64) (k : Fin 512) : k0_pay14 v81 (ix2 r k) = (v81 (ix3 0 r k) : EReal) := by
  pointwise [k0_pay14]
  try rfl

theorem pay15_at (v80 : FVec Ideal S64x512 .f32) (v82 : FVec Ideal S64x512 .f32) (v83 : Vec Ideal S1x512 .f32) (v87 : Vec Ideal S1x64x512 .f32) (v89 : Vec Ideal S1x512 .f32) (v93 : Vec Ideal S1x64x512 .f32) (v95 : Vec Ideal S1x512 .f32) (v99 : Vec Ideal S64x512 .f32) (v100 : Vec Ideal S1x512 .f32) (v104 : Vec Ideal S1x64x512 .f32) (v106 : Vec Ideal S1x512 .f32) (v110 : Vec Ideal S1x64x512 .f32) (v112 : Vec Ideal S1x512 .f32) (r : Fin 64) (k : Fin 512) : k0_pay15 v80 v82 v83 v87 v89 v93 v95 v99 v100 v104 v106 v110 v112 (ix2 r k) = (((((((v80 (ix2 r k) : EReal) + ((v82 (ix2 r k) : EReal) * (v83 (ix2 0 k) : EReal))) + ((v87 (ix3 0 r k) : EReal) * (v89 (ix2 0 k) : EReal))) + ((v93 (ix3 0 r k) : EReal) * (v95 (ix2 0 k) : EReal))) + ((v99 (ix2 r k) : EReal) * (v100 (ix2 0 k) : EReal))) + ((v104 (ix3 0 r k) : EReal) * (v106 (ix2 0 k) : EReal))) + ((v110 (ix3 0 r k) : EReal) * (v112 (ix2 0 k) : EReal))) := by
  pointwise [k0_pay15]
  try rfl

theorem pay16_at (v115 : FVec Ideal S64x512 .f32) (v116 : Vec Ideal S1x64x512 .f32) (v118 : Vec Ideal S1x512 .f32) (v122 : Vec Ideal S1x64x512 .f32) (v124 : Vec Ideal S1x512 .f32) (v128 : Vec Ideal S1x64x512 .f32) (v130 : Vec Ideal S1x512 .f32) (v134 : Vec Ideal S1x64x512 .f32) (v136 : Vec Ideal S1x512 .f32) (v140 : Vec Ideal S1x64x512 .f32) (v142 : Vec Ideal S1x512 .f32) (r : Fin 64) (k : Fin 512) : k0_pay16 v115 v116 v118 v122 v124 v128 v130 v134 v136 v140 v142 (ix2 r k) = ((((((v115 (ix2 r k) : EReal) + ((v116 (ix3 0 r k) : EReal) * (v118 (ix2 0 k) : EReal))) + ((v122 (ix3 0 r k) : EReal) * (v124 (ix2 0 k) : EReal))) + ((v128 (ix3 0 r k) : EReal) * (v130 (ix2 0 k) : EReal))) + ((v134 (ix3 0 r k) : EReal) * (v136 (ix2 0 k) : EReal))) + ((v140 (ix3 0 r k) : EReal) * (v142 (ix2 0 k) : EReal))) := by
  pointwise [k0_pay16]
  try rfl

theorem pay17_at (v146 : Vec Ideal S64x512 .f32) (v147 : Vec Ideal S1x512 .f32) (r : Fin 64) (k : Fin 512) : k0_pay17 v146 v147 (ix2 r k) = ((v146 (ix2 r k) : EReal) * (v147 (ix2 0 k) : EReal)) := by
  pointwise [k0_pay17]
  try rfl

theorem pay18_at (v145 : FVec Ideal S64x512 .f32) (v149 : FVec Ideal S64x512 .f32) (v151 : Vec Ideal S1x64x512 .f32) (v153 : Vec Ideal S1x512 .f32) (v157 : Vec Ideal S1x64x512 .f32) (v159 : Vec Ideal S1x512 .f32) (v163 : Vec Ideal S1x64x512 .f32) (v165 : Vec Ideal S1x512 .f32) (v169 : Vec Ideal S1x64x512 .f32) (v171 : Vec Ideal S1x512 .f32) (v175 : Vec Ideal S1x64x512 .f32) (v177 : Vec Ideal S1x512 .f32) (r : Fin 64) (k : Fin 512) : k0_pay18 v145 v149 v151 v153 v157 v159 v163 v165 v169 v171 v175 v177 (ix2 r k) = (((((((v145 (ix2 r k) : EReal) + (v149 (ix2 r k) : EReal)) + ((v151 (ix3 0 r k) : EReal) * (v153 (ix2 0 k) : EReal))) + ((v157 (ix3 0 r k) : EReal) * (v159 (ix2 0 k) : EReal))) + ((v163 (ix3 0 r k) : EReal) * (v165 (ix2 0 k) : EReal))) + ((v169 (ix3 0 r k) : EReal) * (v171 (ix2 0 k) : EReal))) + ((v175 (ix3 0 r k) : EReal) * (v177 (ix2 0 k) : EReal))) := by
  pointwise [k0_pay18]
  try rfl

theorem pay19_at (v180 : FVec Ideal S64x512 .f32) (v181 : Vec Ideal S1x64x512 .f32) (v183 : Vec Ideal S1x512 .f32) (v187 : Vec Ideal S1x64x512 .f32) (v189 : Vec Ideal S1x512 .f32) (v193 : Vec Ideal S64x512 .f32) (v194 : Vec Ideal S1x512 .f32) (v198 : Vec Ideal S1x64x512 .f32) (v200 : Vec Ideal S1x512 .f32) (v204 : Vec Ideal S1x64x512 .f32) (v206 : Vec Ideal S1x512 .f32) (v210 : Vec Ideal S1x64x512 .f32) (v212 : Vec Ideal S1x512 .f32) (r : Fin 64) (k : Fin 512) : k0_pay19 v180 v181 v183 v187 v189 v193 v194 v198 v200 v204 v206 v210 v212 (ix2 r k) = (((((((v180 (ix2 r k) : EReal) + ((v181 (ix3 0 r k) : EReal) * (v183 (ix2 0 k) : EReal))) + ((v187 (ix3 0 r k) : EReal) * (v189 (ix2 0 k) : EReal))) + ((v193 (ix2 r k) : EReal) * (v194 (ix2 0 k) : EReal))) + ((v198 (ix3 0 r k) : EReal) * (v200 (ix2 0 k) : EReal))) + ((v204 (ix3 0 r k) : EReal) * (v206 (ix2 0 k) : EReal))) + ((v210 (ix3 0 r k) : EReal) * (v212 (ix2 0 k) : EReal))) := by
  pointwise [k0_pay19]
  try rfl

theorem pay20_at (v215 : FVec Ideal S64x512 .f32) (v216 : Vec Ideal S1x64x512 .f32) (v218 : Vec Ideal S1x512 .f32) (v222 : Vec Ideal S1x64x512 .f32) (v224 : Vec Ideal S1x512 .f32) (v228 : Vec Ideal S1x64x512 .f32) (v230 : Vec Ideal S1x512 .f32) (v234 : Vec Ideal S1x64x512 .f32) (v236 : Vec Ideal S1x512 .f32) (r : Fin 64) (k : Fin 512) : k0_pay20 v215 v216 v218 v222 v224 v228 v230 v234 v236 (ix2 r k) = (((((v215 (ix2 r k) : EReal) + ((v216 (ix3 0 r k) : EReal) * (v218 (ix2 0 k) : EReal))) + ((v222 (ix3 0 r k) : EReal) * (v224 (ix2 0 k) : EReal))) + ((v228 (ix3 0 r k) : EReal) * (v230 (ix2 0 k) : EReal))) + ((v234 (ix3 0 r k) : EReal) * (v236 (ix2 0 k) : EReal))) := by
  pointwise [k0_pay20]
  try rfl

theorem pay24_at (v257 : Vec Ideal S1x512 .f32) (v261 : Vec Ideal S1x64x512 .f32) (v263 : Vec Ideal S1x512 .f32) (v267 : Vec Ideal S1x64x512 .f32) (v269 : Vec Ideal S1x512 .f32) (v273 : Vec Ideal S1x64x512 .f32) (v275 : Vec Ideal S1x512 .f32) (r : Fin 64) (k : Fin 512) : k0_pay24 v257 v261 v263 v267 v269 v273 v275 (ix2 r k) = ((((v257 (ix2 0 k) : EReal) + ((v261 (ix3 0 r k) : EReal) * (v263 (ix2 0 k) : EReal))) + ((v267 (ix3 0 r k) : EReal) * (v269 (ix2 0 k) : EReal))) + ((v273 (ix3 0 r k) : EReal) * (v275 (ix2 0 k) : EReal))) := by
  pointwise [k0_pay24]
  try rfl

theorem pay25_at (v279 : Vec Ideal S1x64x512 .f32) (r : Fin 64) (k : Fin 512) : k0_pay25 v279 (ix2 r k) = (v279 (ix3 0 r k) : EReal) := by
  pointwise [k0_pay25]
  try rfl

theorem pay26_at (v278 : FVec Ideal S64x512 .f32) (v280 : FVec Ideal S64x512 .f32) (v281 : Vec Ideal S1x512 .f32) (v285 : Vec Ideal S1x64x512 .f32) (v287 : Vec Ideal S1x512 .f32) (v291 : Vec Ideal S1x64x512 .f32) (v293 : Vec Ideal S1x512 .f32) (v297 : Vec Ideal S1x64x512 .f32) (v299 : Vec Ideal S1x512 .f32) (v303 : Vec Ideal S64x512 .f32) (v304 : Vec Ideal S1x512 .f32) (v308 : Vec Ideal S1x64x512 .f32) (v310 : Vec Ideal S1x512 .f32) (r : Fin 64) (k : Fin 512) : k0_pay26 v278 v280 v281 v285 v287 v291 v293 v297 v299 v303 v304 v308 v310 (ix2 r k) = (((((((v278 (ix2 r k) : EReal) + ((v280 (ix2 r k) : EReal) * (v281 (ix2 0 k) : EReal))) + ((v285 (ix3 0 r k) : EReal) * (v287 (ix2 0 k) : EReal))) + ((v291 (ix3 0 r k) : EReal) * (v293 (ix2 0 k) : EReal))) + ((v297 (ix3 0 r k) : EReal) * (v299 (ix2 0 k) : EReal))) + ((v303 (ix2 r k) : EReal) * (v304 (ix2 0 k) : EReal))) + ((v308 (ix3 0 r k) : EReal) * (v310 (ix2 0 k) : EReal))) := by
  pointwise [k0_pay26]
  try rfl

theorem pay27_at (v313 : FVec Ideal S64x512 .f32) (v314 : Vec Ideal S1x64x512 .f32) (v316 : Vec Ideal S1x512 .f32) (v320 : Vec Ideal S1x64x512 .f32) (v322 : Vec Ideal S1x512 .f32) (v326 : Vec Ideal S1x64x512 .f32) (v328 : Vec Ideal S1x512 .f32) (v332 : Vec Ideal S1x64x512 .f32) (v334 : Vec Ideal S1x512 .f32) (v338 : Vec Ideal S1x64x512 .f32) (v340 : Vec Ideal S1x512 .f32) (r : Fin 64) (k : Fin 512) : k0_pay27 v313 v314 v316 v320 v322 v326 v328 v332 v334 v338 v340 (ix2 r k) = ((((((v313 (ix2 r k) : EReal) + ((v314 (ix3 0 r k) : EReal) * (v316 (ix2 0 k) : EReal))) + ((v320 (ix3 0 r k) : EReal) * (v322 (ix2 0 k) : EReal))) + ((v326 (ix3 0 r k) : EReal) * (v328 (ix2 0 k) : EReal))) + ((v332 (ix3 0 r k) : EReal) * (v334 (ix2 0 k) : EReal))) + ((v338 (ix3 0 r k) : EReal) * (v340 (ix2 0 k) : EReal))) := by
  pointwise [k0_pay27]
  try rfl

theorem pay28_at (v344 : Vec Ideal S1x64x512 .f32) (r : Fin 64) (k : Fin 512) : k0_pay28 v344 (ix2 r k) = (v344 (ix3 0 r k) : EReal) := by
  pointwise [k0_pay28]
  try rfl

theorem pay29_at (v343 : FVec Ideal S64x512 .f32) (v345 : FVec Ideal S64x512 .f32) (v346 : Vec Ideal S1x512 .f32) (v350 : Vec Ideal S64x512 .f32) (v351 : Vec Ideal S1x512 .f32) (v355 : Vec Ideal S1x64x512 .f32) (v357 : Vec Ideal S1x512 .f32) (v361 : Vec Ideal S1x64x512 .f32) (v363 : Vec Ideal S1x512 .f32) (v367 : Vec Ideal S1x64x512 .f32) (v369 : Vec Ideal S1x512 .f32) (v373 : Vec Ideal S1x64x512 .f32) (v375 : Vec Ideal S1x512 .f32) (r : Fin 64) (k : Fin 512) : k0_pay29 v343 v345 v346 v350 v351 v355 v357 v361 v363 v367 v369 v373 v375 (ix2 r k) = (((((((v343 (ix2 r k) : EReal) + ((v345 (ix2 r k) : EReal) * (v346 (ix2 0 k) : EReal))) + ((v350 (ix2 r k) : EReal) * (v351 (ix2 0 k) : EReal))) + ((v355 (ix3 0 r k) : EReal) * (v357 (ix2 0 k) : EReal))) + ((v361 (ix3 0 r k) : EReal) * (v363 (ix2 0 k) : EReal))) + ((v367 (ix3 0 r k) : EReal) * (v369 (ix2 0 k) : EReal))) + ((v373 (ix3 0 r k) : EReal) * (v375 (ix2 0 k) : EReal))) := by
  pointwise [k0_pay29]
  try rfl

theorem pay30_at (v378 : FVec Ideal S64x512 .f32) (v379 : Vec Ideal S1x64x512 .f32) (v381 : Vec Ideal S1x512 .f32) (v385 : Vec Ideal S1x64x512 .f32) (v387 : Vec Ideal S1x512 .f32) (v391 : Vec Ideal S1x64x512 .f32) (v393 : Vec Ideal S1x512 .f32) (v397 : Vec Ideal S64x512 .f32) (v398 : Vec Ideal S1x512 .f32) (v402 : Vec Ideal S1x64x512 .f32) (v404 : Vec Ideal S1x512 .f32) (r : Fin 64) (k : Fin 512) : k0_pay30 v378 v379 v381 v385 v387 v391 v393 v397 v398 v402 v404 (ix2 r k) = ((((((v378 (ix2 r k) : EReal) + ((v379 (ix3 0 r k) : EReal) * (v381 (ix2 0 k) : EReal))) + ((v385 (ix3 0 r k) : EReal) * (v387 (ix2 0 k) : EReal))) + ((v391 (ix3 0 r k) : EReal) * (v393 (ix2 0 k) : EReal))) + ((v397 (ix2 r k) : EReal) * (v398 (ix2 0 k) : EReal))) + ((v402 (ix3 0 r k) : EReal) * (v404 (ix2 0 k) : EReal))) := by
  pointwise [k0_pay30]
  try rfl

theorem pay31_at (v408 : Vec Ideal S1x64x512 .f32) (v410 : Vec Ideal S1x512 .f32) (r : Fin 64) (k : Fin 512) : k0_pay31 v408 v410 (ix2 r k) = ((v408 (ix3 0 r k) : EReal) * (v410 (ix2 0 k) : EReal)) := by
  pointwise [k0_pay31]
  try rfl

theorem pay32_at (v407 : FVec Ideal S64x512 .f32) (v412 : FVec Ideal S64x512 .f32) (v414 : Vec Ideal S1x64x512 .f32) (v416 : Vec Ideal S1x512 .f32) (v420 : Vec Ideal S1x64x512 .f32) (v422 : Vec Ideal S1x512 .f32) (v426 : Vec Ideal S1x64x512 .f32) (v428 : Vec Ideal S1x512 .f32) (v432 : Vec Ideal S1x64x512 .f32) (v434 : Vec Ideal S1x512 .f32) (v438 : Vec Ideal S1x64x512 .f32) (v440 : Vec Ideal S1x512 .f32) (r : Fin 64) (k : Fin 512) : k0_pay32 v407 v412 v414 v416 v420 v422 v426 v428 v432 v434 v438 v440 (ix2 r k) = (((((((v407 (ix2 r k) : EReal) + (v412 (ix2 r k) : EReal)) + ((v414 (ix3 0 r k) : EReal) * (v416 (ix2 0 k) : EReal))) + ((v420 (ix3 0 r k) : EReal) * (v422 (ix2 0 k) : EReal))) + ((v426 (ix3 0 r k) : EReal) * (v428 (ix2 0 k) : EReal))) + ((v432 (ix3 0 r k) : EReal) * (v434 (ix2 0 k) : EReal))) + ((v438 (ix3 0 r k) : EReal) * (v440 (ix2 0 k) : EReal))) := by
  pointwise [k0_pay32]
  try rfl

theorem pay33_at (v443 : FVec Ideal S64x512 .f32) (r : Fin 64) (k : Fin 512) : k0_pay33 v443 (ix2 r k) = (v443 (ix2 r k) : EReal) := by
  pointwise [k0_pay33]
  try rfl

theorem pay35_at (v461 : Vec Ideal S1x512 .f32) (v465 : Vec Ideal S1x64x512 .f32) (v467 : Vec Ideal S1x512 .f32) (v471 : Vec Ideal S1x64x512 .f32) (v473 : Vec Ideal S1x512 .f32) (r : Fin 64) (k : Fin 512) : k0_pay35 v461 v465 v467 v471 v473 (ix2 r k) = (((v461 (ix2 0 k) : EReal) + ((v465 (ix3 0 r k) : EReal) * (v467 (ix2 0 k) : EReal))) + ((v471 (ix3 0 r k) : EReal) * (v473 (ix2 0 k) : EReal))) := by
  pointwise [k0_pay35]
  try rfl

theorem pay36_at (v477 : Vec Ideal S1x64x512 .f32) (r : Fin 64) (k : Fin 512) : k0_pay36 v477 (ix2 r k) = (v477 (ix3 0 r k) : EReal) := by
  pointwise [k0_pay36]
  try rfl

theorem pay37_at (v476 : FVec Ideal S64x512 .f32) (v478 : FVec Ideal S64x512 .f32) (v479 : Vec Ideal S1x512 .f32) (v483 : Vec Ideal S1x64x512 .f32) (v485 : Vec Ideal S1x512 .f32) (v489 : Vec Ideal S1x64x512 .f32) (v491 : Vec Ideal S1x512 .f32) (v495 : Vec Ideal S1x64x512 .f32) (v497 : Vec Ideal S1x512 .f32) (v501 : Vec Ideal S1x64x512 .f32) (v503 : Vec Ideal S1x512 .f32) (v507 : Vec Ideal S64x512 .f32) (v508 : Vec Ideal S1x512 .f32) (r : Fin 64) (k : Fin 512) : k0_pay37 v476 v478 v479 v483 v485 v489 v491 v495 v497 v501 v503 v507 v508 (ix2 r k) = (((((((v476 (ix2 r k) : EReal) + ((v478 (ix2 r k) : EReal) * (v479 (ix2 0 k) : EReal))) + ((v483 (ix3 0 r k) : EReal) * (v485 (ix2 0 k) : EReal))) + ((v489 (ix3 0 r k) : EReal) * (v491 (ix2 0 k) : EReal))) + ((v495 (ix3 0 r k) : EReal) * (v497 (ix2 0 k) : EReal))) + ((v501 (ix3 0 r k) : EReal) * (v503 (ix2 0 k) : EReal))) + ((v507 (ix2 r k) : EReal) * (v508 (ix2 0 k) : EReal))) := by
  pointwise [k0_pay37]
  try rfl

theorem pay38_at (v511 : FVec Ideal S64x512 .f32) (v512 : Vec Ideal S1x64x512 .f32) (v514 : Vec Ideal S1x512 .f32) (v518 : Vec Ideal S1x64x512 .f32) (v520 : Vec Ideal S1x512 .f32) (v524 : Vec Ideal S1x64x512 .f32) (v526 : Vec Ideal S1x512 .f32) (v530 : Vec Ideal S1x64x512 .f32) (v532 : Vec Ideal S1x512 .f32) (v536 : Vec Ideal S1x64x512 .f32) (v538 : Vec Ideal S1x512 .f32) (r : Fin 64) (k : Fin 512) : k0_pay38 v511 v512 v514 v518 v520 v524 v526 v530 v532 v536 v538 (ix2 r k) = ((((((v511 (ix2 r k) : EReal) + ((v512 (ix3 0 r k) : EReal) * (v514 (ix2 0 k) : EReal))) + ((v518 (ix3 0 r k) : EReal) * (v520 (ix2 0 k) : EReal))) + ((v524 (ix3 0 r k) : EReal) * (v526 (ix2 0 k) : EReal))) + ((v530 (ix3 0 r k) : EReal) * (v532 (ix2 0 k) : EReal))) + ((v536 (ix3 0 r k) : EReal) * (v538 (ix2 0 k) : EReal))) := by
  pointwise [k0_pay38]
  try rfl

theorem pay39_at (v542 : Vec Ideal S1x64x512 .f32) (r : Fin 64) (k : Fin 512) : k0_pay39 v542 (ix2 r k) = (v542 (ix3 0 r k) : EReal) := by
  pointwise [k0_pay39]
  try rfl

theorem pay40_at (v541 : FVec Ideal S64x512 .f32) (v543 : FVec Ideal S64x512 .f32) (v544 : Vec Ideal S1x512 .f32) (v548 : Vec Ideal S1x64x512 .f32) (v550 : Vec Ideal S1x512 .f32) (v554 : Vec Ideal S64x512 .f32) (v555 : Vec Ideal S1x512 .f32) (v559 : Vec Ideal S1x64x512 .f32) (v561 : Vec Ideal S1x512 .f32) (v565 : Vec Ideal S1x64x512 .f32) (v567 : Vec Ideal S1x512 .f32) (v571 : Vec Ideal S1x64x512 .f32) (v573 : Vec Ideal S1x512 .f32) (r : Fin 64) (k : Fin 512) : k0_pay40 v541 v543 v544 v548 v550 v554 v555 v559 v561 v565 v567 v571 v573 (ix2 r k) = (((((((v541 (ix2 r k) : EReal) + ((v543 (ix2 r k) : EReal) * (v544 (ix2 0 k) : EReal))) + ((v548 (ix3 0 r k) : EReal) * (v550 (ix2 0 k) : EReal))) + ((v554 (ix2 r k) : EReal) * (v555 (ix2 0 k) : EReal))) + ((v559 (ix3 0 r k) : EReal) * (v561 (ix2 0 k) : EReal))) + ((v565 (ix3 0 r k) : EReal) * (v567 (ix2 0 k) : EReal))) + ((v571 (ix3 0 r k) : EReal) * (v573 (ix2 0 k) : EReal))) := by
  pointwise [k0_pay40]
  try rfl

theorem pay41_at (v576 : FVec Ideal S64x512 .f32) (v577 : Vec Ideal S1x64x512 .f32) (v579 : Vec Ideal S1x512 .f32) (v583 : Vec Ideal S1x64x512 .f32) (v585 : Vec Ideal S1x512 .f32) (v589 : Vec Ideal S1x64x512 .f32) (v591 : Vec Ideal S1x512 .f32) (v595 : Vec Ideal S1x64x512 .f32) (v597 : Vec Ideal S1x512 .f32) (v601 : Vec Ideal S64x512 .f32) (v602 : Vec Ideal S1x512 .f32) (r : Fin 64) (k : Fin 512) : k0_pay41 v576 v577 v579 v583 v585 v589 v591 v595 v597 v601 v602 (ix2 r k) = ((((((v576 (ix2 r k) : EReal) + ((v577 (ix3 0 r k) : EReal) * (v579 (ix2 0 k) : EReal))) + ((v583 (ix3 0 r k) : EReal) * (v585 (ix2 0 k) : EReal))) + ((v589 (ix3 0 r k) : EReal) * (v591 (ix2 0 k) : EReal))) + ((v595 (ix3 0 r k) : EReal) * (v597 (ix2 0 k) : EReal))) + ((v601 (ix2 r k) : EReal) * (v602 (ix2 0 k) : EReal))) := by
  pointwise [k0_pay41]
  try rfl

theorem pay42_at (v606 : Vec Ideal S1x64x512 .f32) (r : Fin 64) (k : Fin 512) : k0_pay42 v606 (ix2 r k) = (v606 (ix3 0 r k) : EReal) := by
  pointwise [k0_pay42]
  try rfl

theorem pay43_at (v608 : Vec Ideal S1x512 .f32) (r : Fin 64) (k : Fin 512) : k0_pay43 v608 (ix2 r k) = (v608 (ix2 0 k) : EReal) := by
  pointwise [k0_pay43]
  try rfl

theorem pay44_at (v605 : FVec Ideal S64x512 .f32) (v607 : FVec Ideal S64x512 .f32) (v609 : FVec Ideal S64x512 .f32) (v612 : Vec Ideal S1x64x512 .f32) (v614 : Vec Ideal S1x512 .f32) (v618 : Vec Ideal S1x64x512 .f32) (v620 : Vec Ideal S1x512 .f32) (v624 : Vec Ideal S1x64x512 .f32) (v626 : Vec Ideal S1x512 .f32) (v630 : Vec Ideal S1x64x512 .f32) (v632 : Vec Ideal S1x512 .f32) (v636 : Vec Ideal S1x64x512 .f32) (v638 : Vec Ideal S1x512 .f32) (r : Fin 64) (k : Fin 512) : k0_pay44 v605 v607 v609 v612 v614 v618 v620 v624 v626 v630 v632 v636 v638 (ix2 r k) = (((((((v605 (ix2 r k) : EReal) + ((v607 (ix2 r k) : EReal) * (v609 (ix2 r k) : EReal))) + ((v612 (ix3 0 r k) : EReal) * (v614 (ix2 0 k) : EReal))) + ((v618 (ix3 0 r k) : EReal) * (v620 (ix2 0 k) : EReal))) + ((v624 (ix3 0 r k) : EReal) * (v626 (ix2 0 k) : EReal))) + ((v630 (ix3 0 r k) : EReal) * (v632 (ix2 0 k) : EReal))) + ((v636 (ix3 0 r k) : EReal) * (v638 (ix2 0 k) : EReal))) := by
  pointwise [k0_pay44]
  try rfl

theorem pay45_at (v641 : FVec Ideal S64x512 .f32) (v642 : Vec Ideal S1x64x512 .f32) (v644 : Vec Ideal S1x512 .f32) (r : Fin 64) (k : Fin 512) : k0_pay45 v641 v642 v644 (ix2 r k) = ((v641 (ix2 r k) : EReal) + ((v642 (ix3 0 r k) : EReal) * (v644 (ix2 0 k) : EReal))) := by
  pointwise [k0_pay45]
  try rfl

theorem pay47_at (v665 : Vec Ideal S1x512 .f32) (v669 : Vec Ideal S1x64x512 .f32) (v671 : Vec Ideal S1x512 .f32) (r : Fin 64) (k : Fin 512) : k0_pay47 v665 v669 v671 (ix2 r k) = ((v665 (ix2 0 k) : EReal) + ((v669 (ix3 0 r k) : EReal) * (v671 (ix2 0 k) : EReal))) := by
  pointwise [k0_pay47]
  try rfl

theorem pay48_at (v674 : FVec Ideal S64x512 .f32) (v675 : Vec Ideal S1x64x512 .f32) (v677 : Vec Ideal S1x512 .f32) (v681 : Vec Ideal S1x64x512 .f32) (v683 : Vec Ideal S1x512 .f32) (v687 : Vec Ideal S1x64x512 .f32) (v689 : Vec Ideal S1x512 .f32) (v693 : Vec Ideal S1x64x512 .f32) (v695 : Vec Ideal S1x512 .f32) (v699 : Vec Ideal S1x64x512 .f32) (v701 : Vec Ideal S1x512 .f32) (r : Fin 64) (k : Fin 512) : k0_pay48 v674 v675 v677 v681 v683 v687 v689 v693 v695 v699 v701 (ix2 r k) = ((((((v674 (ix2 r k) : EReal) + ((v675 (ix3 0 r k) : EReal) * (v677 (ix2 0 k) : EReal))) + ((v681 (ix3 0 r k) : EReal) * (v683 (ix2 0 k) : EReal))) + ((v687 (ix3 0 r k) : EReal) * (v689 (ix2 0 k) : EReal))) + ((v693 (ix3 0 r k) : EReal) * (v695 (ix2 0 k) : EReal))) + ((v699 (ix3 0 r k) : EReal) * (v701 (ix2 0 k) : EReal))) := by
  pointwise [k0_pay48]
  try rfl

theorem pay49_at (v705 : Vec Ideal S1x64x512 .f32) (r : Fin 64) (k : Fin 512) : k0_pay49 v705 (ix2 r k) = (v705 (ix3 0 r k) : EReal) := by
  pointwise [k0_pay49]
  try rfl

theorem pay50_at (v707 : Vec Ideal S1x512 .f32) (r : Fin 64) (k : Fin 512) : k0_pay50 v707 (ix2 r k) = (v707 (ix2 0 k) : EReal) := by
  pointwise [k0_pay50]
  try rfl

theorem pay51_at (v704 : FVec Ideal S64x512 .f32) (v706 : FVec Ideal S64x512 .f32) (v708 : FVec Ideal S64x512 .f32) (v711 : Vec Ideal S64x512 .f32) (v712 : Vec Ideal S1x512 .f32) (v716 : Vec Ideal S1x64x512 .f32) (v718 : Vec Ideal S1x512 .f32) (v722 : Vec Ideal S1x64x512 .f32) (v724 : Vec Ideal S1x512 .f32) (v728 : Vec Ideal S1x64x512 .f32) (v730 : Vec Ideal S1x512 .f32) (v734 : Vec Ideal S1x64x512 .f32) (v736 : Vec Ideal S1x512 .f32) (r : Fin 64) (k : Fin 512) : k0_pay51 v704 v706 v708 v711 v712 v716 v718 v722 v724 v728 v730 v734 v736 (ix2 r k) = (((((((v704 (ix2 r k) : EReal) + ((v706 (ix2 r k) : EReal) * (v708 (ix2 r k) : EReal))) + ((v711 (ix2 r k) : EReal) * (v712 (ix2 0 k) : EReal))) + ((v716 (ix3 0 r k) : EReal) * (v718 (ix2 0 k) : EReal))) + ((v722 (ix3 0 r k) : EReal) * (v724 (ix2 0 k) : EReal))) + ((v728 (ix3 0 r k) : EReal) * (v730 (ix2 0 k) : EReal))) + ((v734 (ix3 0 r k) : EReal) * (v736 (ix2 0 k) : EReal))) := by
  pointwise [k0_pay51]
  try rfl

theorem pay52_at (v740 : Vec Ideal S1x64x512 .f32) (r : Fin 64) (k : Fin 512) : k0_pay52 v740 (ix2 r k) = (v740 (ix3 0 r k) : EReal) := by
  pointwise [k0_pay52]
  try rfl

theorem pay53_at (v739 : FVec Ideal S64x512 .f32) (v741 : FVec Ideal S64x512 .f32) (v742 : Vec Ideal S1x512 .f32) (v746 : Vec Ideal S1x64x512 .f32) (v748 : Vec Ideal S1x512 .f32) (v752 : Vec Ideal S1x64x512 .f32) (v754 : Vec Ideal S1x512 .f32) (v758 : Vec Ideal S64x512 .f32) (v759 : Vec Ideal S1x512 .f32) (v763 : Vec Ideal S1x64x512 .f32) (v765 : Vec Ideal S1x512 .f32) (v769 : Vec Ideal S1x64x512 .f32) (v771 : Vec Ideal S1x512 .f32) (r : Fin 64) (k : Fin 512) : k0_pay53 v739 v741 v742 v746 v748 v752 v754 v758 v759 v763 v765 v769 v771 (ix2 r k) = (((((((v739 (ix2 r k) : EReal) + ((v741 (ix2 r k) : EReal) * (v742 (ix2 0 k) : EReal))) + ((v746 (ix3 0 r k) : EReal) * (v748 (ix2 0 k) : EReal))) + ((v752 (ix3 0 r k) : EReal) * (v754 (ix2 0 k) : EReal))) + ((v758 (ix2 r k) : EReal) * (v759 (ix2 0 k) : EReal))) + ((v763 (ix3 0 r k) : EReal) * (v765 (ix2 0 k) : EReal))) + ((v769 (ix3 0 r k) : EReal) * (v771 (ix2 0 k) : EReal))) := by
  pointwise [k0_pay53]
  try rfl

theorem pay54_at (v774 : FVec Ideal S64x512 .f32) (v775 : Vec Ideal S1x64x512 .f32) (v777 : Vec Ideal S1x512 .f32) (v781 : Vec Ideal S1x64x512 .f32) (v783 : Vec Ideal S1x512 .f32) (v787 : Vec Ideal S1x64x512 .f32) (v789 : Vec Ideal S1x512 .f32) (v793 : Vec Ideal S1x64x512 .f32) (v795 : Vec Ideal S1x512 .f32) (v799 : Vec Ideal S1x64x512 .f32) (v801 : Vec Ideal S1x512 .f32) (r : Fin 64) (k : Fin 512) : k0_pay54 v774 v775 v777 v781 v783 v787 v789 v793 v795 v799 v801 (ix2 r k) = ((((((v774 (ix2 r k) : EReal) + ((v775 (ix3 0 r k) : EReal) * (v777 (ix2 0 k) : EReal))) + ((v781 (ix3 0 r k) : EReal) * (v783 (ix2 0 k) : EReal))) + ((v787 (ix3 0 r k) : EReal) * (v789 (ix2 0 k) : EReal))) + ((v793 (ix3 0 r k) : EReal) * (v795 (ix2 0 k) : EReal))) + ((v799 (ix3 0 r k) : EReal) * (v801 (ix2 0 k) : EReal))) := by
  pointwise [k0_pay54]
  try rfl

theorem pay55_at (v804 : FVec Ideal S64x512 .f32) (v805 : Vec Ideal S64x512 .f32) (v806 : Vec Ideal S1x512 .f32) (v810 : Vec Ideal S1x64x512 .f32) (v812 : Vec Ideal S1x512 .f32) (v816 : Vec Ideal S1x64x512 .f32) (v818 : Vec Ideal S1x512 .f32) (v822 : Vec Ideal S1x64x512 .f32) (v824 : Vec Ideal S1x512 .f32) (v828 : Vec Ideal S1x64x512 .f32) (v830 : Vec Ideal S1x512 .f32) (v834 : Vec Ideal S1x64x512 .f32) (v836 : Vec Ideal S1x512 .f32) (r : Fin 64) (k : Fin 512) : k0_pay55 v804 v805 v806 v810 v812 v816 v818 v822 v824 v828 v830 v834 v836 (ix2 r k) = (((((((v804 (ix2 r k) : EReal) + ((v805 (ix2 r k) : EReal) * (v806 (ix2 0 k) : EReal))) + ((v810 (ix3 0 r k) : EReal) * (v812 (ix2 0 k) : EReal))) + ((v816 (ix3 0 r k) : EReal) * (v818 (ix2 0 k) : EReal))) + ((v822 (ix3 0 r k) : EReal) * (v824 (ix2 0 k) : EReal))) + ((v828 (ix3 0 r k) : EReal) * (v830 (ix2 0 k) : EReal))) + ((v834 (ix3 0 r k) : EReal) * (v836 (ix2 0 k) : EReal))) := by
  pointwise [k0_pay55]
  try rfl

theorem pay56_at (v839 : FVec Ideal S64x512 .f32) (v840 : Vec Ideal S1x64x512 .f32) (v842 : Vec Ideal S1x512 .f32) (v846 : Vec Ideal S1x64x512 .f32) (v848 : Vec Ideal S1x512 .f32) (r : Fin 64) (k : Fin 512) : k0_pay56 v839 v840 v842 v846 v848 (ix2 r k) = (((v839 (ix2 r k) : EReal) + ((v840 (ix3 0 r k) : EReal) * (v842 (ix2 0 k) : EReal))) + ((v846 (ix3 0 r k) : EReal) * (v848 (ix2 0 k) : EReal))) := by
  pointwise [k0_pay56]
  try rfl

theorem pay58_at (v869 : Vec Ideal S1x512 .f32) (r : Fin 64) (k : Fin 512) : k0_pay58 v869 (ix2 r k) = (v869 (ix2 0 k) : EReal) := by
  pointwise [k0_pay58]
  try rfl

theorem pay59_at (v872 : FVec Ideal S64x512 .f32) (v873 : Vec Ideal S1x64x512 .f32) (v875 : Vec Ideal S1x512 .f32) (v879 : Vec Ideal S1x64x512 .f32) (v881 : Vec Ideal S1x512 .f32) (v885 : Vec Ideal S1x64x512 .f32) (v887 : Vec Ideal S1x512 .f32) (v891 : Vec Ideal S1x64x512 .f32) (v893 : Vec Ideal S1x512 .f32) (v897 : Vec Ideal S1x64x512 .f32) (v899 : Vec Ideal S1x512 .f32) (r : Fin 64) (k : Fin 512) : k0_pay59 v872 v873 v875 v879 v881 v885 v887 v891 v893 v897 v899 (ix2 r k) = ((((((v872 (ix2 r k) : EReal) + ((v873 (ix3 0 r k) : EReal) * (v875 (ix2 0 k) : EReal))) + ((v879 (ix3 0 r k) : EReal) * (v881 (ix2 0 k) : EReal))) + ((v885 (ix3 0 r k) : EReal) * (v887 (ix2 0 k) : EReal))) + ((v891 (ix3 0 r k) : EReal) * (v893 (ix2 0 k) : EReal))) + ((v897 (ix3 0 r k) : EReal) * (v899 (ix2 0 k) : EReal))) := by
  pointwise [k0_pay59]
  try rfl

theorem pay60_at (v903 : Vec Ideal S1x64x512 .f32) (r : Fin 64) (k : Fin 512) : k0_pay60 v903 (ix2 r k) = (v903 (ix3 0 r k) : EReal) := by
  pointwise [k0_pay60]
  try rfl

theorem pay61_at (v902 : FVec Ideal S64x512 .f32) (v904 : FVec Ideal S64x512 .f32) (v905 : Vec Ideal S1x512 .f32) (v909 : Vec Ideal S1x64x512 .f32) (v911 : Vec Ideal S1x512 .f32) (v915 : Vec Ideal S64x512 .f32) (v916 : Vec Ideal S1x512 .f32) (v920 : Vec Ideal S1x64x512 .f32) (v922 : Vec Ideal S1x512 .f32) (v926 : Vec Ideal S1x64x512 .f32) (v928 : Vec Ideal S1x512 .f32) (v932 : Vec Ideal S1x64x512 .f32) (v934 : Vec Ideal S1x512 .f32) (r : Fin 64) (k : Fin 512) : k0_pay61 v902 v904 v905 v909 v911 v915 v916 v920 v922 v926 v928 v932 v934 (ix2 r k) = (((((((v902 (ix2 r k) : EReal) + ((v904 (ix2 r k) : EReal) * (v905 (ix2 0 k) : EReal))) + ((v909 (ix3 0 r k) : EReal) * (v911 (ix2 0 k) : EReal))) + ((v915 (ix2 r k) : EReal) * (v916 (ix2 0 k) : EReal))) + ((v920 (ix3 0 r k) : EReal) * (v922 (ix2 0 k) : EReal))) + ((v926 (ix3 0 r k) : EReal) * (v928 (ix2 0 k) : EReal))) + ((v932 (ix3 0 r k) : EReal) * (v934 (ix2 0 k) : EReal))) := by
  pointwise [k0_pay61]
  try rfl

theorem pay62_at (v937 : FVec Ideal S64x512 .f32) (v938 : Vec Ideal S1x64x512 .f32) (v940 : Vec Ideal S1x512 .f32) (v944 : Vec Ideal S1x64x512 .f32) (v946 : Vec Ideal S1x512 .f32) (v950 : Vec Ideal S1x64x512 .f32) (v952 : Vec Ideal S1x512 .f32) (v956 : Vec Ideal S1x64x512 .f32) (v958 : Vec Ideal S1x512 .f32) (v962 : Vec Ideal S64x512 .f32) (v963 : Vec Ideal S1x512 .f32) (v967 : Vec Ideal S1x64x512 .f32) (v969 : Vec Ideal S1x512 .f32) (r : Fin 64) (k : Fin 512) : k0_pay62 v937 v938 v940 v944 v946 v950 v952 v956 v958 v962 v963 v967 v969 (ix2 r k) = (((((((v937 (ix2 r k) : EReal) + ((v938 (ix3 0 r k) : EReal) * (v940 (ix2 0 k) : EReal))) + ((v944 (ix3 0 r k) : EReal) * (v946 (ix2 0 k) : EReal))) + ((v950 (ix3 0 r k) : EReal) * (v952 (ix2 0 k) : EReal))) + ((v956 (ix3 0 r k) : EReal) * (v958 (ix2 0 k) : EReal))) + ((v962 (ix2 r k) : EReal) * (v963 (ix2 0 k) : EReal))) + ((v967 (ix3 0 r k) : EReal) * (v969 (ix2 0 k) : EReal))) := by
  pointwise [k0_pay62]
  try rfl

theorem pay63_at (v972 : FVec Ideal S64x512 .f32) (v973 : Vec Ideal S1x64x512 .f32) (v975 : Vec Ideal S1x512 .f32) (v979 : Vec Ideal S1x64x512 .f32) (v981 : Vec Ideal S1x512 .f32) (v985 : Vec Ideal S1x64x512 .f32) (v987 : Vec Ideal S1x512 .f32) (v991 : Vec Ideal S1x64x512 .f32) (v993 : Vec Ideal S1x512 .f32) (v997 : Vec Ideal S1x64x512 .f32) (v999 : Vec Ideal S1x512 .f32) (r : Fin 64) (k : Fin 512) : k0_pay63 v972 v973 v975 v979 v981 v985 v987 v991 v993 v997 v999 (ix2 r k) = ((((((v972 (ix2 r k) : EReal) + ((v973 (ix3 0 r k) : EReal) * (v975 (ix2 0 k) : EReal))) + ((v979 (ix3 0 r k) : EReal) * (v981 (ix2 0 k) : EReal))) + ((v985 (ix3 0 r k) : EReal) * (v987 (ix2 0 k) : EReal))) + ((v991 (ix3 0 r k) : EReal) * (v993 (ix2 0 k) : EReal))) + ((v997 (ix3 0 r k) : EReal) * (v999 (ix2 0 k) : EReal))) := by
  pointwise [k0_pay63]
  try rfl

theorem pay64_at (v1003 : Vec Ideal S1x64x512 .f32) (r : Fin 64) (k : Fin 512) : k0_pay64 v1003 (ix2 r k) = (v1003 (ix3 0 r k) : EReal) := by
  pointwise [k0_pay64]
  try rfl

theorem pay65_at (v1002 : FVec Ideal S64x512 .f32) (v1004 : FVec Ideal S64x512 .f32) (v1005 : Vec Ideal S1x512 .f32) (v1009 : Vec Ideal S64x512 .f32) (v1010 : Vec Ideal S1x512 .f32) (v1014 : Vec Ideal S1x64x512 .f32) (v1016 : Vec Ideal S1x512 .f32) (v1020 : Vec Ideal S1x64x512 .f32) (v1022 : Vec Ideal S1x512 .f32) (v1026 : Vec Ideal S1x64x512 .f32) (v1028 : Vec Ideal S1x512 .f32) (v1032 : Vec Ideal S1x64x512 .f32) (v1034 : Vec Ideal S1x512 .f32) (r : Fin 64) (k : Fin 512) : k0_pay65 v1002 v1004 v1005 v1009 v1010 v1014 v1016 v1020 v1022 v1026 v1028 v1032 v1034 (ix2 r k) = (((((((v1002 (ix2 r k) : EReal) + ((v1004 (ix2 r k) : EReal) * (v1005 (ix2 0 k) : EReal))) + ((v1009 (ix2 r k) : EReal) * (v1010 (ix2 0 k) : EReal))) + ((v1014 (ix3 0 r k) : EReal) * (v1016 (ix2 0 k) : EReal))) + ((v1020 (ix3 0 r k) : EReal) * (v1022 (ix2 0 k) : EReal))) + ((v1026 (ix3 0 r k) : EReal) * (v1028 (ix2 0 k) : EReal))) + ((v1032 (ix3 0 r k) : EReal) * (v1034 (ix2 0 k) : EReal))) := by
  pointwise [k0_pay65]
  try rfl

theorem pay66_at (v1037 : FVec Ideal S64x512 .f32) (v1038 : Vec Ideal S1x64x512 .f32) (v1040 : Vec Ideal S1x512 .f32) (v1044 : Vec Ideal S1x64x512 .f32) (v1046 : Vec Ideal S1x512 .f32) (v1050 : Vec Ideal S1x64x512 .f32) (v1052 : Vec Ideal S1x512 .f32) (r : Fin 64) (k : Fin 512) : k0_pay66 v1037 v1038 v1040 v1044 v1046 v1050 v1052 (ix2 r k) = ((((v1037 (ix2 r k) : EReal) + ((v1038 (ix3 0 r k) : EReal) * (v1040 (ix2 0 k) : EReal))) + ((v1044 (ix3 0 r k) : EReal) * (v1046 (ix2 0 k) : EReal))) + ((v1050 (ix3 0 r k) : EReal) * (v1052 (ix2 0 k) : EReal))) := by
  pointwise [k0_pay66]
  try rfl

theorem pay69_at (v1073 : Vec Ideal S1x512 .f32) (v1077 : Vec Ideal S1x64x512 .f32) (v1079 : Vec Ideal S1x512 .f32) (v1083 : Vec Ideal S1x64x512 .f32) (v1085 : Vec Ideal S1x512 .f32) (v1089 : Vec Ideal S1x64x512 .f32) (v1091 : Vec Ideal S1x512 .f32) (v1095 : Vec Ideal S1x64x512 .f32) (v1097 : Vec Ideal S1x512 .f32) (r : Fin 64) (k : Fin 512) : k0_pay69 v1073 v1077 v1079 v1083 v1085 v1089 v1091 v1095 v1097 (ix2 r k) = (((((v1073 (ix2 0 k) : EReal) + ((v1077 (ix3 0 r k) : EReal) * (v1079 (ix2 0 k) : EReal))) + ((v1083 (ix3 0 r k) : EReal) * (v1085 (ix2 0 k) : EReal))) + ((v1089 (ix3 0 r k) : EReal) * (v1091 (ix2 0 k) : EReal))) + ((v1095 (ix3 0 r k) : EReal) * (v1097 (ix2 0 k) : EReal))) := by
  pointwise [k0_pay69]
  try rfl

theorem pay70_at (v1101 : Vec Ideal S1x64x512 .f32) (r : Fin 64) (k : Fin 512) : k0_pay70 v1101 (ix2 r k) = (v1101 (ix3 0 r k) : EReal) := by
  pointwise [k0_pay70]
  try rfl

theorem pay71_at (v1100 : FVec Ideal S64x512 .f32) (v1102 : FVec Ideal S64x512 .f32) (v1103 : Vec Ideal S1x512 .f32) (v1107 : Vec Ideal S1x64x512 .f32) (v1109 : Vec Ideal S1x512 .f32) (v1113 : Vec Ideal S1x64x512 .f32) (v1115 : Vec Ideal S1x512 .f32) (v1119 : Vec Ideal S64x512 .f32) (v1120 : Vec Ideal S1x512 .f32) (v1124 : Vec Ideal S1x64x512 .f32) (v1126 : Vec Ideal S1x512 .f32) (v1130 : Vec Ideal S1x64x512 .f32) (v1132 : Vec Ideal S1x512 .f32) (r : Fin 64) (k : Fin 512) : k0_pay71 v1100 v1102 v1103 v1107 v1109 v1113 v1115 v1119 v1120 v1124 v1126 v1130 v1132 (ix2 r k) = (((((((v1100 (ix2 r k) : EReal) + ((v1102 (ix2 r k) : EReal) * (v1103 (ix2 0 k) : EReal))) + ((v1107 (ix3 0 r k) : EReal) * (v1109 (ix2 0 k) : EReal))) + ((v1113 (ix3 0 r k) : EReal) * (v1115 (ix2 0 k) : EReal))) + ((v1119 (ix2 r k) : EReal) * (v1120 (ix2 0 k) : EReal))) + ((v1124 (ix3 0 r k) : EReal) * (v1126 (ix2 0 k) : EReal))) + ((v1130 (ix3 0 r k) : EReal) * (v1132 (ix2 0 k) : EReal))) := by
  pointwise [k0_pay71]
  try rfl

theorem pay72_at (v1135 : FVec Ideal S64x512 .f32) (v1136 : Vec Ideal S1x64x512 .f32) (v1138 : Vec Ideal S1x512 .f32) (v1142 : Vec Ideal S1x64x512 .f32) (v1144 : Vec Ideal S1x512 .f32) (v1148 : Vec Ideal S1x64x512 .f32) (v1150 : Vec Ideal S1x512 .f32) (v1154 : Vec Ideal S1x64x512 .f32) (v1156 : Vec Ideal S1x512 .f32) (v1160 : Vec Ideal S1x64x512 .f32) (v1162 : Vec Ideal S1x512 .f32) (r : Fin 64) (k : Fin 512) : k0_pay72 v1135 v1136 v1138 v1142 v1144 v1148 v1150 v1154 v1156 v1160 v1162 (ix2 r k) = ((((((v1135 (ix2 r k) : EReal) + ((v1136 (ix3 0 r k) : EReal) * (v1138 (ix2 0 k) : EReal))) + ((v1142 (ix3 0 r k) : EReal) * (v1144 (ix2 0 k) : EReal))) + ((v1148 (ix3 0 r k) : EReal) * (v1150 (ix2 0 k) : EReal))) + ((v1154 (ix3 0 r k) : EReal) * (v1156 (ix2 0 k) : EReal))) + ((v1160 (ix3 0 r k) : EReal) * (v1162 (ix2 0 k) : EReal))) := by
  pointwise [k0_pay72]
  try rfl

theorem pay73_at (v1166 : Vec Ideal S64x512 .f32) (v1167 : Vec Ideal S1x512 .f32) (r : Fin 64) (k : Fin 512) : k0_pay73 v1166 v1167 (ix2 r k) = ((v1166 (ix2 r k) : EReal) * (v1167 (ix2 0 k) : EReal)) := by
  pointwise [k0_pay73]
  try rfl

theorem pay74_at (v1165 : FVec Ideal S64x512 .f32) (v1169 : FVec Ideal S64x512 .f32) (v1171 : Vec Ideal S1x64x512 .f32) (v1173 : Vec Ideal S1x512 .f32) (v1177 : Vec Ideal S1x64x512 .f32) (v1179 : Vec Ideal S1x512 .f32) (v1183 : Vec Ideal S1x64x512 .f32) (v1185 : Vec Ideal S1x512 .f32) (v1189 : Vec Ideal S1x64x512 .f32) (v1191 : Vec Ideal S1x512 .f32) (v1195 : Vec Ideal S1x64x512 .f32) (v1197 : Vec Ideal S1x512 .f32) (r : Fin 64) (k : Fin 512) : k0_pay74 v1165 v1169 v1171 v1173 v1177 v1179 v1183 v1185 v1189 v1191 v1195 v1197 (ix2 r k) = (((((((v1165 (ix2 r k) : EReal) + (v1169 (ix2 r k) : EReal)) + ((v1171 (ix3 0 r k) : EReal) * (v1173 (ix2 0 k) : EReal))) + ((v1177 (ix3 0 r k) : EReal) * (v1179 (ix2 0 k) : EReal))) + ((v1183 (ix3 0 r k) : EReal) * (v1185 (ix2 0 k) : EReal))) + ((v1189 (ix3 0 r k) : EReal) * (v1191 (ix2 0 k) : EReal))) + ((v1195 (ix3 0 r k) : EReal) * (v1197 (ix2 0 k) : EReal))) := by
  pointwise [k0_pay74]
  try rfl

theorem pay75_at (v1200 : FVec Ideal S64x512 .f32) (v1201 : Vec Ideal S1x64x512 .f32) (v1203 : Vec Ideal S1x512 .f32) (v1207 : Vec Ideal S1x64x512 .f32) (v1209 : Vec Ideal S1x512 .f32) (v1213 : Vec Ideal S64x512 .f32) (v1214 : Vec Ideal S1x512 .f32) (v1218 : Vec Ideal S1x64x512 .f32) (v1220 : Vec Ideal S1x512 .f32) (v1224 : Vec Ideal S1x64x512 .f32) (v1226 : Vec Ideal S1x512 .f32) (v1230 : Vec Ideal S1x64x512 .f32) (v1232 : Vec Ideal S1x512 .f32) (r : Fin 64) (k : Fin 512) : k0_pay75 v1200 v1201 v1203 v1207 v1209 v1213 v1214 v1218 v1220 v1224 v1226 v1230 v1232 (ix2 r k) = (((((((v1200 (ix2 r k) : EReal) + ((v1201 (ix3 0 r k) : EReal) * (v1203 (ix2 0 k) : EReal))) + ((v1207 (ix3 0 r k) : EReal) * (v1209 (ix2 0 k) : EReal))) + ((v1213 (ix2 r k) : EReal) * (v1214 (ix2 0 k) : EReal))) + ((v1218 (ix3 0 r k) : EReal) * (v1220 (ix2 0 k) : EReal))) + ((v1224 (ix3 0 r k) : EReal) * (v1226 (ix2 0 k) : EReal))) + ((v1230 (ix3 0 r k) : EReal) * (v1232 (ix2 0 k) : EReal))) := by
  pointwise [k0_pay75]
  try rfl

theorem pay76_at (v1235 : FVec Ideal S64x512 .f32) (v1236 : Vec Ideal S1x64x512 .f32) (v1238 : Vec Ideal S1x512 .f32) (v1242 : Vec Ideal S1x64x512 .f32) (v1244 : Vec Ideal S1x512 .f32) (v1248 : Vec Ideal S1x64x512 .f32) (v1250 : Vec Ideal S1x512 .f32) (v1254 : Vec Ideal S1x64x512 .f32) (v1256 : Vec Ideal S1x512 .f32) (r : Fin 64) (k : Fin 512) : k0_pay76 v1235 v1236 v1238 v1242 v1244 v1248 v1250 v1254 v1256 (ix2 r k) = (((((v1235 (ix2 r k) : EReal) + ((v1236 (ix3 0 r k) : EReal) * (v1238 (ix2 0 k) : EReal))) + ((v1242 (ix3 0 r k) : EReal) * (v1244 (ix2 0 k) : EReal))) + ((v1248 (ix3 0 r k) : EReal) * (v1250 (ix2 0 k) : EReal))) + ((v1254 (ix3 0 r k) : EReal) * (v1256 (ix2 0 k) : EReal))) := by
  pointwise [k0_pay76]
  try rfl

theorem pay80_at (v1277 : Vec Ideal S1x512 .f32) (v1281 : Vec Ideal S1x64x512 .f32) (v1283 : Vec Ideal S1x512 .f32) (v1287 : Vec Ideal S1x64x512 .f32) (v1289 : Vec Ideal S1x512 .f32) (v1293 : Vec Ideal S1x64x512 .f32) (v1295 : Vec Ideal S1x512 .f32) (r : Fin 64) (k : Fin 512) : k0_pay80 v1277 v1281 v1283 v1287 v1289 v1293 v1295 (ix2 r k) = ((((v1277 (ix2 0 k) : EReal) + ((v1281 (ix3 0 r k) : EReal) * (v1283 (ix2 0 k) : EReal))) + ((v1287 (ix3 0 r k) : EReal) * (v1289 (ix2 0 k) : EReal))) + ((v1293 (ix3 0 r k) : EReal) * (v1295 (ix2 0 k) : EReal))) := by
  pointwise [k0_pay80]
  try rfl

theorem pay81_at (v1299 : Vec Ideal S1x64x512 .f32) (r : Fin 64) (k : Fin 512) : k0_pay81 v1299 (ix2 r k) = (v1299 (ix3 0 r k) : EReal) := by
  pointwise [k0_pay81]
  try rfl

theorem pay82_at (v1298 : FVec Ideal S64x512 .f32) (v1300 : FVec Ideal S64x512 .f32) (v1301 : Vec Ideal S1x512 .f32) (v1305 : Vec Ideal S1x64x512 .f32) (v1307 : Vec Ideal S1x512 .f32) (v1311 : Vec Ideal S1x64x512 .f32) (v1313 : Vec Ideal S1x512 .f32) (v1317 : Vec Ideal S1x64x512 .f32) (v1319 : Vec Ideal S1x512 .f32) (v1323 : Vec Ideal S64x512 .f32) (v1324 : Vec Ideal S1x512 .f32) (v1328 : Vec Ideal S1x64x512 .f32) (v1330 : Vec Ideal S1x512 .f32) (r : Fin 64) (k : Fin 512) : k0_pay82 v1298 v1300 v1301 v1305 v1307 v1311 v1313 v1317 v1319 v1323 v1324 v1328 v1330 (ix2 r k) = (((((((v1298 (ix2 r k) : EReal) + ((v1300 (ix2 r k) : EReal) * (v1301 (ix2 0 k) : EReal))) + ((v1305 (ix3 0 r k) : EReal) * (v1307 (ix2 0 k) : EReal))) + ((v1311 (ix3 0 r k) : EReal) * (v1313 (ix2 0 k) : EReal))) + ((v1317 (ix3 0 r k) : EReal) * (v1319 (ix2 0 k) : EReal))) + ((v1323 (ix2 r k) : EReal) * (v1324 (ix2 0 k) : EReal))) + ((v1328 (ix3 0 r k) : EReal) * (v1330 (ix2 0 k) : EReal))) := by
  pointwise [k0_pay82]
  try rfl

theorem pay83_at (v1333 : FVec Ideal S64x512 .f32) (v1334 : Vec Ideal S1x64x512 .f32) (v1336 : Vec Ideal S1x512 .f32) (v1340 : Vec Ideal S1x64x512 .f32) (v1342 : Vec Ideal S1x512 .f32) (v1346 : Vec Ideal S1x64x512 .f32) (v1348 : Vec Ideal S1x512 .f32) (v1352 : Vec Ideal S1x64x512 .f32) (v1354 : Vec Ideal S1x512 .f32) (v1358 : Vec Ideal S1x64x512 .f32) (v1360 : Vec Ideal S1x512 .f32) (r : Fin 64) (k : Fin 512) : k0_pay83 v1333 v1334 v1336 v1340 v1342 v1346 v1348 v1352 v1354 v1358 v1360 (ix2 r k) = ((((((v1333 (ix2 r k) : EReal) + ((v1334 (ix3 0 r k) : EReal) * (v1336 (ix2 0 k) : EReal))) + ((v1340 (ix3 0 r k) : EReal) * (v1342 (ix2 0 k) : EReal))) + ((v1346 (ix3 0 r k) : EReal) * (v1348 (ix2 0 k) : EReal))) + ((v1352 (ix3 0 r k) : EReal) * (v1354 (ix2 0 k) : EReal))) + ((v1358 (ix3 0 r k) : EReal) * (v1360 (ix2 0 k) : EReal))) := by
  pointwise [k0_pay83]
  try rfl

theorem pay84_at (v1364 : Vec Ideal S1x64x512 .f32) (r : Fin 64) (k : Fin 512) : k0_pay84 v1364 (ix2 r k) = (v1364 (ix3 0 r k) : EReal) := by
  pointwise [k0_pay84]
  try rfl

theorem pay85_at (v1363 : FVec Ideal S64x512 .f32) (v1365 : FVec Ideal S64x512 .f32) (v1366 : Vec Ideal S1x512 .f32) (v1370 : Vec Ideal S64x512 .f32) (v1371 : Vec Ideal S1x512 .f32) (v1375 : Vec Ideal S1x64x512 .f32) (v1377 : Vec Ideal S1x512 .f32) (v1381 : Vec Ideal S1x64x512 .f32) (v1383 : Vec Ideal S1x512 .f32) (v1387 : Vec Ideal S1x64x512 .f32) (v1389 : Vec Ideal S1x512 .f32) (v1393 : Vec Ideal S1x64x512 .f32) (v1395 : Vec Ideal S1x512 .f32) (r : Fin 64) (k : Fin 512) : k0_pay85 v1363 v1365 v1366 v1370 v1371 v1375 v1377 v1381 v1383 v1387 v1389 v1393 v1395 (ix2 r k) = (((((((v1363 (ix2 r k) : EReal) + ((v1365 (ix2 r k) : EReal) * (v1366 (ix2 0 k) : EReal))) + ((v1370 (ix2 r k) : EReal) * (v1371 (ix2 0 k) : EReal))) + ((v1375 (ix3 0 r k) : EReal) * (v1377 (ix2 0 k) : EReal))) + ((v1381 (ix3 0 r k) : EReal) * (v1383 (ix2 0 k) : EReal))) + ((v1387 (ix3 0 r k) : EReal) * (v1389 (ix2 0 k) : EReal))) + ((v1393 (ix3 0 r k) : EReal) * (v1395 (ix2 0 k) : EReal))) := by
  pointwise [k0_pay85]
  try rfl

theorem pay86_at (v1398 : FVec Ideal S64x512 .f32) (v1399 : Vec Ideal S1x64x512 .f32) (v1401 : Vec Ideal S1x512 .f32) (v1405 : Vec Ideal S1x64x512 .f32) (v1407 : Vec Ideal S1x512 .f32) (v1411 : Vec Ideal S1x64x512 .f32) (v1413 : Vec Ideal S1x512 .f32) (v1417 : Vec Ideal S64x512 .f32) (v1418 : Vec Ideal S1x512 .f32) (v1422 : Vec Ideal S1x64x512 .f32) (v1424 : Vec Ideal S1x512 .f32) (r : Fin 64) (k : Fin 512) : k0_pay86 v1398 v1399 v1401 v1405 v1407 v1411 v1413 v1417 v1418 v1422 v1424 (ix2 r k) = ((((((v1398 (ix2 r k) : EReal) + ((v1399 (ix3 0 r k) : EReal) * (v1401 (ix2 0 k) : EReal))) + ((v1405 (ix3 0 r k) : EReal) * (v1407 (ix2 0 k) : EReal))) + ((v1411 (ix3 0 r k) : EReal) * (v1413 (ix2 0 k) : EReal))) + ((v1417 (ix2 r k) : EReal) * (v1418 (ix2 0 k) : EReal))) + ((v1422 (ix3 0 r k) : EReal) * (v1424 (ix2 0 k) : EReal))) := by
  pointwise [k0_pay86]
  try rfl

theorem pay87_at (v1428 : Vec Ideal S1x64x512 .f32) (v1430 : Vec Ideal S1x512 .f32) (r : Fin 64) (k : Fin 512) : k0_pay87 v1428 v1430 (ix2 r k) = ((v1428 (ix3 0 r k) : EReal) * (v1430 (ix2 0 k) : EReal)) := by
  pointwise [k0_pay87]
  try rfl

theorem pay88_at (v1427 : FVec Ideal S64x512 .f32) (v1432 : FVec Ideal S64x512 .f32) (v1434 : Vec Ideal S1x64x512 .f32) (v1436 : Vec Ideal S1x512 .f32) (v1440 : Vec Ideal S1x64x512 .f32) (v1442 : Vec Ideal S1x512 .f32) (v1446 : Vec Ideal S1x64x512 .f32) (v1448 : Vec Ideal S1x512 .f32) (v1452 : Vec Ideal S1x64x512 .f32) (v1454 : Vec Ideal S1x512 .f32) (v1458 : Vec Ideal S1x64x512 .f32) (v1460 : Vec Ideal S1x512 .f32) (r : Fin 64) (k : Fin 512) : k0_pay88 v1427 v1432 v1434 v1436 v1440 v1442 v1446 v1448 v1452 v1454 v1458 v1460 (ix2 r k) = (((((((v1427 (ix2 r k) : EReal) + (v1432 (ix2 r k) : EReal)) + ((v1434 (ix3 0 r k) : EReal) * (v1436 (ix2 0 k) : EReal))) + ((v1440 (ix3 0 r k) : EReal) * (v1442 (ix2 0 k) : EReal))) + ((v1446 (ix3 0 r k) : EReal) * (v1448 (ix2 0 k) : EReal))) + ((v1452 (ix3 0 r k) : EReal) * (v1454 (ix2 0 k) : EReal))) + ((v1458 (ix3 0 r k) : EReal) * (v1460 (ix2 0 k) : EReal))) := by
  pointwise [k0_pay88]
  try rfl

theorem pay89_at (v1463 : FVec Ideal S64x512 .f32) (r : Fin 64) (k : Fin 512) : k0_pay89 v1463 (ix2 r k) = (v1463 (ix2 r k) : EReal) := by
  pointwise [k0_pay89]
  try rfl

theorem pay91_at (v1481 : Vec Ideal S1x512 .f32) (v1485 : Vec Ideal S1x64x512 .f32) (v1487 : Vec Ideal S1x512 .f32) (v1491 : Vec Ideal S1x64x512 .f32) (v1493 : Vec Ideal S1x512 .f32) (r : Fin 64) (k : Fin 512) : k0_pay91 v1481 v1485 v1487 v1491 v1493 (ix2 r k) = (((v1481 (ix2 0 k) : EReal) + ((v1485 (ix3 0 r k) : EReal) * (v1487 (ix2 0 k) : EReal))) + ((v1491 (ix3 0 r k) : EReal) * (v1493 (ix2 0 k) : EReal))) := by
  pointwise [k0_pay91]
  try rfl

theorem pay92_at (v1497 : Vec Ideal S1x64x512 .f32) (r : Fin 64) (k : Fin 512) : k0_pay92 v1497 (ix2 r k) = (v1497 (ix3 0 r k) : EReal) := by
  pointwise [k0_pay92]
  try rfl

theorem pay93_at (v1496 : FVec Ideal S64x512 .f32) (v1498 : FVec Ideal S64x512 .f32) (v1499 : Vec Ideal S1x512 .f32) (v1503 : Vec Ideal S1x64x512 .f32) (v1505 : Vec Ideal S1x512 .f32) (v1509 : Vec Ideal S1x64x512 .f32) (v1511 : Vec Ideal S1x512 .f32) (v1515 : Vec Ideal S1x64x512 .f32) (v1517 : Vec Ideal S1x512 .f32) (v1521 : Vec Ideal S1x64x512 .f32) (v1523 : Vec Ideal S1x512 .f32) (v1527 : Vec Ideal S64x512 .f32) (v1528 : Vec Ideal S1x512 .f32) (r : Fin 64) (k : Fin 512) : k0_pay93 v1496 v1498 v1499 v1503 v1505 v1509 v1511 v1515 v1517 v1521 v1523 v1527 v1528 (ix2 r k) = (((((((v1496 (ix2 r k) : EReal) + ((v1498 (ix2 r k) : EReal) * (v1499 (ix2 0 k) : EReal))) + ((v1503 (ix3 0 r k) : EReal) * (v1505 (ix2 0 k) : EReal))) + ((v1509 (ix3 0 r k) : EReal) * (v1511 (ix2 0 k) : EReal))) + ((v1515 (ix3 0 r k) : EReal) * (v1517 (ix2 0 k) : EReal))) + ((v1521 (ix3 0 r k) : EReal) * (v1523 (ix2 0 k) : EReal))) + ((v1527 (ix2 r k) : EReal) * (v1528 (ix2 0 k) : EReal))) := by
  pointwise [k0_pay93]
  try rfl

theorem pay94_at (v1531 : FVec Ideal S64x512 .f32) (v1532 : Vec Ideal S1x64x512 .f32) (v1534 : Vec Ideal S1x512 .f32) (v1538 : Vec Ideal S1x64x512 .f32) (v1540 : Vec Ideal S1x512 .f32) (v1544 : Vec Ideal S1x64x512 .f32) (v1546 : Vec Ideal S1x512 .f32) (v1550 : Vec Ideal S1x64x512 .f32) (v1552 : Vec Ideal S1x512 .f32) (v1556 : Vec Ideal S1x64x512 .f32) (v1558 : Vec Ideal S1x512 .f32) (r : Fin 64) (k : Fin 512) : k0_pay94 v1531 v1532 v1534 v1538 v1540 v1544 v1546 v1550 v1552 v1556 v1558 (ix2 r k) = ((((((v1531 (ix2 r k) : EReal) + ((v1532 (ix3 0 r k) : EReal) * (v1534 (ix2 0 k) : EReal))) + ((v1538 (ix3 0 r k) : EReal) * (v1540 (ix2 0 k) : EReal))) + ((v1544 (ix3 0 r k) : EReal) * (v1546 (ix2 0 k) : EReal))) + ((v1550 (ix3 0 r k) : EReal) * (v1552 (ix2 0 k) : EReal))) + ((v1556 (ix3 0 r k) : EReal) * (v1558 (ix2 0 k) : EReal))) := by
  pointwise [k0_pay94]
  try rfl

theorem pay95_at (v1562 : Vec Ideal S1x64x512 .f32) (r : Fin 64) (k : Fin 512) : k0_pay95 v1562 (ix2 r k) = (v1562 (ix3 0 r k) : EReal) := by
  pointwise [k0_pay95]
  try rfl

theorem pay96_at (v1561 : FVec Ideal S64x512 .f32) (v1563 : FVec Ideal S64x512 .f32) (v1564 : Vec Ideal S1x512 .f32) (v1568 : Vec Ideal S1x64x512 .f32) (v1570 : Vec Ideal S1x512 .f32) (v1574 : Vec Ideal S64x512 .f32) (v1575 : Vec Ideal S1x512 .f32) (v1579 : Vec Ideal S1x64x512 .f32) (v1581 : Vec Ideal S1x512 .f32) (v1585 : Vec Ideal S1x64x512 .f32) (v1587 : Vec Ideal S1x512 .f32) (v1591 : Vec Ideal S1x64x512 .f32) (v1593 : Vec Ideal S1x512 .f32) (r : Fin 64) (k : Fin 512) : k0_pay96 v1561 v1563 v1564 v1568 v1570 v1574 v1575 v1579 v1581 v1585 v1587 v1591 v1593 (ix2 r k) = (((((((v1561 (ix2 r k) : EReal) + ((v1563 (ix2 r k) : EReal) * (v1564 (ix2 0 k) : EReal))) + ((v1568 (ix3 0 r k) : EReal) * (v1570 (ix2 0 k) : EReal))) + ((v1574 (ix2 r k) : EReal) * (v1575 (ix2 0 k) : EReal))) + ((v1579 (ix3 0 r k) : EReal) * (v1581 (ix2 0 k) : EReal))) + ((v1585 (ix3 0 r k) : EReal) * (v1587 (ix2 0 k) : EReal))) + ((v1591 (ix3 0 r k) : EReal) * (v1593 (ix2 0 k) : EReal))) := by
  pointwise [k0_pay96]
  try rfl

theorem pay97_at (v1596 : FVec Ideal S64x512 .f32) (v1597 : Vec Ideal S1x64x512 .f32) (v1599 : Vec Ideal S1x512 .f32) (v1603 : Vec Ideal S1x64x512 .f32) (v1605 : Vec Ideal S1x512 .f32) (v1609 : Vec Ideal S1x64x512 .f32) (v1611 : Vec Ideal S1x512 .f32) (v1615 : Vec Ideal S1x64x512 .f32) (v1617 : Vec Ideal S1x512 .f32) (v1621 : Vec Ideal S64x512 .f32) (v1622 : Vec Ideal S1x512 .f32) (r : Fin 64) (k : Fin 512) : k0_pay97 v1596 v1597 v1599 v1603 v1605 v1609 v1611 v1615 v1617 v1621 v1622 (ix2 r k) = ((((((v1596 (ix2 r k) : EReal) + ((v1597 (ix3 0 r k) : EReal) * (v1599 (ix2 0 k) : EReal))) + ((v1603 (ix3 0 r k) : EReal) * (v1605 (ix2 0 k) : EReal))) + ((v1609 (ix3 0 r k) : EReal) * (v1611 (ix2 0 k) : EReal))) + ((v1615 (ix3 0 r k) : EReal) * (v1617 (ix2 0 k) : EReal))) + ((v1621 (ix2 r k) : EReal) * (v1622 (ix2 0 k) : EReal))) := by
  pointwise [k0_pay97]
  try rfl

theorem pay98_at (v1626 : Vec Ideal S1x64x512 .f32) (r : Fin 64) (k : Fin 512) : k0_pay98 v1626 (ix2 r k) = (v1626 (ix3 0 r k) : EReal) := by
  pointwise [k0_pay98]
  try rfl

theorem pay99_at (v1628 : Vec Ideal S1x512 .f32) (r : Fin 64) (k : Fin 512) : k0_pay99 v1628 (ix2 r k) = (v1628 (ix2 0 k) : EReal) := by
  pointwise [k0_pay99]
  try rfl

theorem pay100_at (v1625 : FVec Ideal S64x512 .f32) (v1627 : FVec Ideal S64x512 .f32) (v1629 : FVec Ideal S64x512 .f32) (v1632 : Vec Ideal S1x64x512 .f32) (v1634 : Vec Ideal S1x512 .f32) (v1638 : Vec Ideal S1x64x512 .f32) (v1640 : Vec Ideal S1x512 .f32) (v1644 : Vec Ideal S1x64x512 .f32) (v1646 : Vec Ideal S1x512 .f32) (v1650 : Vec Ideal S1x64x512 .f32) (v1652 : Vec Ideal S1x512 .f32) (v1656 : Vec Ideal S1x64x512 .f32) (v1658 : Vec Ideal S1x512 .f32) (r : Fin 64) (k : Fin 512) : k0_pay100 v1625 v1627 v1629 v1632 v1634 v1638 v1640 v1644 v1646 v1650 v1652 v1656 v1658 (ix2 r k) = (((((((v1625 (ix2 r k) : EReal) + ((v1627 (ix2 r k) : EReal) * (v1629 (ix2 r k) : EReal))) + ((v1632 (ix3 0 r k) : EReal) * (v1634 (ix2 0 k) : EReal))) + ((v1638 (ix3 0 r k) : EReal) * (v1640 (ix2 0 k) : EReal))) + ((v1644 (ix3 0 r k) : EReal) * (v1646 (ix2 0 k) : EReal))) + ((v1650 (ix3 0 r k) : EReal) * (v1652 (ix2 0 k) : EReal))) + ((v1656 (ix3 0 r k) : EReal) * (v1658 (ix2 0 k) : EReal))) := by
  pointwise [k0_pay100]
  try rfl

theorem pay101_at (v1661 : FVec Ideal S64x512 .f32) (v1662 : Vec Ideal S1x64x512 .f32) (v1664 : Vec Ideal S1x512 .f32) (r : Fin 64) (k : Fin 512) : k0_pay101 v1661 v1662 v1664 (ix2 r k) = ((v1661 (ix2 r k) : EReal) + ((v1662 (ix3 0 r k) : EReal) * (v1664 (ix2 0 k) : EReal))) := by
  pointwise [k0_pay101]
  try rfl

end Cert.Kernel3Ideal.Mix
-- ==== Proof.MixVal.lean ====
module

public import proofs.«01_k».proof.Proof.MixPay

/-!
The merge's branches as functions of the arrays, and the running sums of the pool's windows.
-/

@[expose] public section

set_option maxRecDepth 16384

noncomputable section

open Idealize.ShloMosaic Idealize.ShloMosaic.TcCoe Idealize.SL.Sem
open Idealize.ShloMosaic.Pipeline (Dat)

namespace Cert.Kernel3Ideal.Mix
open Cert.Kernel3Ideal Cert.Kernel3Ideal.Gen Cert.Mix

/-- The convolution branch: the swish of the layer-normalised convolution. -/
def convV (a0 : FVec Ideal S8x4096x1024 .f32) (a7 : FVec Ideal S31x512 .f32) (a8 a9 a10 : FVec Ideal S512 .f32) (b : Fin 8) (s : Fin 4096) (k : Fin 512) : EReal :=
  swRow (fun c => convAt (fun s => a0 (ix3 b s ⟨c.val, by omega⟩)) (fun q => a7 (ix2 q c)) (a8 (ix1 c)) s.val) (fun c => a9 (ix1 c)) (fun c => a10 (ix1 c)) k

/-- The spatial gate: a chunk's positions mixed by the column group's matrix, times the other half. -/
def sguV (a1 a2 : FVec Ideal S8x4096x512 .f32) (a13 : FVec Ideal S4x128x128 .f32) (a14 : FVec Ideal S4x128 .f32) (b : Fin 8) (s : Fin 4096) (k : Fin 512) : EReal :=
  (a1 (ix3 b s k) : EReal) * ((∑ j : Fin 128, (a13 (ix3 ⟨k.val / 128, by omega⟩ ⟨s.val % 128, by omega⟩ j) : EReal) * (a2 (ix3 b ⟨s.val / 128 * 128 + j.val, by omega⟩ k) : EReal))
    + (a14 (ix2 ⟨k.val / 128, by omega⟩ ⟨s.val % 128, by omega⟩) : EReal))

theorem sguV_at (a1 a2 : FVec Ideal S8x4096x512 .f32) (a13 : FVec Ideal S4x128x128 .f32) (a14 : FVec Ideal S4x128 .f32) (b : Fin 8) (s : Fin 4096) (k : Fin 512)
    (n : ℕ) (g : Fin 4) (i : Fin 128) (hn : n < 32) (hs : s.val = n * 128 + i.val) (hk : k.val / 128 = g.val) :
    sguV a1 a2 a13 a14 b s k
      = (a1 (ix3 b s k) : EReal) * ((∑ j : Fin 128, (a13 (ix3 g i j) : EReal) * (a2 (ix3 b ⟨n * 128 + j.val, by omega⟩ k) : EReal)) + (a14 (ix2 g i) : EReal)) := by
  have e1 : (⟨k.val / 128, by omega⟩ : Fin 4) = g := Fin.ext hk
  have e2 : (⟨s.val % 128, by omega⟩ : Fin 128) = i := Fin.ext (by simp only []; omega)
  have e3 : s.val / 128 = n := by omega
  simp only [sguV, e1, e2, e3]

/-- The number of positions under a window, as the kernel's integer arithmetic has it. -/
def cnt (h w : BitVec 32) (p : ℕ) : EReal :=
  (FloatOps.sitofp .f32 (IntOp.subi (IntOp.minsi (IntOp.addi (IntOp.subi (BitVec.ofNat 32 p) h) w) 4096#32) (IntOp.maxsi (IntOp.subi (BitVec.ofNat 32 p) h) 0#32)) : Ideal .f32)

/-- Half a window. -/
def halfW : Fin 4 → ℕ := ![1, 2, 4, 8]

/-- The first column of a pool group. -/
def offc : Fin 4 → ℕ := ![512, 640, 768, 896]

theorem offc_le : ∀ g : Fin 4, offc g ≤ 896 := by decide

/-- A window's mean less the position itself. -/
def plV (a0 : FVec Ideal S8x4096x1024 .f32) (g : Fin 4) (b : Fin 8) (s : Fin 4096) (c : Fin 128) : EReal :=
  Ideal.div (poolSum (fun s => a0 (ix3 b s ⟨offc g + c.val, by have := offc_le g; omega⟩)) (2 * halfW g) (16 - halfW g) s.val)
    (cnt (BitVec.ofNat 32 (halfW g)) (BitVec.ofNat 32 (2 * halfW g)) s.val) - (a0 (ix3 b s ⟨offc g + c.val, by have := offc_le g; omega⟩) : EReal)

/-- The pool branch. -/
def poolV (a0 : FVec Ideal S8x4096x1024 .f32) (a11 : FVec Ideal S4x128x128 .f32) (a12 : FVec Ideal S512 .f32) (b : Fin 8) (s : Fin 4096) (k : Fin 512) : EReal :=
  (∑ c : Fin 128, plV a0 ⟨k.val / 128, by omega⟩ b s c * (a11 (ix3 ⟨k.val / 128, by omega⟩ c ⟨k.val % 128, by omega⟩) : EReal)) * (a12 (ix1 k) : EReal)

theorem poolV_at (a0 : FVec Ideal S8x4096x1024 .f32) (a11 : FVec Ideal S4x128x128 .f32) (a12 : FVec Ideal S512 .f32) (b : Fin 8) (s : Fin 4096) (k : Fin 512)
    (g : Fin 4) (d : Fin 128) (hk : k.val = g.val * 128 + d.val) :
    poolV a0 a11 a12 b s k = (∑ c : Fin 128, plV a0 g b s c * (a11 (ix3 g c d) : EReal)) * (a12 (ix1 k) : EReal) := by
  have e1 : (⟨k.val / 128, by omega⟩ : Fin 4) = g := Fin.ext (by simp only []; omega)
  have e2 : (⟨k.val % 128, by omega⟩ : Fin 128) = d := Fin.ext (by simp only []; omega)
  simp only [poolV, e1, e2]

/-- The three branches after the attention. -/
def mixV (a0 : FVec Ideal S8x4096x1024 .f32) (a1 a2 : FVec Ideal S8x4096x512 .f32) (a7 : FVec Ideal S31x512 .f32) (a8 a9 a10 : FVec Ideal S512 .f32) (a11 : FVec Ideal S4x128x128 .f32) (a12 : FVec Ideal S512 .f32)
    (a13 : FVec Ideal S4x128x128 .f32) (a14 : FVec Ideal S4x128 .f32) (i : Fin 3) (b : Fin 8) (s : Fin 4096) (k : Fin 512) : EReal :=
  if i.val = 0 then convV a0 a7 a8 a9 a10 b s k else if i.val = 1 then poolV a0 a11 a12 b s k else sguV a1 a2 a13 a14 b s k

theorem mixV_zero (a0 : FVec Ideal S8x4096x1024 .f32) (a1 a2 : FVec Ideal S8x4096x512 .f32) (a7 : FVec Ideal S31x512 .f32) (a8 a9 a10 : FVec Ideal S512 .f32) (a11 : FVec Ideal S4x128x128 .f32) (a12 : FVec Ideal S512 .f32)
    (a13 : FVec Ideal S4x128x128 .f32) (a14 : FVec Ideal S4x128 .f32) (i : Fin 3) (hi : i.val = 0) (b : Fin 8) (s : Fin 4096) (k : Fin 512) :
    mixV a0 a1 a2 a7 a8 a9 a10 a11 a12 a13 a14 i b s k = convV a0 a7 a8 a9 a10 b s k := if_pos hi

theorem mixV_one (a0 : FVec Ideal S8x4096x1024 .f32) (a1 a2 : FVec Ideal S8x4096x512 .f32) (a7 : FVec Ideal S31x512 .f32) (a8 a9 a10 : FVec Ideal S512 .f32) (a11 : FVec Ideal S4x128x128 .f32) (a12 : FVec Ideal S512 .f32)
    (a13 : FVec Ideal S4x128x128 .f32) (a14 : FVec Ideal S4x128 .f32) (i : Fin 3) (hi : i.val = 1) (b : Fin 8) (s : Fin 4096) (k : Fin 512) :
    mixV a0 a1 a2 a7 a8 a9 a10 a11 a12 a13 a14 i b s k = poolV a0 a11 a12 b s k := (if_neg (by omega)).trans (if_pos hi)

theorem mixV_two (a0 : FVec Ideal S8x4096x1024 .f32) (a1 a2 : FVec Ideal S8x4096x512 .f32) (a7 : FVec Ideal S31x512 .f32) (a8 a9 a10 : FVec Ideal S512 .f32) (a11 : FVec Ideal S4x128x128 .f32) (a12 : FVec Ideal S512 .f32)
    (a13 : FVec Ideal S4x128x128 .f32) (a14 : FVec Ideal S4x128 .f32) (i : Fin 3) (hi : i.val = 2) (b : Fin 8) (s : Fin 4096) (k : Fin 512) :
    mixV a0 a1 a2 a7 a8 a9 a10 a11 a12 a13 a14 i b s k = sguV a1 a2 a13 a14 b s k := (if_neg (by omega)).trans (if_neg (by omega))

theorem posW (i x : ℕ) : IntOp.addi (Scalar.muli (BitVec.ofNat 32 i) (BitVec.ofNat 32 512)) (BitVec.ofNat 32 x) = BitVec.ofNat 32 (i * 512 + x) := by
  rw [BitVec.ofNat_add, BitVec.ofNat_mul]; rfl

/-- Two, four and eight entries from a start. -/
def s2 (q : ℕ → EReal) (j : ℕ) : EReal := q j + q (j + 1)
def s4 (q : ℕ → EReal) (j : ℕ) : EReal := s2 q j + s2 q (j + 2)
def s8 (q : ℕ → EReal) (j : ℕ) : EReal := s4 q j + s4 q (j + 4)

theorem sum4 (q : ℕ → EReal) (j : ℕ) : s2 q j + s2 q (j + 2) = csum 0 (fun k => q (j + k)) 4 := by
  simp only [s2, csum, zero_add, add_assoc, Nat.add_zero, Nat.reduceAdd]

theorem sum8 (q : ℕ → EReal) (j : ℕ) : s4 q j + s4 q (j + 4) = csum 0 (fun k => q (j + k)) 8 := by
  simp only [s4, s2, csum, zero_add, add_assoc, Nat.add_zero, Nat.reduceAdd]

theorem sum16 (q : ℕ → EReal) (j : ℕ) : s8 q j + s8 q (j + 8) = csum 0 (fun k => q (j + k)) 16 := by
  simp only [s8, s4, s2, csum, zero_add, add_assoc, Nat.add_zero, Nat.reduceAdd]

theorem sum2 (q : ℕ → EReal) (j : ℕ) : q j + q (j + 1) = csum 0 (fun k => q (j + k)) 2 := by
  simp only [csum, zero_add, add_assoc, Nat.add_zero, Nat.reduceAdd]

theorem idxT (l : Fin 3) (o n : ℕ) (h) (j : Fin n) (c : Fin 128) :
    (Rect.unit (s := S3x544x128) ![l.val, o, 0] ![1, n, 128] h).idx (ix3 0 j c)
      = (ix3 l (⟨o + j.val, by have h1 : o + n ≤ 544 := h 1; omega⟩ : Fin 544) c : S3x544x128.Idx) := by
  funext i
  apply Fin.ext
  match i with
  | 0 => show l.val + 1 * 0 = l.val; omega
  | 1 => show o + 1 * j.val = o + j.val; omega
  | 2 => show 0 + 1 * c.val = c.val; omega

theorem idxB (o q : ℕ) (h) (j : Fin 544) (c : Fin 128) :
    (Rect.unit (s := S552x1024) ![o, q] ![544, 128] h).idx (ix2 j c)
      = (ix2 (⟨o + j.val, by have h1 : o + 544 ≤ 552 := h 0; omega⟩ : Fin 552) (⟨q + c.val, by have h1 : q + 128 ≤ 1024 := h 1; omega⟩ : Fin 1024) : S552x1024.Idx) := by
  funext i
  apply Fin.ext
  match i with
  | 0 => show o + 1 * j.val = o + j.val; omega
  | 1 => show q + 1 * c.val = q + c.val; omega

theorem embT (l : Fin 3) (n : ℕ) (h) (j : Fin 544) (c : Fin 128) (hj : j.val < n) :
    (ix3 l j c : S3x544x128.Idx) = (Rect.unit (s := S3x544x128) ![l.val, 0, 0] ![1, n, 128] h).emb (ix3 0 (⟨j.val, hj⟩ : Fin n) c) := by
  funext i
  apply Fin.ext
  match i with
  | 0 => show l.val = l.val + 1 * 0; omega
  | 1 => show j.val = 0 + 1 * j.val; omega
  | 2 => show c.val = 0 + 1 * c.val; omega

theorem pay109_at (v1751 : Vec Ideal S544x128 .f32) (v1752 : Vec Ideal S544x128 .f32) (r : Fin 544) (k : Fin 128) : k0_pay109 v1751 v1752 (ix3 0 r k) = ((v1751 (ix2 r k) : EReal) + (v1752 (ix2 r k) : EReal)) := by
  pointwise [k0_pay109]
  try rfl

theorem pay110_at (v1757 : Vec Ideal S1x512x128 .f32) (v1759 : Vec Ideal S1x512x128 .f32) (r : Fin 512) (k : Fin 128) : k0_pay110 v1757 v1759 (ix2 r k) = ((v1757 (ix3 0 r k) : EReal) + (v1759 (ix3 0 r k) : EReal)) := by
  pointwise [k0_pay110]
  try rfl

theorem pay114_at (v1790 : Vec Ideal S544x128 .f32) (v1791 : Vec Ideal S544x128 .f32) (r : Fin 544) (k : Fin 128) : k0_pay114 v1790 v1791 (ix3 0 r k) = ((v1790 (ix2 r k) : EReal) + (v1791 (ix2 r k) : EReal)) := by
  pointwise [k0_pay114]
  try rfl

theorem pay115_at (v1796 : Vec Ideal S1x536x128 .f32) (v1798 : Vec Ideal S1x536x128 .f32) (r : Fin 536) (k : Fin 128) : k0_pay115 v1796 v1798 (ix2 r k) = ((v1796 (ix3 0 r k) : EReal) + (v1798 (ix3 0 r k) : EReal)) := by
  pointwise [k0_pay115]
  try rfl

theorem pay116_at (v1800 : FVec Ideal S536x128 .f32) (r : Fin 536) (k : Fin 128) : k0_pay116 v1800 (ix3 0 r k) = (v1800 (ix2 r k) : EReal) := by
  pointwise [k0_pay116]
  try rfl

theorem pay118_at (v1837 : Vec Ideal S544x128 .f32) (v1838 : Vec Ideal S544x128 .f32) (r : Fin 544) (k : Fin 128) : k0_pay118 v1837 v1838 (ix3 0 r k) = ((v1837 (ix2 r k) : EReal) + (v1838 (ix2 r k) : EReal)) := by
  pointwise [k0_pay118]
  try rfl

theorem pay119_at (v1843 : Vec Ideal S1x536x128 .f32) (v1845 : Vec Ideal S1x536x128 .f32) (r : Fin 536) (k : Fin 128) : k0_pay119 v1843 v1845 (ix3 0 r k) = ((v1843 (ix3 0 r k) : EReal) + (v1845 (ix3 0 r k) : EReal)) := by
  pointwise [k0_pay119]
  try rfl

theorem pay120_at (v1851 : Vec Ideal S1x528x128 .f32) (v1853 : Vec Ideal S1x528x128 .f32) (r : Fin 528) (k : Fin 128) : k0_pay120 v1851 v1853 (ix3 0 r k) = ((v1851 (ix3 0 r k) : EReal) + (v1853 (ix3 0 r k) : EReal)) := by
  pointwise [k0_pay120]
  try rfl

theorem pay121_at (v1859 : Vec Ideal S1x512x128 .f32) (r : Fin 512) (k : Fin 128) : k0_pay121 v1859 (ix2 r k) = (v1859 (ix3 0 r k) : EReal) := by
  pointwise [k0_pay121]
  try rfl

theorem pay122_at (v1861 : Vec Ideal S1x512x128 .f32) (r : Fin 512) (k : Fin 128) : k0_pay122 v1861 (ix2 r k) = (v1861 (ix3 0 r k) : EReal) := by
  pointwise [k0_pay122]
  try rfl

end Cert.Kernel3Ideal.Mix
-- ==== Proof.MixW.lean ====
module

public import proofs.«01_k».proof.Proof.MixReads

/-!
The third kernel's stacked branch weights, read at an index.
-/

@[expose] public section

set_option maxRecDepth 16384

noncomputable section

open Idealize.ShloMosaic Idealize.ShloMosaic.TcCoe Idealize.SL.Sem
open Idealize.ShloMosaic.Pipeline (Dat)

namespace Cert.Kernel3Ideal.Mix
open Cert.Kernel3Ideal Cert.Kernel3Ideal.Gen Cert.Mix

variable (m : (ℓ : Loc nD τ sig) → Buf (Elt Ideal) ℓ)

/-- The branch weights with the first branch's rows regrouped. -/
def stackW (x : FVec Ideal S4x512x1024 .f32) : FVec Ideal S4x512x1024 .bf16 :=
  concatenate S4x512x1024 0 [⟨S1x512x1024, broadcastInDim S1x512x1024 ![1, 2] bcast_S512x1024_S1x512x1024_1_2 (shapeCast S512x1024 (transpose S4x2x64x1024 [1, 0, 2, 3]
      (shapeCast S2x4x64x1024 (shapeCast S512x1024 (extractStridedSlice S1x512x1024 ![0, 0, 0] (truncf .bf16 x bitsLt_bf16_f32) slices_S4x512x1024_S1x512x1024_0_0_0) shapeCasts_S1x512x1024_S512x1024) shapeCasts_S512x1024_S2x4x64x1024)
      transposes_S2x4x64x1024_S4x2x64x1024_1_0_2_3) shapeCasts_S4x2x64x1024_S512x1024)⟩,
    ⟨S3x512x1024, extractStridedSlice S3x512x1024 ![1, 0, 0] (truncf .bf16 x bitsLt_bf16_f32) slices_S4x512x1024_S3x512x1024_1_0_0⟩] concatenates_S1x512x1024_S3x512x1024_S4x512x1024_d0

theorem V19 (c : Dev nD) : (V m c main_v8 : FVec Ideal S4x512x1024 .bf16) = stackW (m ((c.tc : Thread nD τ).loc main_arg15)) := by
  unfold V hostOps0 stackW
  after_results <;> rfl

theorem stackW_rest (x : FVec Ideal S4x512x1024 .f32) (i : Fin 4) (r : Fin 512) (l : Fin 1024) (hi : 1 ≤ i.val) :
    (stackW x (ix3 i r l) : EReal) = x (ix3 i r l) := by
  pointwise [stackW]
  rw [dif_neg (by omega)]
  exact congrArg (fun i => (x (ix3 i r l) : EReal)) (Fin.ext (by simp only [] <;> omega))

theorem stackW_zero (x : FVec Ideal S4x512x1024 .f32) (g : Fin 4) (k : Fin 2) (d : Fin 64) (l : Fin 1024) :
    (stackW x (ix3 0 ⟨g.val * 128 + k.val * 64 + d.val, by omega⟩ l) : EReal) = x (ix3 0 ⟨k.val * 256 + g.val * 64 + d.val, by omega⟩ l) := by
  pointwise [stackW]

theorem blk19 (c : Dev nD) (t : Fin cfg0.N) (i : Fin 4) (r : Fin 512) (l : Fin 1024) :
    (iblk m c 19 t (ix3 i r l) : EReal) = stackW (m ((c.tc : Thread nD τ).loc main_arg15)) (ix3 i r l) := by
  have ht : t.val < 64 := lt_of_lt_of_eq t.isLt (by decide)
  rw [← V19]
  refine congrArg (V m c main_v8) ?_
  blk_ext [idx t, smp]

end Cert.Kernel3Ideal.Mix
-- ==== Proof.MixRef.lean ====
module

public import proofs.«01_k».proof.Proof.MixDefs

/-!
The reference of the merge, entry by entry.
-/

@[expose] public section

set_option maxRecDepth 16384

noncomputable section

open Idealize.ShloMosaic Idealize.ShloMosaic.TcCoe Idealize.SL.Sem
open Idealize.ShloMosaic.Pipeline (Dat)

namespace Cert.Reference3Ideal.Mix
open Cert.Reference3Ideal Cert.Reference3Ideal.Gen Cert.Mix

theorem zero_word : (FloatOps.sitofp FTy.f32 0#32 : Ideal .f32) = 0 := by
  show ((((0#32 : BitVec 32).toInt : ℝ)) : EReal) = 0
  simp

theorem refPad_at (a0 : FVec Ideal S8x4096x1024 .f32) (b : Fin 8) (j : Fin 4126) (c : Fin 512) :
    refPad a0 (ix3 b j c) = padded (fun s => a0 (ix3 b s ⟨c.val, by omega⟩)) (j.val + 1) := by
  pointwise [refPad]
  unfold padded
  split
  · rename_i h
    rw [dif_pos (by omega)]
    exact congrArg (fun q => a0 (ix3 b q _)) (Fin.ext (by show j.val - 15 = j.val + 1 - 16; omega))
  · rw [dif_neg (by omega)]
    exact zero_word

theorem refC3_at (a0 : FVec Ideal S8x4096x1024 .f32) (a7 : FVec Ideal S31x512 .f32) (a8 : FVec Ideal S512 .f32) (b : Fin 8) (s : Fin 4096) (c : Fin 512) :
    refC3 a0 a7 a8 (ix3 b s c)
      = convAt (fun s => a0 (ix3 b s ⟨c.val, by omega⟩)) (fun k => a7 (ix2 k c)) (a8 (ix1 c)) s.val := by
  pointwise [refC1, refC2, refC3]
  simp only [refPad_at, convAt, csum]
  refine congrArg₂ (· + ·) ?_ rfl
  iterate 30 refine congrArg₂ (· + ·) ?_ (congrArg₂ (· * ·) (congrArg (padded _) (by first | rfl | omega | (dsimp only <;> omega))) (congrArg a7 rfl))
  exact Eq.trans (congrArg₂ (· * ·) (congrArg (padded _) (by first | rfl | omega | (dsimp only <;> omega))) rfl) (zero_add _).symm

theorem refLn_at (a0 : FVec Ideal S8x4096x1024 .f32) (a7 : FVec Ideal S31x512 .f32) (a8 a9 a10 : FVec Ideal S512 .f32) (b : Fin 8) (s : Fin 4096) (c : Fin 512) :
    refLn a0 a7 a8 a9 a10 (ix3 b s c)
      = lnRow (fun c => refC3 a0 a7 a8 (ix3 b s c)) (fun c => a9 (ix1 c)) (fun c => a10 (ix1 c)) c := by
  pointwise [refLn, refMu, refCen]
  simp only [lnRow, mean512]
  try rfl

theorem refConv_at (a0 : FVec Ideal S8x4096x1024 .f32) (a7 : FVec Ideal S31x512 .f32) (a8 a9 a10 : FVec Ideal S512 .f32) (b : Fin 8) (s : Fin 4096) (c : Fin 512) :
    refConv a0 a7 a8 a9 a10 (ix3 b s c)
      = swRow (fun c => convAt (fun s => a0 (ix3 b s ⟨c.val, by omega⟩)) (fun k => a7 (ix2 k c)) (a8 (ix1 c)) s.val) (fun c => a9 (ix1 c)) (fun c => a10 (ix1 c)) c := by
  pointwise [refConv]
  simp only [refLn_at, swRow, lgst, refC3_at]

theorem refGate0_at (a4 : FVec Ideal S8x4096x1024 .f32) (a16 : FVec Ideal S1024x4096 .f32) (a17 : FVec Ideal S4096 .f32) (b : Fin 8) (s : Fin 4096) (l : Fin 1024) :
    refGate0 a4 a16 a17 (ix3 b s l) = lgst ((∑ q : Fin 1024, a4 (ix3 b s q) * a16 (ix2 q ⟨l.val, by omega⟩)) + a17 (ix1 ⟨l.val, by omega⟩)) := by
  pointwise [refGate0]
  simp only [lgst]

theorem refGate1_at (a4 : FVec Ideal S8x4096x1024 .f32) (a16 : FVec Ideal S1024x4096 .f32) (a17 : FVec Ideal S4096 .f32) (b : Fin 8) (s : Fin 4096) (l : Fin 1024) :
    refGate1 a4 a16 a17 (ix3 b s l) = lgst ((∑ q : Fin 1024, a4 (ix3 b s q) * a16 (ix2 q ⟨1024 + l.val, by omega⟩)) + a17 (ix1 ⟨1024 + l.val, by omega⟩)) := by
  pointwise [refGate1]
  simp only [lgst]

theorem refGate2_at (a4 : FVec Ideal S8x4096x1024 .f32) (a16 : FVec Ideal S1024x4096 .f32) (a17 : FVec Ideal S4096 .f32) (b : Fin 8) (s : Fin 4096) (l : Fin 1024) :
    refGate2 a4 a16 a17 (ix3 b s l) = lgst ((∑ q : Fin 1024, a4 (ix3 b s q) * a16 (ix2 q ⟨2048 + l.val, by omega⟩)) + a17 (ix1 ⟨2048 + l.val, by omega⟩)) := by
  pointwise [refGate2]
  simp only [lgst]

theorem refGate3_at (a4 : FVec Ideal S8x4096x1024 .f32) (a16 : FVec Ideal S1024x4096 .f32) (a17 : FVec Ideal S4096 .f32) (b : Fin 8) (s : Fin 4096) (l : Fin 1024) :
    refGate3 a4 a16 a17 (ix3 b s l) = lgst ((∑ q : Fin 1024, a4 (ix3 b s q) * a16 (ix2 q ⟨3072 + l.val, by omega⟩)) + a17 (ix1 ⟨3072 + l.val, by omega⟩)) := by
  pointwise [refGate3]
  simp only [lgst]

theorem refXp0_at (a0 : FVec Ideal S8x4096x1024 .f32) (b : Fin 8) (j : Fin 4097) (c : Fin 128) :
    refXp0 a0 (ix3 b j c) = padded (fun s => a0 (ix3 b s ⟨512 + c.val, by omega⟩)) (j.val + 15) := by
  pointwise [refXp0, refX0, refPx]
  unfold padded
  split
  · rename_i h
    rw [dif_pos (by omega)]
    exact congrArg (fun q => a0 q) (congrArg₂ (ix3 b) (Fin.ext (by show j.val - 1 = j.val + 15 - 16; omega)) (Fin.ext (by first | rfl | omega | (dsimp only <;> omega))))
  · rw [dif_neg (by omega)]
    exact zero_word

theorem refPl0_at (a0 : FVec Ideal S8x4096x1024 .f32) (b : Fin 8) (s : Fin 4096) (c : Fin 128) :
    refPl0 a0 (ix3 b s c) = Ideal.div (poolSum (fun s => a0 (ix3 b s ⟨512 + c.val, by omega⟩)) 2 15 s.val) (refN0 (ix1 s)) - a0 (ix3 b s ⟨512 + c.val, by omega⟩) := by
  pointwise [refPl0, refX0, refPx]
  simp only [refXp0_at, poolSum, csum]
  refine congrArg₂ (· - ·) (congrArg₂ Ideal.div ?_ rfl) (congrArg (fun q => a0 (ix3 b s q)) (Fin.ext (by first | rfl | omega | (dsimp only <;> omega))))
  iterate 1 refine congrArg₂ (· + ·) ?_ (congrArg (padded _) (by first | rfl | omega | (dsimp only <;> omega)))
  exact Eq.trans (congrArg (padded _) (by first | rfl | omega | (dsimp only <;> omega))) (zero_add _).symm

theorem refPool0_at (a0 : FVec Ideal S8x4096x1024 .f32) (a11 : FVec Ideal S4x128x128 .f32) (b : Fin 8) (s : Fin 4096) (c : Fin 128) :
    refPool0 a0 a11 (ix3 b s c) = ∑ k : Fin 128, refPl0 a0 (ix3 b s k) * a11 (ix3 0 k c) := by
  pointwise [refPool0]

theorem refXp1_at (a0 : FVec Ideal S8x4096x1024 .f32) (b : Fin 8) (j : Fin 4099) (c : Fin 128) :
    refXp1 a0 (ix3 b j c) = padded (fun s => a0 (ix3 b s ⟨640 + c.val, by omega⟩)) (j.val + 14) := by
  pointwise [refXp1, refX1, refPx]
  unfold padded
  split
  · rename_i h
    rw [dif_pos (by omega)]
    exact congrArg (fun q => a0 q) (congrArg₂ (ix3 b) (Fin.ext (by show j.val - 2 = j.val + 14 - 16; omega)) (Fin.ext (by first | rfl | omega | (dsimp only <;> omega))))
  · rw [dif_neg (by omega)]
    exact zero_word

theorem refPl1_at (a0 : FVec Ideal S8x4096x1024 .f32) (b : Fin 8) (s : Fin 4096) (c : Fin 128) :
    refPl1 a0 (ix3 b s c) = Ideal.div (poolSum (fun s => a0 (ix3 b s ⟨640 + c.val, by omega⟩)) 4 14 s.val) (refN1 (ix1 s)) - a0 (ix3 b s ⟨640 + c.val, by omega⟩) := by
  pointwise [refPl1, refX1, refPx]
  simp only [refXp1_at, poolSum, csum]
  refine congrArg₂ (· - ·) (congrArg₂ Ideal.div ?_ rfl) (congrArg (fun q => a0 (ix3 b s q)) (Fin.ext (by first | rfl | omega | (dsimp only <;> omega))))
  iterate 3 refine congrArg₂ (· + ·) ?_ (congrArg (padded _) (by first | rfl | omega | (dsimp only <;> omega)))
  exact Eq.trans (congrArg (padded _) (by first | rfl | omega | (dsimp only <;> omega))) (zero_add _).symm

theorem refPool1_at (a0 : FVec Ideal S8x4096x1024 .f32) (a11 : FVec Ideal S4x128x128 .f32) (b : Fin 8) (s : Fin 4096) (c : Fin 128) :
    refPool1 a0 a11 (ix3 b s c) = ∑ k : Fin 128, refPl1 a0 (ix3 b s k) * a11 (ix3 1 k c) := by
  pointwise [refPool1]

theorem refXp2_at (a0 : FVec Ideal S8x4096x1024 .f32) (b : Fin 8) (j : Fin 4103) (c : Fin 128) :
    refXp2 a0 (ix3 b j c) = padded (fun s => a0 (ix3 b s ⟨768 + c.val, by omega⟩)) (j.val + 12) := by
  pointwise [refXp2, refX2, refPx]
  unfold padded
  split
  · rename_i h
    rw [dif_pos (by omega)]
    exact congrArg (fun q => a0 q) (congrArg₂ (ix3 b) (Fin.ext (by show j.val - 4 = j.val + 12 - 16; omega)) (Fin.ext (by first | rfl | omega | (dsimp only <;> omega))))
  · rw [dif_neg (by omega)]
    exact zero_word

theorem refPl2_at (a0 : FVec Ideal S8x4096x1024 .f32) (b : Fin 8) (s : Fin 4096) (c : Fin 128) :
    refPl2 a0 (ix3 b s c) = Ideal.div (poolSum (fun s => a0 (ix3 b s ⟨768 + c.val, by omega⟩)) 8 12 s.val) (refN2 (ix1 s)) - a0 (ix3 b s ⟨768 + c.val, by omega⟩) := by
  pointwise [refPl2, refX2, refPx]
  simp only [refXp2_at, poolSum, csum]
  refine congrArg₂ (· - ·) (congrArg₂ Ideal.div ?_ rfl) (congrArg (fun q => a0 (ix3 b s q)) (Fin.ext (by first | rfl | omega | (dsimp only <;> omega))))
  iterate 7 refine congrArg₂ (· + ·) ?_ (congrArg (padded _) (by first | rfl | omega | (dsimp only <;> omega)))
  exact Eq.trans (congrArg (padded _) (by first | rfl | omega | (dsimp only <;> omega))) (zero_add _).symm

theorem refPool2_at (a0 : FVec Ideal S8x4096x1024 .f32) (a11 : FVec Ideal S4x128x128 .f32) (b : Fin 8) (s : Fin 4096) (c : Fin 128) :
    refPool2 a0 a11 (ix3 b s c) = ∑ k : Fin 128, refPl2 a0 (ix3 b s k) * a11 (ix3 2 k c) := by
  pointwise [refPool2]

theorem refXp3_at (a0 : FVec Ideal S8x4096x1024 .f32) (b : Fin 8) (j : Fin 4111) (c : Fin 128) :
    refXp3 a0 (ix3 b j c) = padded (fun s => a0 (ix3 b s ⟨896 + c.val, by omega⟩)) (j.val + 8) := by
  pointwise [refXp3, refX3, refPx]
  unfold padded
  split
  · rename_i h
    rw [dif_pos (by omega)]
    exact congrArg (fun q => a0 q) (congrArg₂ (ix3 b) (Fin.ext (by show j.val - 8 = j.val + 8 - 16; omega)) (Fin.ext (by first | rfl | omega | (dsimp only <;> omega))))
  · rw [dif_neg (by omega)]
    exact zero_word

theorem refPl3_at (a0 : FVec Ideal S8x4096x1024 .f32) (b : Fin 8) (s : Fin 4096) (c : Fin 128) :
    refPl3 a0 (ix3 b s c) = Ideal.div (poolSum (fun s => a0 (ix3 b s ⟨896 + c.val, by omega⟩)) 16 8 s.val) (refN3 (ix1 s)) - a0 (ix3 b s ⟨896 + c.val, by omega⟩) := by
  pointwise [refPl3, refX3, refPx]
  simp only [refXp3_at, poolSum, csum]
  refine congrArg₂ (· - ·) (congrArg₂ Ideal.div ?_ rfl) (congrArg (fun q => a0 (ix3 b s q)) (Fin.ext (by first | rfl | omega | (dsimp only <;> omega))))
  iterate 15 refine congrArg₂ (· + ·) ?_ (congrArg (padded _) (by first | rfl | omega | (dsimp only <;> omega)))
  exact Eq.trans (congrArg (padded _) (by first | rfl | omega | (dsimp only <;> omega))) (zero_add _).symm

theorem refPool3_at (a0 : FVec Ideal S8x4096x1024 .f32) (a11 : FVec Ideal S4x128x128 .f32) (b : Fin 8) (s : Fin 4096) (c : Fin 128) :
    refPool3 a0 a11 (ix3 b s c) = ∑ k : Fin 128, refPl3 a0 (ix3 b s k) * a11 (ix3 3 k c) := by
  pointwise [refPool3]

theorem refAttn_at (a5 : FVec Ideal S8x4096x512 .f32) (b : Fin 8) (s : Fin 4096) (k : Fin 2) (g : Fin 4) (d : Fin 64) :
    refAttn a5 (ix3 b s ⟨k.val * 256 + g.val * 64 + d.val, by omega⟩) = a5 (ix3 b s ⟨g.val * 128 + k.val * 64 + d.val, by omega⟩) := by
  pointwise [refAttn]

theorem refSgu_at (a1 a2 : FVec Ideal S8x4096x512 .f32) (a13 : FVec Ideal S4x128x128 .f32) (a14 : FVec Ideal S4x128 .f32) (b : Fin 8) (n : Fin 32) (i : Fin 128) (g : Fin 4) (c : Fin 128) :
    refSgu a1 a2 a13 a14 (ix3 b ⟨n.val * 128 + i.val, by omega⟩ ⟨g.val * 128 + c.val, by omega⟩)
      = a1 (ix3 b ⟨n.val * 128 + i.val, by omega⟩ ⟨g.val * 128 + c.val, by omega⟩)
        * ((∑ j : Fin 128, a2 (ix3 b ⟨n.val * 128 + j.val, by omega⟩ ⟨g.val * 128 + c.val, by omega⟩) * a13 (ix3 g i j)) + a14 (ix2 g i)) := by
  pointwise [refSgu]

theorem refZ_at (a0 : FVec Ideal S8x4096x1024 .f32) (a1 a2 : FVec Ideal S8x4096x512 .f32) (a3 a4 : FVec Ideal S8x4096x1024 .f32) (a5 : FVec Ideal S8x4096x512 .f32)
    (a6 : FVec Ideal S8x1x6144 .f32) (a7 : FVec Ideal S31x512 .f32) (a8 a9 a10 : FVec Ideal S512 .f32) (a11 : FVec Ideal S4x128x128 .f32) (a12 : FVec Ideal S512 .f32)
    (a13 : FVec Ideal S4x128x128 .f32) (a14 : FVec Ideal S4x128 .f32) (a15 : FVec Ideal S4x512x1024 .f32) (a16 : FVec Ideal S1024x4096 .f32) (a17 : FVec Ideal S4096 .f32)
    (a18 : FVec Ideal S1024x1024 .f32) (b : Fin 8) (s : Fin 4096) (k : Fin 1024) :
    refZ a0 a1 a2 a3 a4 a5 a6 a7 a8 a9 a10 a11 a12 a13 a14 a15 a16 a17 a18 (ix3 b s k)
      = a3 (ix3 b s k) + a6 (ix3 b 0 ⟨2048 + k.val, by omega⟩) * ∑ l : Fin 1024,
          (refGate0 a4 a16 a17 (ix3 b s l) * (∑ c : Fin 512, refAttn a5 (ix3 b s c) * a15 (ix3 0 c l))
            + refGate1 a4 a16 a17 (ix3 b s l) * (∑ c : Fin 512, refConv a0 a7 a8 a9 a10 (ix3 b s c) * a15 (ix3 1 c l))
            + refGate2 a4 a16 a17 (ix3 b s l) * (∑ c : Fin 512, refPool a0 a11 a12 (ix3 b s c) * a15 (ix3 2 c l))
            + refGate3 a4 a16 a17 (ix3 b s l) * (∑ c : Fin 512, refSgu a1 a2 a13 a14 (ix3 b s c) * a15 (ix3 3 c l)))
          * a18 (ix2 l k) := by
  pointwise [refZ, refM, refTerm0, refTerm1, refTerm2, refTerm3]

end Cert.Reference3Ideal.Mix
-- ==== Proof.MixRef2.lean ====
module

public import proofs.«01_k».proof.Proof.MixVal
public import proofs.«01_k».proof.Proof.MixRef

/-!
The reference of the third program, at an index.
-/

@[expose] public section

set_option maxRecDepth 16384

noncomputable section

open Idealize.ShloMosaic Idealize.ShloMosaic.TcCoe Idealize.SL.Sem
open Idealize.ShloMosaic.Pipeline (Dat)

namespace Cert.Kernel3Ideal.Mix
open Cert.Kernel3Ideal Cert.Kernel3Ideal.Gen Cert.Mix

theorem ref_conv (a0 : FVec Ideal S8x4096x1024 .f32) (a7 : FVec Ideal S31x512 .f32) (a8 a9 a10 : FVec Ideal S512 .f32) (b : Fin 8) (s : Fin 4096) (c : Fin 512) :
    (Cert.Reference3Ideal.Mix.refConv a0 a7 a8 a9 a10 (ix3 b s c) : EReal) = convV a0 a7 a8 a9 a10 b s c := Cert.Reference3Ideal.Mix.refConv_at a0 a7 a8 a9 a10 b s c

theorem ref_sgu (a1 a2 : FVec Ideal S8x4096x512 .f32) (a13 : FVec Ideal S4x128x128 .f32) (a14 : FVec Ideal S4x128 .f32) (b : Fin 8) (s : Fin 4096) (k : Fin 512) :
    (Cert.Reference3Ideal.Mix.refSgu a1 a2 a13 a14 (ix3 b s k) : EReal) = sguV a1 a2 a13 a14 b s k := by
  obtain ⟨n, hn⟩ : ∃ n : Fin 32, n.val = s.val / 128 := ⟨⟨s.val / 128, by omega⟩, rfl⟩
  obtain ⟨i, hi⟩ : ∃ i : Fin 128, i.val = s.val % 128 := ⟨⟨s.val % 128, by omega⟩, rfl⟩
  obtain ⟨g, hg⟩ : ∃ g : Fin 4, g.val = k.val / 128 := ⟨⟨k.val / 128, by omega⟩, rfl⟩
  obtain ⟨d, hd⟩ : ∃ d : Fin 128, d.val = k.val % 128 := ⟨⟨k.val % 128, by omega⟩, rfl⟩
  have es : s = ⟨n.val * 128 + i.val, by omega⟩ := Fin.ext (by simp only []; omega)
  have ek : k = ⟨g.val * 128 + d.val, by omega⟩ := Fin.ext (by simp only []; omega)
  refine (congrArg₂ (fun s k => (Cert.Reference3Ideal.Mix.refSgu a1 a2 a13 a14 (ix3 b s k) : EReal)) es ek).trans ((Cert.Reference3Ideal.Mix.refSgu_at a1 a2 a13 a14 b n i g d).trans ?_)
  rw [sguV_at a1 a2 a13 a14 b s k n.val g i n.isLt (by omega) (by omega)]
  refine congrArg₂ (· * ·) (congrArg₂ (fun s k => (a1 (ix3 b s k) : EReal)) es.symm ek.symm) (congrArg₂ (· + ·) (Finset.sum_congr rfl fun j _ => ?_) rfl)
  exact (mul_comm _ _).trans (congrArg₂ (· * ·) rfl (congrArg (fun k => (a2 (ix3 b _ k) : EReal)) ek.symm))

theorem word0 : ∀ s : Fin 4096, IntOp.subi (IntOp.minsi 4096#32 (IntOp.maxsi 0#32 (IntOp.addi (IntOp.subi (BitVec.ofNat 32 s.val) 1#32) 2#32))) (IntOp.minsi 4096#32 (IntOp.maxsi 0#32 (IntOp.subi (BitVec.ofNat 32 s.val) 1#32)))
    = IntOp.subi (IntOp.minsi (IntOp.addi (IntOp.subi (BitVec.ofNat 32 s.val) 1#32) 2#32) 4096#32) (IntOp.maxsi (IntOp.subi (BitVec.ofNat 32 s.val) 1#32) 0#32) := by
  decide +kernel

theorem ref_n0 (s : Fin 4096) : (Cert.Reference3Ideal.Mix.refN0 (ix1 s) : EReal) = cnt (BitVec.ofNat 32 (halfW 0)) (BitVec.ofNat 32 (2 * halfW 0)) s.val := by
  pointwise [Cert.Reference3Ideal.Mix.refN0, Cert.Reference3Ideal.Mix.refIota]
  exact congrArg (fun w => (FloatOps.sitofp .f32 w : Ideal .f32)) (word0 s)

theorem ref_pl0 (a0 : FVec Ideal S8x4096x1024 .f32) (b : Fin 8) (s : Fin 4096) (c : Fin 128) :
    (Cert.Reference3Ideal.Mix.refPl0 a0 (ix3 b s c) : EReal) = plV a0 0 b s c :=
  (Cert.Reference3Ideal.Mix.refPl0_at a0 b s c).trans (congrArg₂ (· - ·) (congrArg₂ Ideal.div rfl (ref_n0 s)) rfl)

theorem word1 : ∀ s : Fin 4096, IntOp.subi (IntOp.minsi 4096#32 (IntOp.maxsi 0#32 (IntOp.addi (IntOp.subi (BitVec.ofNat 32 s.val) 2#32) 4#32))) (IntOp.minsi 4096#32 (IntOp.maxsi 0#32 (IntOp.subi (BitVec.ofNat 32 s.val) 2#32)))
    = IntOp.subi (IntOp.minsi (IntOp.addi (IntOp.subi (BitVec.ofNat 32 s.val) 2#32) 4#32) 4096#32) (IntOp.maxsi (IntOp.subi (BitVec.ofNat 32 s.val) 2#32) 0#32) := by
  decide +kernel

theorem ref_n1 (s : Fin 4096) : (Cert.Reference3Ideal.Mix.refN1 (ix1 s) : EReal) = cnt (BitVec.ofNat 32 (halfW 1)) (BitVec.ofNat 32 (2 * halfW 1)) s.val := by
  pointwise [Cert.Reference3Ideal.Mix.refN1, Cert.Reference3Ideal.Mix.refIota]
  exact congrArg (fun w => (FloatOps.sitofp .f32 w : Ideal .f32)) (word1 s)

theorem ref_pl1 (a0 : FVec Ideal S8x4096x1024 .f32) (b : Fin 8) (s : Fin 4096) (c : Fin 128) :
    (Cert.Reference3Ideal.Mix.refPl1 a0 (ix3 b s c) : EReal) = plV a0 1 b s c :=
  (Cert.Reference3Ideal.Mix.refPl1_at a0 b s c).trans (congrArg₂ (· - ·) (congrArg₂ Ideal.div rfl (ref_n1 s)) rfl)

theorem word2 : ∀ s : Fin 4096, IntOp.subi (IntOp.minsi 4096#32 (IntOp.maxsi 0#32 (IntOp.addi (IntOp.subi (BitVec.ofNat 32 s.val) 4#32) 8#32))) (IntOp.minsi 4096#32 (IntOp.maxsi 0#32 (IntOp.subi (BitVec.ofNat 32 s.val) 4#32)))
    = IntOp.subi (IntOp.minsi (IntOp.addi (IntOp.subi (BitVec.ofNat 32 s.val) 4#32) 8#32) 4096#32) (IntOp.maxsi (IntOp.subi (BitVec.ofNat 32 s.val) 4#32) 0#32) := by
  decide +kernel

theorem ref_n2 (s : Fin 4096) : (Cert.Reference3Ideal.Mix.refN2 (ix1 s) : EReal) = cnt (BitVec.ofNat 32 (halfW 2)) (BitVec.ofNat 32 (2 * halfW 2)) s.val := by
  pointwise [Cert.Reference3Ideal.Mix.refN2, Cert.Reference3Ideal.Mix.refIota]
  exact congrArg (fun w => (FloatOps.sitofp .f32 w : Ideal .f32)) (word2 s)

theorem ref_pl2 (a0 : FVec Ideal S8x4096x1024 .f32) (b : Fin 8) (s : Fin 4096) (c : Fin 128) :
    (Cert.Reference3Ideal.Mix.refPl2 a0 (ix3 b s c) : EReal) = plV a0 2 b s c :=
  (Cert.Reference3Ideal.Mix.refPl2_at a0 b s c).trans (congrArg₂ (· - ·) (congrArg₂ Ideal.div rfl (ref_n2 s)) rfl)

theorem word3 : ∀ s : Fin 4096, IntOp.subi (IntOp.minsi 4096#32 (IntOp.maxsi 0#32 (IntOp.addi (IntOp.subi (BitVec.ofNat 32 s.val) 8#32) 16#32))) (IntOp.minsi 4096#32 (IntOp.maxsi 0#32 (IntOp.subi (BitVec.ofNat 32 s.val) 8#32)))
    = IntOp.subi (IntOp.minsi (IntOp.addi (IntOp.subi (BitVec.ofNat 32 s.val) 8#32) 16#32) 4096#32) (IntOp.maxsi (IntOp.subi (BitVec.ofNat 32 s.val) 8#32) 0#32) := by
  decide +kernel

theorem ref_n3 (s : Fin 4096) : (Cert.Reference3Ideal.Mix.refN3 (ix1 s) : EReal) = cnt (BitVec.ofNat 32 (halfW 3)) (BitVec.ofNat 32 (2 * halfW 3)) s.val := by
  pointwise [Cert.Reference3Ideal.Mix.refN3, Cert.Reference3Ideal.Mix.refIota]
  exact congrArg (fun w => (FloatOps.sitofp .f32 w : Ideal .f32)) (word3 s)

theorem ref_pl3 (a0 : FVec Ideal S8x4096x1024 .f32) (b : Fin 8) (s : Fin 4096) (c : Fin 128) :
    (Cert.Reference3Ideal.Mix.refPl3 a0 (ix3 b s c) : EReal) = plV a0 3 b s c :=
  (Cert.Reference3Ideal.Mix.refPl3_at a0 b s c).trans (congrArg₂ (· - ·) (congrArg₂ Ideal.div rfl (ref_n3 s)) rfl)

theorem ref_pool (a0 : FVec Ideal S8x4096x1024 .f32) (a11 : FVec Ideal S4x128x128 .f32) (a12 : FVec Ideal S512 .f32) (b : Fin 8) (s : Fin 4096) (k : Fin 512) :
    (Cert.Reference3Ideal.Mix.refPool a0 a11 a12 (ix3 b s k) : EReal) = poolV a0 a11 a12 b s k := by
  pointwise [Cert.Reference3Ideal.Mix.refPool, Cert.Reference3Ideal.Mix.refPoolAll]
  rcases (by omega : k.val < 128 ∨ (128 ≤ k.val ∧ k.val < 256) ∨ (256 ≤ k.val ∧ k.val < 384) ∨ 384 ≤ k.val) with h | h | h | h
  · rw [poolV_at a0 a11 a12 b s k 0 ⟨k.val - 0, by omega⟩ (by first | rfl | omega | (dsimp only <;> omega))]
    simp (disch := omega) only [dif_pos, dif_neg, Cert.Reference3Ideal.Mix.refPool0_at, ref_pl0]
    all_goals first | rfl | (refine congrArg₂ (· * ·) (Finset.sum_congr rfl fun x _ => congrArg₂ (· * ·) rfl (congrArg (fun d => (a11 (ix3 0 x d) : EReal)) (Fin.ext (by simp only [] <;> omega)))) rfl)
  · rw [poolV_at a0 a11 a12 b s k 1 ⟨k.val - 128, by omega⟩ (by first | rfl | omega | (dsimp only <;> omega))]
    simp (disch := omega) only [dif_pos, dif_neg, Cert.Reference3Ideal.Mix.refPool1_at, ref_pl1]
    all_goals first | rfl | (refine congrArg₂ (· * ·) (Finset.sum_congr rfl fun x _ => congrArg₂ (· * ·) rfl (congrArg (fun d => (a11 (ix3 1 x d) : EReal)) (Fin.ext (by simp only [] <;> omega)))) rfl)
  · rw [poolV_at a0 a11 a12 b s k 2 ⟨k.val - 256, by omega⟩ (by first | rfl | omega | (dsimp only <;> omega))]
    simp (disch := omega) only [dif_pos, dif_neg, Cert.Reference3Ideal.Mix.refPool2_at, ref_pl2]
    all_goals first | rfl | (refine congrArg₂ (· * ·) (Finset.sum_congr rfl fun x _ => congrArg₂ (· * ·) rfl (congrArg (fun d => (a11 (ix3 2 x d) : EReal)) (Fin.ext (by simp only [] <;> omega)))) rfl)
  · rw [poolV_at a0 a11 a12 b s k 3 ⟨k.val - 384, by omega⟩ (by first | rfl | omega | (dsimp only <;> omega))]
    simp (disch := omega) only [dif_pos, dif_neg, Cert.Reference3Ideal.Mix.refPool3_at, ref_pl3]
    all_goals first | rfl | (refine congrArg₂ (· * ·) (Finset.sum_congr rfl fun x _ => congrArg₂ (· * ·) rfl (congrArg (fun d => (a11 (ix3 3 x d) : EReal)) (Fin.ext (by simp only [] <;> omega)))) rfl)

end Cert.Kernel3Ideal.Mix
-- ==== Proof.MixRef3.lean ====
module

public import proofs.«01_k».proof.Proof.MixW
public import proofs.«01_k».proof.Proof.MixRef2

/-!
The third reference in the terms of the third kernel.
-/

@[expose] public section

set_option maxRecDepth 16384

noncomputable section

open Idealize.ShloMosaic Idealize.ShloMosaic.TcCoe Idealize.SL.Sem
open Idealize.ShloMosaic.Pipeline (Dat)

namespace Cert.Kernel3Ideal.Mix
open Cert.Kernel3Ideal Cert.Kernel3Ideal.Gen Cert.Mix

/-- The order in which the heads' columns are regrouped. -/
def headOrder : Fin 512 ≃ Fin 512 where
  toFun c := ⟨c.val % 128 / 64 * 256 + c.val / 128 * 64 + c.val % 64, by omega⟩
  invFun c := ⟨c.val % 256 / 64 * 128 + c.val / 256 * 64 + c.val % 64, by omega⟩
  left_inv c := Fin.ext (by simp only []; omega)
  right_inv c := Fin.ext (by simp only []; omega)

theorem attn_sum (a5 : FVec Ideal S8x4096x512 .f32) (a15 : FVec Ideal S4x512x1024 .f32) (b : Fin 8) (s : Fin 4096) (l : Fin 1024) :
    (∑ c : Fin 512, (Cert.Reference3Ideal.Mix.refAttn a5 (ix3 b s c) : EReal) * (a15 (ix3 0 c l) : EReal)) = ∑ c : Fin 512, (a5 (ix3 b s c) : EReal) * (stackW a15 (ix3 0 c l) : EReal) := by
  refine (Equiv.sum_comp headOrder _).symm.trans (Finset.sum_congr rfl fun c _ => ?_)
  obtain ⟨g, hg⟩ : ∃ g : Fin 4, g.val = c.val / 128 := ⟨⟨c.val / 128, by omega⟩, rfl⟩
  obtain ⟨k, hk⟩ : ∃ k : Fin 2, k.val = c.val % 128 / 64 := ⟨⟨c.val % 128 / 64, by omega⟩, rfl⟩
  obtain ⟨d, hd⟩ : ∃ d : Fin 64, d.val = c.val % 64 := ⟨⟨c.val % 64, by omega⟩, rfl⟩
  have e1 : headOrder c = ⟨k.val * 256 + g.val * 64 + d.val, by omega⟩ := Fin.ext (by show c.val % 128 / 64 * 256 + c.val / 128 * 64 + c.val % 64 = _; simp only []; omega)
  have e2 : c = ⟨g.val * 128 + k.val * 64 + d.val, by omega⟩ := Fin.ext (by simp only []; omega)
  rw [e1]
  refine (congrArg₂ (· * ·) (Cert.Reference3Ideal.Mix.refAttn_at a5 b s k g d) (stackW_zero a15 g k d l).symm).trans ?_
  exact congrArg (fun c => (a5 (ix3 b s c) : EReal) * (stackW a15 (ix3 0 c l) : EReal)) e2.symm

/-- The merged value of a position. -/
def mergeV (a0 : FVec Ideal S8x4096x1024 .f32) (a1 a2 : FVec Ideal S8x4096x512 .f32) (a3 a4 : FVec Ideal S8x4096x1024 .f32) (a5 : FVec Ideal S8x4096x512 .f32)
    (a6 : FVec Ideal S8x1x6144 .f32) (a7 : FVec Ideal S31x512 .f32) (a8 a9 a10 : FVec Ideal S512 .f32) (a11 : FVec Ideal S4x128x128 .f32) (a12 : FVec Ideal S512 .f32)
    (a13 : FVec Ideal S4x128x128 .f32) (a14 : FVec Ideal S4x128 .f32) (a15 : FVec Ideal S4x512x1024 .f32) (a16 : FVec Ideal S1024x4096 .f32) (a17 : FVec Ideal S4096 .f32)
    (a18 : FVec Ideal S1024x1024 .f32) (b : Fin 8) (s : Fin 4096) (k : Fin 1024) : EReal :=
  (a3 (ix3 b s k) : EReal) + (a6 (ix3 b 0 ⟨(2 : Fin 6).val * 1024 + k.val, by show 2 * 1024 + k.val < 6144; omega⟩) : EReal) * ∑ l : Fin 1024,
    (gateV a4 a16 a17 b s ⟨l.val, by omega⟩ * (∑ c : Fin 512, (a5 (ix3 b s c) : EReal) * (stackW a15 (ix3 0 c l) : EReal))
      + gateV a4 a16 a17 b s ⟨1024 + l.val, by omega⟩ * (∑ c : Fin 512, mixV a0 a1 a2 a7 a8 a9 a10 a11 a12 a13 a14 0 b s c * (stackW a15 (ix3 1 c l) : EReal))
      + gateV a4 a16 a17 b s ⟨2048 + l.val, by omega⟩ * (∑ c : Fin 512, mixV a0 a1 a2 a7 a8 a9 a10 a11 a12 a13 a14 1 b s c * (stackW a15 (ix3 2 c l) : EReal))
      + gateV a4 a16 a17 b s ⟨3072 + l.val, by omega⟩ * (∑ c : Fin 512, mixV a0 a1 a2 a7 a8 a9 a10 a11 a12 a13 a14 2 b s c * (stackW a15 (ix3 3 c l) : EReal)))
    * (a18 (ix2 l k) : EReal)

theorem ref_at (a0 : FVec Ideal S8x4096x1024 .f32) (a1 a2 : FVec Ideal S8x4096x512 .f32) (a3 a4 : FVec Ideal S8x4096x1024 .f32) (a5 : FVec Ideal S8x4096x512 .f32)
    (a6 : FVec Ideal S8x1x6144 .f32) (a7 : FVec Ideal S31x512 .f32) (a8 a9 a10 : FVec Ideal S512 .f32) (a11 : FVec Ideal S4x128x128 .f32) (a12 : FVec Ideal S512 .f32)
    (a13 : FVec Ideal S4x128x128 .f32) (a14 : FVec Ideal S4x128 .f32) (a15 : FVec Ideal S4x512x1024 .f32) (a16 : FVec Ideal S1024x4096 .f32) (a17 : FVec Ideal S4096 .f32)
    (a18 : FVec Ideal S1024x1024 .f32) (b : Fin 8) (s : Fin 4096) (k : Fin 1024) :
    (Cert.Reference3Ideal.Mix.refZ a0 a1 a2 a3 a4 a5 a6 a7 a8 a9 a10 a11 a12 a13 a14 a15 a16 a17 a18 (ix3 b s k) : EReal)
      = mergeV a0 a1 a2 a3 a4 a5 a6 a7 a8 a9 a10 a11 a12 a13 a14 a15 a16 a17 a18 b s k := by
  refine (Cert.Reference3Ideal.Mix.refZ_at a0 a1 a2 a3 a4 a5 a6 a7 a8 a9 a10 a11 a12 a13 a14 a15 a16 a17 a18 b s k).trans ?_
  unfold mergeV
  refine congrArg₂ (· + ·) rfl (congrArg₂ (· * ·) (congrArg (fun k => (a6 (ix3 b 0 k) : EReal)) (Fin.ext (by show 2048 + k.val = 2 * 1024 + k.val; omega)))
    (Finset.sum_congr rfl fun l _ => congrArg₂ (· * ·) (congrArg₂ (· + ·) (congrArg₂ (· + ·) (congrArg₂ (· + ·) ?_ ?_) ?_) ?_) rfl))
  · exact congrArg₂ (· * ·) (Cert.Reference3Ideal.Mix.refGate0_at a4 a16 a17 b s l) (attn_sum a5 a15 b s l)
  · exact congrArg₂ (· * ·) (Cert.Reference3Ideal.Mix.refGate1_at a4 a16 a17 b s l) (Finset.sum_congr rfl fun c _ =>
      congrArg₂ (· * ·) ((ref_conv a0 a7 a8 a9 a10 b s c).trans (mixV_zero a0 a1 a2 a7 a8 a9 a10 a11 a12 a13 a14 0 rfl b s c).symm) (stackW_rest a15 1 c l (by decide)).symm)
  · exact congrArg₂ (· * ·) (Cert.Reference3Ideal.Mix.refGate2_at a4 a16 a17 b s l) (Finset.sum_congr rfl fun c _ =>
      congrArg₂ (· * ·) ((ref_pool a0 a11 a12 b s c).trans (mixV_one a0 a1 a2 a7 a8 a9 a10 a11 a12 a13 a14 1 rfl b s c).symm) (stackW_rest a15 2 c l (by decide)).symm)
  · exact congrArg₂ (· * ·) (Cert.Reference3Ideal.Mix.refGate3_at a4 a16 a17 b s l) (Finset.sum_congr rfl fun c _ =>
      congrArg₂ (· * ·) ((ref_sgu a1 a2 a13 a14 b s c).trans (mixV_two a0 a1 a2 a7 a8 a9 a10 a11 a12 a13 a14 2 rfl b s c).symm) (stackW_rest a15 3 c l (by decide)).symm)

end Cert.Kernel3Ideal.Mix
-- ==== Proof.MixValue.lean ====
module

public import proofs.«01_k».proof.Proof.MixVal
public import proofs.«01_k».proof.Proof.MixW
public import proofs.«01_k».proof.Proof.MixRef3

/-!
The third kernel computes the merged branches.
-/

@[expose] public section

set_option maxRecDepth 16384

noncomputable section

open Idealize.ShloMosaic Idealize.ShloMosaic.TcCoe Idealize.SL.Sem
open Idealize.ShloMosaic.Pipeline (Dat)

namespace Cert.Kernel3Ideal.Mix
open Cert.Kernel3Ideal Cert.Kernel3Ideal.Gen Cert.Mix

theorem slt_one (n : ℕ) (h : n < 7) : Scalar.cmpi CmpIPredicate.slt (BitVec.ofNat 32 n) 7#32 = 1 := by
  revert h; revert n; exact fun n h => (by decide : ∀ n : Fin 7, Scalar.cmpi CmpIPredicate.slt (BitVec.ofNat 32 n.val) 7#32 = 1) ⟨n, h⟩

theorem slt_zero (n : ℕ) (h : 7 ≤ n) (h' : n < 8) : Scalar.cmpi CmpIPredicate.slt (BitVec.ofNat 32 n) 7#32 = 0 := by
  obtain rfl : n = 7 := by omega
  decide

theorem sgt_one (n : ℕ) (h : 0 < n) (h' : n < 8) : Scalar.cmpi CmpIPredicate.sgt (BitVec.ofNat 32 n) 0#32 = 1 :=
  (by decide : ∀ n : Fin 8, 0 < n.val → Scalar.cmpi CmpIPredicate.sgt (BitVec.ofNat 32 n.val) 0#32 = 1) ⟨n, h'⟩ h

theorem sgt_zero (n : ℕ) (h : n ≤ 0) : Scalar.cmpi CmpIPredicate.sgt (BitVec.ofNat 32 n) 0#32 = 0 := by
  obtain rfl : n = 0 := by omega
  decide

theorem csum31 (a : EReal) (f : ℕ → EReal) : csum a f 31 = (((((((((((((((((((((((((((((((a + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) := rfl

variable (m : (ℓ : Loc nD τ sig) → Buf (Elt Ideal) ℓ)

set_option maxHeartbeats 40000000 in
set_option pp.deepTerms false in
set_option pp.deepTerms.threshold 12 in
theorem out_at (c : Dev nD) (t : Fin cfg0.N) (y : S1x512x1024.Idx) : (outsAt0 m c t y : EReal) = mergeV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (smp t) (row t (y 1)) (y 2) := by
  unfold Gen.outsAt0
  frame_open
  simp (disch := decide) only [View.read_writes_junk_eq_canon, View.canon_cons_unit_lit']
  simp only [View.readAt_eq_ld, Memref.IsWhole.read_unread]
  simp only [View.readCov_eq_canon']
  generalize hB : View.canon (s := S552x1024) (e := .f32) (Val := Elt Ideal) _ = B
  have fB : ∀ (j : Fin 552) (k : Fin 1024), j.val < 544 → (B (ix2 j k) : EReal)
      = padded (fun s => m ((c.tc : Thread nD τ).loc main_arg0) (ix3 (smp t) s k)) (t.val % 8 * 512 + j.val) := by
    intro j k hj
    have ht : t.val < 64 := lt_of_lt_of_eq t.isLt (by decide)
    rw [← hB]
    canon_tiles x h using (View.cover_of_tiledBy _ ![8,1024] (by sl_kernel_rfl) _)
    all_goals clear hB
    all_goals idx_vars x
    all_goals pointwise [k0_pay2, k0_pay3, k0_pay4, k0_pay5]
    · exfalso; omega
    · obtain rfl : k = x1 := Fin.ext h1
      rw [coord1]
      by_cases hc : t.val % 8 < 7
      · rw [slt_one _ hc, read2 m c t hc]
        refine (if_pos rfl).trans ?_
        refine Eq.symm (padded_of (by omega) (by omega) _ ?_)
        first | omega | (simp only []; omega)
      · rw [slt_zero _ (by omega) (by omega)]
        refine (if_neg (by decide)).trans ?_
        exact (padded_hi (by omega)).symm
    · obtain rfl : k = x1 := Fin.ext h1
      rw [read0]
      refine Eq.symm (padded_of (by omega) (by omega) _ ?_)
      simp only [row]; omega
    · obtain rfl : k = x1 := Fin.ext h1
      rw [coord1]
      by_cases hc : 0 < t.val % 8
      · rw [sgt_one _ hc (by omega), read1 m c t hc]
        refine (if_pos rfl).trans ?_
        refine Eq.symm (padded_of (by omega) (by omega) _ ?_)
        first | omega | (simp only []; omega)
      · rw [sgt_zero _ (by omega)]
        refine (if_neg (by decide)).trans ?_
        exact (padded_lo (by omega)).symm
  clear hB
  generalize hX : View.canon (s := S7x536x512) (e := .f32) (Val := Elt Ideal) _ = X
  have fX : ∀ (r : Fin 7) (j : Fin 536) (k : Fin 512), (X (ix3 r j k) : EReal)
      = padded (fun s => m ((c.tc : Thread nD τ).loc main_arg0) (ix3 (smp t) s ⟨k.val, by omega⟩)) (t.val % 8 * 512 + j.val + r.val + 1) := by
    intro r j k
    rw [← hX]
    canon_tiles x h
    all_goals clear hX
    all_goals idx_vars x
    all_goals pointwise [k0_pay6, k0_pay7, k0_pay8, k0_pay9, k0_pay10, k0_pay11, k0_pay12]
    all_goals rw [fB _ _ (by simp only [] <;> omega)]
    all_goals obtain rfl : k = x2 := Fin.ext h2
    all_goals exact congrArg (padded _) (by simp only [] <;> omega)
  clear hX
  generalize hA : View.canon (s := S512x512) (e := .f32) (Val := Elt Ideal) _ = A
  have fA : ∀ (r : Fin 512) (k : Fin 512), (A (ix2 r k) : EReal)
      = convAt (fun s => m ((c.tc : Thread nD τ).loc main_arg0) (ix3 (smp t) s ⟨k.val, by omega⟩))
          (fun q => m ((c.tc : Thread nD τ).loc main_arg7) (ix2 q k)) (m ((c.tc : Thread nD τ).loc main_arg8) (ix1 k))
          (t.val % 8 * 512 + r.val) := by
    intro r k
    have eX : ∀ (a b : ℕ) (h) (r : Fin 64) (k : Fin 512), (X ((Rect.unit (s := S7x536x512) ![a, b, 0] ![1, 64, 512] h).idx (ix3 0 r k)) : EReal)
        = padded (fun s => m ((c.tc : Thread nD τ).loc main_arg0) (ix3 (smp t) s ⟨k.val, by omega⟩)) (t.val % 8 * 512 + (b + r.val) + a + 1) := by
      intro a b h r k
      have ha := h 0
      have hb := h 1
      replace ha : a + 1 ≤ 7 := ha
      replace hb : b + 64 ≤ 536 := hb
      have hi : (Rect.unit (s := S7x536x512) ![a, b, 0] ![1, 64, 512] h).idx (ix3 0 r k) = (ix3 (⟨a, by omega⟩ : Fin 7) (⟨b + r.val, by omega⟩ : Fin 536) k : S7x536x512.Idx) := by
        funext i
        apply Fin.ext
        match i with
        | 0 => show a + 1 * 0 = a; omega
        | 1 => show b + 1 * r.val = b + r.val; omega
        | 2 => show 0 + 1 * k.val = k.val; omega
      rw [hi, fX]
    have eB : ∀ (b : ℕ) (hb' : b + 64 ≤ 544) (h) (r : Fin 64) (k : Fin 512), (B ((Rect.unit (s := S552x1024) ![b, 0] ![64, 512] h).idx (ix2 r k)) : EReal)
        = padded (fun s => m ((c.tc : Thread nD τ).loc main_arg0) (ix3 (smp t) s ⟨k.val, by omega⟩)) (t.val % 8 * 512 + (b + r.val)) := by
      intro b hb' h r k
      have hb := h 0
      replace hb : b + 64 ≤ 552 := hb
      have hi : (Rect.unit (s := S552x1024) ![b, 0] ![64, 512] h).idx (ix2 r k) = (ix2 (⟨b + r.val, by omega⟩ : Fin 552) (⟨k.val, by omega⟩ : Fin 1024) : S552x1024.Idx) := by
        funext i
        apply Fin.ext
        match i with
        | 0 => show b + 1 * r.val = b + r.val; omega
        | 1 => show 0 + 1 * k.val = k.val; omega
      rw [hi, fB _ _ (by simp only []; omega)]
    have eW : ∀ (q : ℕ) (h) (k : Fin 512), (iblk m c 9 t ((Rect.unit (s := S31x512) ![q, 0] ![1, 512] h).idx (ix2 0 k)) : EReal)
        = m ((c.tc : Thread nD τ).loc main_arg7) (ix2 (Fin.ofNat 31 q) k) := by
      intro q h k
      have hb := h 0
      replace hb : q + 1 ≤ 31 := hb
      have hi : (Rect.unit (s := S31x512) ![q, 0] ![1, 512] h).idx (ix2 0 k) = (ix2 (Fin.ofNat 31 q) k : S31x512.Idx) := by
        funext i
        apply Fin.ext
        match i with
        | 0 => show q + 1 * 0 = q % 31; omega
        | 1 => show 0 + 1 * k.val = k.val; omega
      rw [hi, read9]
    have eb : ∀ (h) (k : Fin 512), (iblk m c 10 t ((Rect.unit (s := S1x512) ![0, 0] ![1, 512] h).idx (ix2 0 k)) : EReal)
        = m ((c.tc : Thread nD τ).loc main_arg8) (ix1 k) := by
      intro h k
      have hi : (Rect.unit (s := S1x512) ![0, 0] ![1, 512] h).idx (ix2 0 k) = (ix2 0 k : S1x512.Idx) := by
        funext i
        apply Fin.ext
        match i with
        | 0 => rfl
        | 1 => show 0 + 1 * k.val = k.val; omega
      rw [hi, read10]
    rw [convAt, ← csum_start, csum31]
    rw [← hA]
    canon_tiles x h
    all_goals clear hA
    all_goals idx_vars x
    all_goals obtain rfl : k = x1 := Fin.ext h1
    all_goals simp only [pay13_at, pay14_at, pay15_at, pay16_at, pay17_at, pay18_at, pay19_at, pay20_at, pay24_at, pay25_at, pay26_at, pay27_at, pay28_at, pay29_at, pay30_at, pay31_at, pay32_at, pay33_at, pay35_at, pay36_at, pay37_at, pay38_at, pay39_at, pay40_at, pay41_at, pay42_at, pay43_at, pay44_at, pay45_at, pay47_at, pay48_at, pay49_at, pay50_at, pay51_at, pay52_at, pay53_at, pay54_at, pay55_at, pay56_at, pay58_at, pay59_at, pay60_at, pay61_at, pay62_at, pay63_at, pay64_at, pay65_at, pay66_at, pay69_at, pay70_at, pay71_at, pay72_at, pay73_at, pay74_at, pay75_at, pay76_at, pay80_at, pay81_at, pay82_at, pay83_at, pay84_at, pay85_at, pay86_at, pay87_at, pay88_at, pay89_at, pay91_at, pay92_at, pay93_at, pay94_at, pay95_at, pay96_at, pay97_at, pay98_at, pay99_at, pay100_at, pay101_at, View.ld, eX, eW, eb, eB, Nat.reduceAdd, Nat.reduceLeDiff]
    all_goals
      iterate 31 refine congrArg₂ (· + ·) ?_ (congrArg₂ (· * ·) ?_ rfl)
    all_goals first | rfl | exact congrArg (padded _) (by omega)
  clear hA
  generalize hG : View.canon (s := S512x4096) (e := .bf16) (Val := Elt Ideal) _ = G
  have fG : ∀ (r : Fin 512) (j : Fin 4096), (G (ix2 r j) : EReal)
      = gateV (m ((c.tc : Thread nD τ).loc main_arg4)) (m ((c.tc : Thread nD τ).loc main_arg16)) (m ((c.tc : Thread nD τ).loc main_arg17))
          (smp t) (row t r) j := by
    intro r j
    rw [← hG]
    canon_tiles x h
    all_goals clear hG
    all_goals idx_vars x
    all_goals pointwise [k0_pay21, k0_pay22, k0_pay23, k0_pay34, k0_pay46, k0_pay57, k0_pay67, k0_pay68, k0_pay77, k0_pay78, k0_pay79, k0_pay90, k0_pay102]
    all_goals obtain rfl : r = x0 := Fin.ext h0
    all_goals simp only [read6, read17, read18]
    all_goals obtain ⟨j, hj⟩ := j
    all_goals dsimp only at h1
    all_goals subst h1
    all_goals rfl
  clear hG
  generalize hR : View.canon (s := S3x512x512) (e := .bf16) (Val := Elt Ideal) _ = R
  have fR : ∀ (i : Fin 3) (r k : Fin 512), (R (ix3 i r k) : EReal) = mixV (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) i (smp t) (row t r) k := by
    have ht : t.val < 64 := lt_of_lt_of_eq t.isLt (by decide)
    intro i r k
    rw [← hR]
    canon_tiles x h using (View.cover_of_tiledBy _ ![1,128,128] (by sl_kernel_rfl) _)
    all_goals clear hR
    all_goals idx_vars x
    case piece0 =>
      obtain rfl : r = ⟨384 + x1.val, lt_of_lt_of_le (Nat.add_lt_add_left x1.isLt 384) (by decide)⟩ := Fin.ext (by first | exact h1 | (rw [h1]; simp))
      obtain rfl : k = ⟨384 + x2.val, lt_of_lt_of_le (Nat.add_lt_add_left x2.isLt 384) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 3) 3 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 3 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece1 =>
      obtain rfl : r = ⟨256 + x1.val, lt_of_lt_of_le (Nat.add_lt_add_left x1.isLt 256) (by decide)⟩ := Fin.ext (by first | exact h1 | (rw [h1]; simp))
      obtain rfl : k = ⟨384 + x2.val, lt_of_lt_of_le (Nat.add_lt_add_left x2.isLt 384) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 2) 3 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 3 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece2 =>
      obtain rfl : r = ⟨128 + x1.val, lt_of_lt_of_le (Nat.add_lt_add_left x1.isLt 128) (by decide)⟩ := Fin.ext (by first | exact h1 | (rw [h1]; simp))
      obtain rfl : k = ⟨384 + x2.val, lt_of_lt_of_le (Nat.add_lt_add_left x2.isLt 384) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 1) 3 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 3 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece3 =>
      obtain rfl : r = ⟨x1.val, lt_of_lt_of_le x1.isLt (by decide)⟩ := Fin.ext (by first | exact h1 | (rw [h1]; simp))
      obtain rfl : k = ⟨384 + x2.val, lt_of_lt_of_le (Nat.add_lt_add_left x2.isLt 384) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 0) 3 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 3 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece4 =>
      obtain rfl : r = ⟨384 + x1.val, lt_of_lt_of_le (Nat.add_lt_add_left x1.isLt 384) (by decide)⟩ := Fin.ext (by first | exact h1 | (rw [h1]; simp))
      obtain rfl : k = ⟨256 + x2.val, lt_of_lt_of_le (Nat.add_lt_add_left x2.isLt 256) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 3) 2 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 2 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece5 =>
      obtain rfl : r = ⟨256 + x1.val, lt_of_lt_of_le (Nat.add_lt_add_left x1.isLt 256) (by decide)⟩ := Fin.ext (by first | exact h1 | (rw [h1]; simp))
      obtain rfl : k = ⟨256 + x2.val, lt_of_lt_of_le (Nat.add_lt_add_left x2.isLt 256) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 2) 2 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 2 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece6 =>
      obtain rfl : r = ⟨128 + x1.val, lt_of_lt_of_le (Nat.add_lt_add_left x1.isLt 128) (by decide)⟩ := Fin.ext (by first | exact h1 | (rw [h1]; simp))
      obtain rfl : k = ⟨256 + x2.val, lt_of_lt_of_le (Nat.add_lt_add_left x2.isLt 256) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 1) 2 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 2 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece7 =>
      obtain rfl : r = ⟨x1.val, lt_of_lt_of_le x1.isLt (by decide)⟩ := Fin.ext (by first | exact h1 | (rw [h1]; simp))
      obtain rfl : k = ⟨256 + x2.val, lt_of_lt_of_le (Nat.add_lt_add_left x2.isLt 256) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 0) 2 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 2 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece8 =>
      obtain rfl : r = ⟨384 + x1.val, lt_of_lt_of_le (Nat.add_lt_add_left x1.isLt 384) (by decide)⟩ := Fin.ext (by first | exact h1 | (rw [h1]; simp))
      obtain rfl : k = ⟨128 + x2.val, lt_of_lt_of_le (Nat.add_lt_add_left x2.isLt 128) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 3) 1 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 1 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece9 =>
      obtain rfl : r = ⟨256 + x1.val, lt_of_lt_of_le (Nat.add_lt_add_left x1.isLt 256) (by decide)⟩ := Fin.ext (by first | exact h1 | (rw [h1]; simp))
      obtain rfl : k = ⟨128 + x2.val, lt_of_lt_of_le (Nat.add_lt_add_left x2.isLt 128) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 2) 1 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 1 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece10 =>
      obtain rfl : r = ⟨128 + x1.val, lt_of_lt_of_le (Nat.add_lt_add_left x1.isLt 128) (by decide)⟩ := Fin.ext (by first | exact h1 | (rw [h1]; simp))
      obtain rfl : k = ⟨128 + x2.val, lt_of_lt_of_le (Nat.add_lt_add_left x2.isLt 128) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 1) 1 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 1 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece11 =>
      obtain rfl : r = ⟨x1.val, lt_of_lt_of_le x1.isLt (by decide)⟩ := Fin.ext (by first | exact h1 | (rw [h1]; simp))
      obtain rfl : k = ⟨128 + x2.val, lt_of_lt_of_le (Nat.add_lt_add_left x2.isLt 128) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 0) 1 x1 (by omega) (by simp only [row] <;> omega) (by first | rfl | omega | (dsimp only <;> omega)))))
      refine congrArg₂ (· * ·) ?_ (congrArg₂ (· + ·) (Finset.sum_congr rfl fun x _ => congrArg₂ (· * ·) rfl ?_) (read16 m c t x1 1 x2))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece12 =>
      obtain rfl : r = ⟨384 + x1.val, lt_of_lt_of_le (Nat.add_lt_add_left x1.isLt 384) (by decide)⟩ := Fin.ext (by first | exact h1 | (rw [h1]; simp))
      obtain rfl : k = ⟨x2.val, lt_of_lt_of_le x2.isLt (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 3) 0 x1 (by omega) (by simp only [row] <;> omega) (by first | rfl | omega | (dsimp only <;> omega)))))
      refine congrArg₂ (· * ·) ?_ (congrArg₂ (· + ·) (Finset.sum_congr rfl fun x _ => congrArg₂ (· * ·) rfl ?_) ((congrArg (fun z => (iblk m c 16 t (ix2 x1 z) : EReal)) (Fin.ext (by simp))).trans (read16 m c t x1 0 x2)))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece13 =>
      obtain rfl : r = ⟨256 + x1.val, lt_of_lt_of_le (Nat.add_lt_add_left x1.isLt 256) (by decide)⟩ := Fin.ext (by first | exact h1 | (rw [h1]; simp))
      obtain rfl : k = ⟨x2.val, lt_of_lt_of_le x2.isLt (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 2) 0 x1 (by omega) (by simp only [row] <;> omega) (by first | rfl | omega | (dsimp only <;> omega)))))
      refine congrArg₂ (· * ·) ?_ (congrArg₂ (· + ·) (Finset.sum_congr rfl fun x _ => congrArg₂ (· * ·) rfl ?_) ((congrArg (fun z => (iblk m c 16 t (ix2 x1 z) : EReal)) (Fin.ext (by simp))).trans (read16 m c t x1 0 x2)))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece14 =>
      obtain rfl : r = ⟨128 + x1.val, lt_of_lt_of_le (Nat.add_lt_add_left x1.isLt 128) (by decide)⟩ := Fin.ext (by first | exact h1 | (rw [h1]; simp))
      obtain rfl : k = ⟨x2.val, lt_of_lt_of_le x2.isLt (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 1) 0 x1 (by omega) (by simp only [row] <;> omega) (by first | rfl | omega | (dsimp only <;> omega)))))
      refine congrArg₂ (· * ·) ?_ (congrArg₂ (· + ·) (Finset.sum_congr rfl fun x _ => congrArg₂ (· * ·) rfl ?_) ((congrArg (fun z => (iblk m c 16 t (ix2 x1 z) : EReal)) (Fin.ext (by simp))).trans (read16 m c t x1 0 x2)))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece15 =>
      obtain rfl : r = ⟨x1.val, lt_of_lt_of_le x1.isLt (by decide)⟩ := Fin.ext (by first | exact h1 | (rw [h1]; simp))
      obtain rfl : k = ⟨x2.val, lt_of_lt_of_le x2.isLt (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      simp (disch := omega) only [dif_pos, dif_neg, read3, read4, read15]
      refine Eq.trans ?_ (Eq.symm ((mixV_two _ _ _ _ _ _ _ _ _ _ _ i (by omega) _ _ _).trans (sguV_at _ _ _ _ _ _ _ (t.val % 8 * 4 + 0) 0 x1 (by omega) (by simp only [row] <;> omega) (by first | rfl | omega | (dsimp only <;> omega)))))
      refine congrArg₂ (· * ·) ?_ (congrArg₂ (· + ·) (Finset.sum_congr rfl fun x _ => congrArg₂ (· * ·) rfl ?_) ((congrArg (fun z => (iblk m c 16 t (ix2 x1 z) : EReal)) (Fin.ext (by simp))).trans (read16 m c t x1 0 x2)))
      · exact congrArg₂ (fun s k => m ((c.tc : Thread nD τ).loc main_arg1) (ix3 (smp t) s k)) (Fin.ext (by simp only [row] <;> omega)) (Fin.ext (by simp only [] <;> omega))
      · exact congrArg₂ (fun s k => m ((c.tc : Thread nD τ).loc main_arg2) (ix3 (smp t) s k)) (Fin.ext (by simp only [row] <;> omega)) (Fin.ext (by simp only [] <;> omega))
    case piece16 =>
      generalize hT2 : View.canon (s := S3x544x128) (e := .f32) (Val := Elt Ideal) _ = T2
      have fT2 : ∀ (j : Fin 544) (d : Fin 128), j.val < 528 → (T2 (ix3 2 j d) : EReal) = s8 (padded (fun s => m ((c.tc : Thread nD τ).loc main_arg0) (ix3 (smp t) s ⟨896 + d.val, by omega⟩))) (t.val % 8 * 512 + j.val) := by
        intro j d hj
        rw [← hT2, embT 2 528 inb_S3x544x128_S1x528x128_2_0_0 j d (by omega)]
        clear hT2
        refine (View.canon_cons_emb _ _ _ _).trans ?_
        refine (pay120_at _ _ _ _).trans ?_
        generalize hT1 : View.canon (s := S3x544x128) (e := .f32) (Val := Elt Ideal) _ = T1
        have fT1 : ∀ (j : Fin 544) (d : Fin 128), j.val < 536 → (T1 (ix3 1 j d) : EReal) = s4 (padded (fun s => m ((c.tc : Thread nD τ).loc main_arg0) (ix3 (smp t) s ⟨896 + d.val, by omega⟩))) (t.val % 8 * 512 + j.val) := by
          intro j d hj
          rw [← hT1, embT 1 536 inb_S3x544x128_S1x536x128_1_0_0 j d (by omega)]
          clear hT1
          refine (View.canon_cons_emb _ _ _ _).trans ?_
          refine (pay119_at _ _ _ _ ).trans ?_
          generalize hT0 : View.canon (s := S3x544x128) (e := .f32) (Val := Elt Ideal) _ = T0
          have fT0 : ∀ (j : Fin 544) (d : Fin 128), j.val < 543 → (T0 (ix3 0 j d) : EReal) = s2 (padded (fun s => m ((c.tc : Thread nD τ).loc main_arg0) (ix3 (smp t) s ⟨896 + d.val, by omega⟩))) (t.val % 8 * 512 + j.val) := by
            intro j d hj
            rw [← hT0, embT 0 544 inb_S3x544x128_S1x544x128_0_0_0 j d (by omega)]
            clear hT0
            refine (View.canon_cons_emb _ _ _ _).trans ?_
            refine (pay118_at _ _ _ _).trans ?_
            exact congrArg₂ (· + ·) ((congrArg B (idxB 0 896 _ _ d)).trans ((fB _ _ (by first | rfl | omega | (dsimp only <;> omega))).trans (congrArg (padded _) (by first | rfl | omega | (dsimp only <;> omega))))) ((congrArg B (idxB 1 896 _ _ d)).trans ((fB _ _ (by first | rfl | omega | (dsimp only <;> omega))).trans (congrArg (padded _) (by first | rfl | omega | (dsimp only <;> omega)))))
          exact congrArg₂ (· + ·) ((congrArg T0 (idxT 0 0 536 _ _ d)).trans ((fT0 _ _ (by first | rfl | omega | (dsimp only <;> omega))).trans (congrArg (s2 _) (by first | rfl | omega | (dsimp only <;> omega))))) ((congrArg T0 (idxT 0 2 536 _ _ d)).trans ((fT0 _ _ (by first | rfl | omega | (dsimp only <;> omega))).trans (congrArg (s2 _) (by first | rfl | omega | (dsimp only <;> omega)))))
        exact congrArg₂ (· + ·) ((congrArg T1 (idxT 1 0 528 _ _ d)).trans ((fT1 _ _ (by first | rfl | omega | (dsimp only <;> omega))).trans (congrArg (s4 _) (by first | rfl | omega | (dsimp only <;> omega))))) ((congrArg T1 (idxT 1 4 528 _ _ d)).trans ((fT1 _ _ (by first | rfl | omega | (dsimp only <;> omega))).trans (congrArg (s4 _) (by first | rfl | omega | (dsimp only <;> omega)))))
      clear hT2
      obtain rfl : r = x1 := Fin.ext h1
      obtain rfl : k = ⟨384 + x2.val, lt_of_lt_of_le (Nat.add_lt_add_left x2.isLt 384) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      refine Eq.trans ?_ (Eq.symm ((mixV_one _ _ _ _ _ _ _ _ _ _ _ i (by omega) _ _ _).trans (poolV_at _ _ _ _ _ _ 3 x2 (by first | rfl | omega | (dsimp only <;> omega)))))
      refine congrArg₂ (· * ·) (Finset.sum_congr rfl fun x _ => congrArg₂ (· * ·) (congrArg₂ (· - ·) (congrArg₂ Ideal.div ?_ ?_) ?_) ?_) ?_
      · refine Eq.trans ?_ (sum16 (padded (fun s => m ((c.tc : Thread nD τ).loc main_arg0) (ix3 (smp t) s ⟨896 + x.val, by omega⟩))) (t.val % 8 * 512 + r.val + 8))
        exact congrArg₂ (· + ·) ((fT2 _ _ (by first | rfl | omega | (dsimp only <;> omega))).trans (congrArg (s8 _) (by first | rfl | omega | (dsimp only <;> omega)))) ((fT2 _ _ (by first | rfl | omega | (dsimp only <;> omega))).trans (congrArg (s8 _) (by first | rfl | omega | (dsimp only <;> omega))))
      · rw [posW, coord1]; rfl
      · exact (fB _ _ (by first | rfl | omega | (dsimp only <;> omega))).trans (padded_of (by first | rfl | omega | (dsimp only <;> omega)) (by first | rfl | omega | (dsimp only <;> omega)) (row t r) (by simp only [row] <;> omega))
      · exact read13 m c t 3 x x2
      · exact read14 m c t _
    case piece17 =>
      generalize hT1 : View.canon (s := S3x544x128) (e := .f32) (Val := Elt Ideal) _ = T1
      have fT1 : ∀ (j : Fin 544) (d : Fin 128), j.val < 536 → (T1 (ix3 1 j d) : EReal) = s4 (padded (fun s => m ((c.tc : Thread nD τ).loc main_arg0) (ix3 (smp t) s ⟨768 + d.val, by omega⟩))) (t.val % 8 * 512 + j.val) := by
        intro j d hj
        rw [← hT1, embT 1 536 inb_S3x544x128_S1x536x128_1_0_0 j d (by omega)]
        clear hT1
        refine (View.canon_cons_emb _ _ _ _).trans ?_
        refine (pay116_at _ _ _ ).trans ?_
        refine (pay115_at _ _ _ _ ).trans ?_
        generalize hT0 : View.canon (s := S3x544x128) (e := .f32) (Val := Elt Ideal) _ = T0
        have fT0 : ∀ (j : Fin 544) (d : Fin 128), j.val < 543 → (T0 (ix3 0 j d) : EReal) = s2 (padded (fun s => m ((c.tc : Thread nD τ).loc main_arg0) (ix3 (smp t) s ⟨768 + d.val, by omega⟩))) (t.val % 8 * 512 + j.val) := by
          intro j d hj
          rw [← hT0, embT 0 544 inb_S3x544x128_S1x544x128_0_0_0 j d (by omega)]
          clear hT0
          refine (View.canon_cons_emb _ _ _ _).trans ?_
          refine (pay114_at _ _ _ _).trans ?_
          exact congrArg₂ (· + ·) ((congrArg B (idxB 0 768 _ _ d)).trans ((fB _ _ (by first | rfl | omega | (dsimp only <;> omega))).trans (congrArg (padded _) (by first | rfl | omega | (dsimp only <;> omega))))) ((congrArg B (idxB 1 768 _ _ d)).trans ((fB _ _ (by first | rfl | omega | (dsimp only <;> omega))).trans (congrArg (padded _) (by first | rfl | omega | (dsimp only <;> omega)))))
        exact congrArg₂ (· + ·) ((congrArg T0 (idxT 0 0 536 _ _ d)).trans ((fT0 _ _ (by first | rfl | omega | (dsimp only <;> omega))).trans (congrArg (s2 _) (by first | rfl | omega | (dsimp only <;> omega))))) ((congrArg T0 (idxT 0 2 536 _ _ d)).trans ((fT0 _ _ (by first | rfl | omega | (dsimp only <;> omega))).trans (congrArg (s2 _) (by first | rfl | omega | (dsimp only <;> omega)))))
      clear hT1
      obtain rfl : r = x1 := Fin.ext h1
      obtain rfl : k = ⟨256 + x2.val, lt_of_lt_of_le (Nat.add_lt_add_left x2.isLt 256) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      refine Eq.trans ?_ (Eq.symm ((mixV_one _ _ _ _ _ _ _ _ _ _ _ i (by omega) _ _ _).trans (poolV_at _ _ _ _ _ _ 2 x2 (by first | rfl | omega | (dsimp only <;> omega)))))
      refine congrArg₂ (· * ·) (Finset.sum_congr rfl fun x _ => congrArg₂ (· * ·) (congrArg₂ (· - ·) (congrArg₂ Ideal.div ?_ ?_) ?_) ?_) ?_
      · refine Eq.trans ?_ (sum8 (padded (fun s => m ((c.tc : Thread nD τ).loc main_arg0) (ix3 (smp t) s ⟨768 + x.val, by omega⟩))) (t.val % 8 * 512 + r.val + 12))
        exact congrArg₂ (· + ·) ((fT1 _ _ (by first | rfl | omega | (dsimp only <;> omega))).trans (congrArg (s4 _) (by first | rfl | omega | (dsimp only <;> omega)))) ((fT1 _ _ (by first | rfl | omega | (dsimp only <;> omega))).trans (congrArg (s4 _) (by first | rfl | omega | (dsimp only <;> omega))))
      · rw [posW, coord1]; rfl
      · exact (fB _ _ (by first | rfl | omega | (dsimp only <;> omega))).trans (padded_of (by first | rfl | omega | (dsimp only <;> omega)) (by first | rfl | omega | (dsimp only <;> omega)) (row t r) (by simp only [row] <;> omega))
      · exact read13 m c t 2 x x2
      · exact read14 m c t _
    case piece18 =>
      generalize hT0 : View.canon (s := S3x544x128) (e := .f32) (Val := Elt Ideal) _ = T0
      have fT0 : ∀ (j : Fin 544) (d : Fin 128), j.val < 543 → (T0 (ix3 0 j d) : EReal) = s2 (padded (fun s => m ((c.tc : Thread nD τ).loc main_arg0) (ix3 (smp t) s ⟨640 + d.val, by omega⟩))) (t.val % 8 * 512 + j.val) := by
        intro j d hj
        rw [← hT0, embT 0 544 inb_S3x544x128_S1x544x128_0_0_0 j d (by omega)]
        clear hT0
        refine (View.canon_cons_emb _ _ _ _).trans ?_
        refine (pay109_at _ _ _ _).trans ?_
        exact congrArg₂ (· + ·) ((congrArg B (idxB 0 640 _ _ d)).trans ((fB _ _ (by first | rfl | omega | (dsimp only <;> omega))).trans (congrArg (padded _) (by first | rfl | omega | (dsimp only <;> omega))))) ((congrArg B (idxB 1 640 _ _ d)).trans ((fB _ _ (by first | rfl | omega | (dsimp only <;> omega))).trans (congrArg (padded _) (by first | rfl | omega | (dsimp only <;> omega)))))
      clear hT0
      obtain rfl : r = x1 := Fin.ext h1
      obtain rfl : k = ⟨128 + x2.val, lt_of_lt_of_le (Nat.add_lt_add_left x2.isLt 128) (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      refine Eq.trans ?_ (Eq.symm ((mixV_one _ _ _ _ _ _ _ _ _ _ _ i (by omega) _ _ _).trans (poolV_at _ _ _ _ _ _ 1 x2 (by first | rfl | omega | (dsimp only <;> omega)))))
      refine congrArg₂ (· * ·) (Finset.sum_congr rfl fun x _ => congrArg₂ (· * ·) (congrArg₂ (· - ·) (congrArg₂ Ideal.div ?_ ?_) ?_) ?_) ?_
      · refine Eq.trans ?_ (sum4 (padded (fun s => m ((c.tc : Thread nD τ).loc main_arg0) (ix3 (smp t) s ⟨640 + x.val, by omega⟩))) (t.val % 8 * 512 + r.val + 14))
        exact congrArg₂ (· + ·) ((fT0 _ _ (by first | rfl | omega | (dsimp only <;> omega))).trans (congrArg (s2 _) (by first | rfl | omega | (dsimp only <;> omega)))) ((fT0 _ _ (by first | rfl | omega | (dsimp only <;> omega))).trans (congrArg (s2 _) (by first | rfl | omega | (dsimp only <;> omega))))
      · rw [posW, coord1]; rfl
      · exact (fB _ _ (by first | rfl | omega | (dsimp only <;> omega))).trans (padded_of (by first | rfl | omega | (dsimp only <;> omega)) (by first | rfl | omega | (dsimp only <;> omega)) (row t r) (by simp only [row] <;> omega))
      · exact read13 m c t 1 x x2
      · exact read14 m c t _
    case piece19 =>
      obtain rfl : r = x1 := Fin.ext h1
      obtain rfl : k = ⟨x2.val, lt_of_lt_of_le x2.isLt (by decide)⟩ := Fin.ext (by first | exact h2 | (rw [h2]; simp))
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      refine Eq.trans ?_ (Eq.symm ((mixV_one _ _ _ _ _ _ _ _ _ _ _ i (by omega) _ _ _).trans (poolV_at _ _ _ _ _ _ 0 x2 (by first | rfl | omega | (dsimp only <;> omega)))))
      refine congrArg₂ (· * ·) (Finset.sum_congr rfl fun x _ => congrArg₂ (· * ·) (congrArg₂ (· - ·) (congrArg₂ Ideal.div ?_ ?_) ?_) ?_) ?_
      · refine Eq.trans ?_ (sum2 (padded (fun s => m ((c.tc : Thread nD τ).loc main_arg0) (ix3 (smp t) s ⟨512 + x.val, by omega⟩))) (t.val % 8 * 512 + r.val + 15))
        exact congrArg₂ (· + ·) ((fB _ _ (by first | rfl | omega | (dsimp only <;> omega))).trans (congrArg (padded _) (by first | rfl | omega | (dsimp only <;> omega)))) ((fB _ _ (by first | rfl | omega | (dsimp only <;> omega))).trans (congrArg (padded _) (by first | rfl | omega | (dsimp only <;> omega))))
      · rw [posW, coord1]; rfl
      · exact (fB _ _ (by first | rfl | omega | (dsimp only <;> omega))).trans (padded_of (by first | rfl | omega | (dsimp only <;> omega)) (by first | rfl | omega | (dsimp only <;> omega)) (row t r) (by simp only [row] <;> omega))
      · exact read13 m c t 0 x x2
      · exact read14 m c t _
    case piece20 =>
      obtain rfl : r = x1 := Fin.ext h1
      obtain rfl : k = x2 := Fin.ext h2
      pointwise [k0_pay103, k0_pay104, k0_pay105, k0_pay106, k0_pay107, k0_pay108, k0_pay110, k0_pay111, k0_pay112, k0_pay113, k0_pay117, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
      obtain ⟨y, hy⟩ : ∃ y : Fin 512 → EReal, y = fun k => convAt (fun s => m ((c.tc : Thread nD τ).loc main_arg0) (ix3 (smp t) s ⟨k.val, by omega⟩)) (fun q => m ((c.tc : Thread nD τ).loc main_arg7) (ix2 q k)) (m ((c.tc : Thread nD τ).loc main_arg8) (ix1 k)) (t.val % 8 * 512 + r.val) := ⟨_, rfl⟩
      have fy : ∀ k, (A (ix2 r k) : EReal) = y k := fun k => (fA r k).trans (congrFun hy k).symm
      refine Eq.trans ?_ (Eq.symm ((mixV_zero _ _ _ _ _ _ _ _ _ _ _ i (by omega) _ _ _).trans (show _ = swRow y (fun c' => (m ((c.tc : Thread nD τ).loc main_arg9)) (ix1 c')) (fun c' => (m ((c.tc : Thread nD τ).loc main_arg10)) (ix1 c')) k from by rw [hy]; rfl)))
      clear hy fA
      simp only [fy, read11, read12, swRow, lnRow, mean512]
      rfl

  clear hR
  idx_vars y
  pointwise [k0_pay1, k0_pay153, k0_pay154, k0_pay155]
  simp only [fG, fR, read5, read7, read8, read20, blk19]
  rfl

theorem final (c : Dev nD) : (dats m 0 c).arrAt 21 (cfgs 0).N
    = Cert.Reference3Ideal.Mix.refZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (dats m 0 c).arrAt_eq_of_covers 21 _ (by decide +kernel) fun t hf y => ?_
  blk_simp
  rw [after0_21]
  refine (out_at m c t y).trans ?_
  refine (ref_at _ _ _ _ _ _ _ _ _ _ _ _ _ _ _ _ _ _ _ (smp t) (row t (y 1)) (y 2)).symm.trans ?_
  have ht : t.val < 64 := lt_of_lt_of_eq t.isLt (by decide)
  idx_vars y
  rw [Subsingleton.elim y0 0]
  congr 1
  blk_ext [idx t, smp, row]

end Cert.Kernel3Ideal.Mix
-- ==== Proof.CtxRef.lean ====
module

public import proofs.«01_k».proof.Proof.Gen.Reference4Ideal.Run
public import proofs.«01_k».proof.Proof.MlpRef
public import proofs.«01_k».proof.Proof.Softmax
public import Idealize.ShloMosaic.Lib.Pointwise
public import Idealize.ShloMosaic.Lib.Claim

/-!
The reference of the layer's first call, read at an index, and the law by which the mean over a head
is a product with the scaled head indicator.
-/

@[expose] public section

set_option maxRecDepth 16384

noncomputable section

open Idealize.ShloMosaic Idealize.ShloMosaic.TcCoe Idealize.SL.Sem
open Idealize.ShloMosaic.Pipeline (Dat)

namespace Cert.Ctx
open Cert.Mlp

/-- A key of one head divided by its root mean square, times a weight. -/
def knrm (z g : Fin 64 → EReal) (d : Fin 64) : EReal :=
  z d * Ideal.rsqrt (Ideal.div (∑ l, z l * z l) (Ideal.ofBits .f32 0x42800000#32) + Ideal.ofBits .f32 0x358637BD#32) * g d

/-- Column `n` of the projection of a row. -/
def zcol (h : Fin 1024 → EReal) (w : Fin 1024 → Fin 3328 → EReal) (n : Fin 3328) : EReal := ∑ q, h q * w q n

theorem sixtyfour : Ideal.ofBits .f32 0x42800000#32 = ((64 : ℝ) : EReal) := by
  simp [Ideal.ofBits, Ideal.ieee, -EReal.coe_mul]
  norm_num

/-- The scaled head indicator. -/
def ind (j c : Fin 128) : EReal :=
  Ideal.div (if j.val / 64 = c.val / 64 then 1 else 0) (Ideal.ofBits .f32 0x42800000#32)

theorem ind_sum (f : Fin 128 → EReal) (h : Fin 2) (d : Fin 64) :
    ∑ j, f j * ind j ⟨h.val * 64 + d.val, by omega⟩
      = Ideal.div (∑ l : Fin 64, f ⟨h.val * 64 + l.val, by omega⟩) (Ideal.ofBits .f32 0x42800000#32) := by
  have h64 : (((64 : ℝ) : EReal)) ≠ 0 := by norm_num
  have hinv : (((64 : ℝ) : EReal))⁻¹ = (((64 : ℝ)⁻¹ : ℝ) : EReal) := rfl
  simp only [ind, Ideal.div, sixtyfour, if_neg h64, hinv]
  rw [Cert.Soft.sum_mul_coe _ _ _ (by norm_num), ← Equiv.sum_comp (finProdFinEquiv (m := 2) (n := 64)), Fintype.sum_prod_type, Finset.sum_eq_single h]
  · refine Finset.sum_congr rfl fun l _ => ?_
    have e : (finProdFinEquiv (h, l) : Fin (2 * 64)) = (⟨h.val * 64 + l.val, by omega⟩ : Fin 128) := Fin.ext (by simp only [finProdFinEquiv_apply_val]; omega)
    rw [e, if_pos (by simp only []; omega), one_mul]
  · intro k _ hk
    refine Finset.sum_eq_zero fun l _ => ?_
    have hk' : k.val ≠ h.val := fun q => hk (Fin.ext q)
    have e : (finProdFinEquiv (k, l) : Fin (2 * 64)) = (⟨k.val * 64 + l.val, by omega⟩ : Fin 128) := Fin.ext (by simp only [finProdFinEquiv_apply_val]; omega)
    rw [e, if_neg (by simp only []; omega), zero_mul, mul_zero]
  · exact fun hn => absurd (Finset.mem_univ h) hn

end Cert.Ctx

namespace Cert.Reference4Ideal.Ctx
open Cert.Reference4Ideal Cert.Reference4Ideal.Gen Cert.Mlp Cert.Ctx

/-- The modulated normalised rows. -/
def refH (x : FVec Ideal S16x256x1024 .f32) (md : FVec Ideal S1x1x6144 .f32) (g : FVec Ideal S1024 .f32) : FVec Ideal S16x256x1024 .f32 :=
  addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 1024] md slices_S1x1x6144_S1x1x1024_0_0_1024)))) (broadcastInDim S16x256x1024 ![0, 1, 2] bcast_S1x1x1024_S16x256x1024_0_1_2 (extractStridedSlice S1x1x1024 ![0, 0, 0] md slices_S1x1x6144_S1x1x1024_0_0_0))

/-- Their projection. -/
def refZ (x : FVec Ideal S16x256x1024 .f32) (md : FVec Ideal S1x1x6144 .f32) (g : FVec Ideal S1024 .f32) (w : FVec Ideal S1024x3328 .f32) : FVec Ideal S16x256x3328 .f32 :=
  Host.dotGeneral dot_S16x256x1024_S1024x3328_S16x256x3328_2_0_01_1_n_n none (refH x md g) w

/-- The keys before their norm, by head. -/
def refKh (x : FVec Ideal S16x256x1024 .f32) (md : FVec Ideal S1x1x6144 .f32) (g : FVec Ideal S1024 .f32) (w : FVec Ideal S1024x3328 .f32) : FVec Ideal S16x256x2x64 .f32 :=
  shapeCast S16x256x2x64 (extractStridedSlice S16x256x128 ![0, 0, 512] (refZ x md g w) slices_S16x256x3328_S16x256x128_0_0_512) shapeCasts_S16x256x128_S16x256x2x64

/-- The keys. -/
def refK (x : FVec Ideal S16x256x1024 .f32) (md : FVec Ideal S1x1x6144 .f32) (g : FVec Ideal S1024 .f32) (w : FVec Ideal S1024x3328 .f32) (kg : FVec Ideal S64 .f32) : FVec Ideal S1x4096x128 .f32 :=
  shapeCast S1x4096x128 (mulf (mulf (refKh x md g w) (broadcastInDim S16x256x2x64 ![0, 1, 2, 3] bcast_S16x256x2x1_S16x256x2x64_0_1_2_3 (Host.rsqrt (addf (Host.divf (broadcastInDim S16x256x2x1 ![0, 1, 2] bcast_S16x256x2_S16x256x2x1_0_1_2 (Host.reduceAdd (mulf (refKh x md g w) (refKh x md g w)) (constant S_ .f32 0x00000000#32) reducesTo_S16x256x2x64_S16x256x2_d3 h_S_)) (broadcastInDim S16x256x2x1 ![] bcast_S_S16x256x2x1 (constant S_ .f32 0x42800000#32))) (broadcastInDim S16x256x2x1 ![] bcast_S_S16x256x2x1 (constant S_ .f32 0x358637BD#32)))))) (broadcastInDim S16x256x2x64 ![0, 1, 2, 3] bcast_S1x1x1x64_S16x256x2x64_0_1_2_3 (broadcastInDim S1x1x1x64 ![3] bcast_S64_S1x1x1x64_3 kg))) shapeCasts_S16x256x2x64_S1x4096x128

/-- The values. -/
def refV (x : FVec Ideal S16x256x1024 .f32) (md : FVec Ideal S1x1x6144 .f32) (g : FVec Ideal S1024 .f32) (w : FVec Ideal S1024x3328 .f32) : FVec Ideal S1x4096x128 .f32 :=
  shapeCast S1x4096x128 (shapeCast S16x256x2x64 (extractStridedSlice S16x256x128 ![0, 0, 640] (refZ x md g w) slices_S16x256x3328_S16x256x128_0_0_640) shapeCasts_S16x256x128_S16x256x2x64) shapeCasts_S16x256x2x64_S1x4096x128

theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = refK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg5))
      ∧ r.2.mem ((c.tc : Thread nD τ).loc main_v44) = refV (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2.1.trans rfl, (h c).2.2⟩) (Value.run (F := Ideal) m ρ)

/-- Columns `o + k` of the modulation. -/
def mcol (md : FVec Ideal S1x1x6144 .f32) (o : Nat) (ho : o + 1024 ≤ 6144) (k : Fin 1024) : EReal := md (ix3 0 0 ⟨o + k.val, by omega⟩)

section
variable (x : FVec Ideal S16x256x1024 .f32) (md : FVec Ideal S1x1x6144 .f32) (g : FVec Ideal S1024 .f32) (w : FVec Ideal S1024x3328 .f32) (kg : FVec Ideal S64 .f32)

theorem refH_at (b : Fin 16) (s : Fin 256) (k : Fin 1024) : refH x md g (ix3 b s k)
    = hrow (fun k => x (ix3 b s k)) (fun k => g (ix1 k)) (mcol md 1024 (by decide)) (mcol md 0 (by decide)) k := by
  pointwise [refH]
  simp only [hrow, nrm, mcol, Nat.zero_add]
  try rfl

/-- Row `b` block, row `s`, column `n` of the projection. -/
def zat (b : Fin 16) (s : Fin 256) (n : Fin 3328) : EReal :=
  zcol (hrow (fun k => x (ix3 b s k)) (fun k => g (ix1 k)) (mcol md 1024 (by decide)) (mcol md 0 (by decide))) (fun q n => w (ix2 q n)) n

theorem refZ_at (b : Fin 16) (s : Fin 256) (n : Fin 3328) : refZ x md g w (ix3 b s n) = zat x md g w b s n := by
  pointwise [refZ]
  simp only [refH_at, zat, zcol]
  try rfl

theorem refKh_at (b : Fin 16) (s : Fin 256) (h : Fin 2) (d : Fin 64) : refKh x md g w (ix4 b s h d)
    = zat x md g w b s ⟨512 + h.val * 64 + d.val, by omega⟩ := by
  pointwise [refKh]
  rw [refZ_at]
  exact congrArg _ (Fin.ext (by simp only [] <;> omega))

theorem refV_at (b : Fin 16) (s : Fin 256) (c : Fin 128) : refV x md g w (ix3 0 ⟨b.val * 256 + s.val, by omega⟩ c)
    = zat x md g w b s ⟨640 + c.val, by omega⟩ := by
  rw [← refZ_at]
  pointwise [refV]

theorem refK_at (b : Fin 16) (s : Fin 256) (h : Fin 2) (d : Fin 64) : refK x md g w kg (ix3 0 ⟨b.val * 256 + s.val, by omega⟩ ⟨h.val * 64 + d.val, by omega⟩)
    = knrm (fun d => zat x md g w b s ⟨512 + h.val * 64 + d.val, by omega⟩) (fun d => kg (ix1 d)) d := by
  simp only [← refKh_at, knrm]
  pointwise [refK]
end

end Cert.Reference4Ideal.Ctx
-- ==== Proof.CtxReads.lean ====
module

public import proofs.«01_k».proof.Proof.Gen.Kernel4Ideal.Value
public import proofs.«01_k».proof.Proof.Softmax
public import Idealize.ShloMosaic.Lib.Pipeline.ReadBack
public import Idealize.ShloMosaic.Lib.Pipeline.ValueKit
public import Idealize.ShloMosaic.Lib.Pointwise
public import Idealize.ShloMosaic.Lib.Claim

/-!
The blocks the layer's first call reads at a grid point.
-/

@[expose] public section

set_option maxRecDepth 16384

noncomputable section

open Idealize.ShloMosaic Idealize.ShloMosaic.TcCoe Idealize.SL.Sem
open Idealize.ShloMosaic.Pipeline (Dat)

namespace Cert.Kernel4Ideal.Ctx
open Cert.Kernel4Ideal Cert.Kernel4Ideal.Gen

variable (m : (ℓ : Loc nD τ sig) → Buf (Elt Ideal) ℓ)

/-- The block of rows a row of a grid point belongs to. -/
def blk (t : Fin cfg0.N) (r : Fin 512) : Fin 16 := ⟨t.val * 2 + r.val / 256, by have : t.val < 8 := lt_of_lt_of_eq t.isLt (by decide); omega⟩

/-- Its place there. -/
def plc (r : Fin 512) : Fin 256 := ⟨r.val % 256, by omega⟩

theorem idx : ∀ t : Fin cfg0.N, win0_0.index t = ![0, t.val, 0] ∧ win0_1.index t = ![0, 0, 0] ∧ win0_2.index t = ![0, 0]
    ∧ win0_3.index t = ![0, 0] ∧ win0_5.index t = ![0, 0] ∧ win0_7.index t = ![0, 0]
    ∧ win0_16.index t = ![0, t.val, 0] ∧ win0_17.index t = ![0, t.val, 0] :=
  (by decide +kernel : ∀ t : Fin grid0.N, _)

/-- The rows, one after the other. -/
def flatX (x : FVec Ideal S16x256x1024 .f32) : FVec Ideal S1x4096x1024 .f32 := shapeCast S1x4096x1024 x shapeCasts_S16x256x1024_S1x4096x1024

/-- The modulation, by part. -/
def partM (x : FVec Ideal S1x1x6144 .f32) : FVec Ideal S1x6x1024 .f32 := shapeCast S1x6x1024 x shapeCasts_S1x1x6144_S1x6x1024

/-- The norm's weight as a row. -/
def rowG (x : FVec Ideal S1024 .f32) : FVec Ideal S1x1024 .f32 := shapeCast S1x1024 x shapeCasts_S1024_S1x1024

/-- The key norm's weight, once per head. -/
def rowK (x : FVec Ideal S64 .f32) : FVec Ideal S1x128 .f32 :=
  shapeCast S1x128 (shapeCast S128 (broadcastInDim S2x64 ![0, 1] bcast_S1x64_S2x64_0_1 (shapeCast S1x64 x shapeCasts_S64_S1x64)) shapeCasts_S2x64_S128) shapeCasts_S128_S1x128

theorem V0 (c : Dev nD) : (V m c main_v39 : FVec Ideal S1x4096x1024 .f32) = flatX (m ((c.tc : Thread nD τ).loc main_arg0)) := by
  unfold V
  first | (after_results_simp <;> rfl) | (after_results; rfl) | rfl

theorem V1 (c : Dev nD) : (V m c main_v40 : FVec Ideal S1x6x1024 .f32) = partM (m ((c.tc : Thread nD τ).loc main_arg1)) := by
  unfold V
  first | (after_results_simp <;> rfl) | (after_results; rfl) | rfl

theorem V2 (c : Dev nD) : (V m c main_v7 : FVec Ideal S1x1024 .f32) = rowG (m ((c.tc : Thread nD τ).loc main_arg2)) := by
  unfold V
  first | (after_results_simp <;> rfl) | (after_results; rfl) | rfl

theorem V5 (c : Dev nD) : (V m c main_v15 : FVec Ideal S1x128 .f32) = rowK (m ((c.tc : Thread nD τ).loc main_arg5)) := by
  unfold V rowK
  after_results <;> rfl

theorem flatX_at (x : FVec Ideal S16x256x1024 .f32) (t : Fin cfg0.N) (r : Fin 512) (k : Fin 1024) :
    flatX x (ix3 0 ⟨t.val * 512 + r.val, by have : t.val < 8 := lt_of_lt_of_eq t.isLt (by decide); omega⟩ k) = x (ix3 (blk t r) (plc r) k) := by
  have ht : t.val < 8 := lt_of_lt_of_eq t.isLt (by decide)
  pointwise [flatX]
  have e1 : (t.val * 512 + r.val) / 256 = t.val * 2 + r.val / 256 := by omega
  have e2 : (t.val * 512 + r.val) % 256 = r.val % 256 := by omega
  simp only [e1, e2, blk, plc]

theorem read0 (c : Dev nD) (t : Fin cfg0.N) (r : Fin 512) (k : Fin 1024) : (iblk m c 0 t (ix3 0 r k) : EReal)
    = m ((c.tc : Thread nD τ).loc main_arg0) (ix3 (blk t r) (plc r) k) := by
  have ht : t.val < 8 := lt_of_lt_of_eq t.isLt (by decide)
  refine Eq.trans ?_ (flatX_at _ t r k)
  rw [← V0]
  refine congrArg (V m c main_v39) ?_
  blk_ext [idx t]

theorem partM_at (x : FVec Ideal S1x1x6144 .f32) (i : Fin 6) (k : Fin 1024) :
    partM x (ix3 0 i k) = x (ix3 0 0 ⟨i.val * 1024 + k.val, by omega⟩) := by
  pointwise [partM]

theorem read1 (c : Dev nD) (t : Fin cfg0.N) (i : Fin 6) (k : Fin 1024) : (iblk m c 1 t (ix3 0 i k) : EReal)
    = m ((c.tc : Thread nD τ).loc main_arg1) (ix3 0 0 ⟨i.val * 1024 + k.val, by omega⟩) := by
  have ht : t.val < 8 := lt_of_lt_of_eq t.isLt (by decide)
  refine Eq.trans ?_ (partM_at _ i k)
  rw [← V1]
  refine congrArg (V m c main_v40) ?_
  blk_ext [idx t]

theorem rowG_at (x : FVec Ideal S1024 .f32) (k : Fin 1024) : rowG x (ix2 0 k) = x (ix1 k) := by
  pointwise [rowG]

theorem read2 (c : Dev nD) (t : Fin cfg0.N) (k : Fin 1024) : (iblk m c 2 t (ix2 0 k) : EReal)
    = m ((c.tc : Thread nD τ).loc main_arg2) (ix1 k) := by
  have ht : t.val < 8 := lt_of_lt_of_eq t.isLt (by decide)
  refine Eq.trans ?_ (rowG_at _ k)
  rw [← V2]
  refine congrArg (V m c main_v7) ?_
  blk_ext [idx t]

theorem rowK_at (x : FVec Ideal S64 .f32) (h : Fin 2) (d : Fin 64) : rowK x (ix2 0 ⟨h.val * 64 + d.val, by omega⟩) = x (ix1 d) := by
  pointwise [rowK]

theorem read5 (c : Dev nD) (t : Fin cfg0.N) (h : Fin 2) (d : Fin 64) : (iblk m c 5 t (ix2 0 ⟨h.val * 64 + d.val, by omega⟩) : EReal)
    = m ((c.tc : Thread nD τ).loc main_arg5) (ix1 d) := by
  have ht : t.val < 8 := lt_of_lt_of_eq t.isLt (by decide)
  refine Eq.trans ?_ (rowK_at _ h d)
  rw [← V5]
  refine congrArg (V m c main_v15) ?_
  blk_ext [idx t]

/-- The projection's weights with the query columns regrouped. -/
def stackW (x : FVec Ideal S1024x3328 .f32) : FVec Ideal S1024x3328 .bf16 :=
  concatenate S1024x3328 1 [⟨S1024x512, shapeCast S1024x512 (transpose S1024x4x2x64 [0, 2, 1, 3] (shapeCast S1024x2x4x64 (extractStridedSlice S1024x512 ![0, 0]
      (truncf .bf16 x bitsLt_bf16_f32) slices_S1024x3328_S1024x512_0_0) shapeCasts_S1024x512_S1024x2x4x64) transposes_S1024x2x4x64_S1024x4x2x64_0_2_1_3) shapeCasts_S1024x4x2x64_S1024x512⟩,
    ⟨S1024x2816, extractStridedSlice S1024x2816 ![0, 512] (truncf .bf16 x bitsLt_bf16_f32) slices_S1024x3328_S1024x2816_0_512⟩] concatenates_S1024x512_S1024x2816_S1024x3328_d1

theorem V3 (c : Dev nD) : (V m c main_v6 : FVec Ideal S1024x3328 .bf16) = stackW (m ((c.tc : Thread nD τ).loc main_arg3)) := by
  unfold V stackW
  after_results <;> rfl

theorem stackW_rest (x : FVec Ideal S1024x3328 .f32) (q : Fin 1024) (n : Fin 3328) (hn : 512 ≤ n.val) :
    (stackW x (ix2 q n) : EReal) = x (ix2 q n) := by
  pointwise [stackW]
  rw [dif_neg (by omega)]
  exact congrArg (fun n => (x (ix2 q n) : EReal)) (Fin.ext (by simp only [] <;> omega))

theorem read3 (c : Dev nD) (t : Fin cfg0.N) (q : Fin 1024) (n : Fin 3328) (hn : 512 ≤ n.val) :
    (iblk m c 3 t (ix2 q n) : EReal) = m ((c.tc : Thread nD τ).loc main_arg3) (ix2 q n) := by
  have ht : t.val < 8 := lt_of_lt_of_eq t.isLt (by decide)
  refine Eq.trans ?_ (stackW_rest _ q n hn)
  rw [← V3]
  refine congrArg (V m c main_v6) ?_
  blk_ext [idx t]

end Cert.Kernel4Ideal.Ctx
-- ==== Proof.CtxInd.lean ====
module

public import proofs.«01_k».proof.Proof.Gen.Kernel4Ideal.Value
public import proofs.«01_k».proof.Proof.Softmax
public import Idealize.ShloMosaic.Lib.Pipeline.ReadBack
public import Idealize.ShloMosaic.Lib.Pipeline.ValueKit
public import Idealize.ShloMosaic.Lib.Pointwise
public import Idealize.ShloMosaic.Lib.Claim

/-!
The scaled head indicator the host computes.
-/

@[expose] public section

set_option maxRecDepth 16384

noncomputable section

open Idealize.ShloMosaic Idealize.ShloMosaic.TcCoe Idealize.SL.Sem
open Idealize.ShloMosaic.Pipeline (Dat)

namespace Cert.Kernel4Ideal.Ctx
open Cert.Kernel4Ideal Cert.Kernel4Ideal.Gen

variable (m : (ℓ : Loc nD τ sig) → Buf (Elt Ideal) ℓ)

/-- The head of each of the 128 columns, as the host's whole-number division finds it. -/
def headW : IVec S128 32 :=
  let n : IVec S128 32 := iotaInDim S128 32 0
  let d : IVec S_ 32 := constantI S_ 32 64#32
  let db : IVec S128 32 := broadcastInDim S128 ![] bcast_S_S128 d
  select (andi (cmpi .ne (signi n) (broadcastInDim S128 ![] bcast_S_S128 (signi d))) (cmpi .ne (Host.remsi n db) (broadcastInDim S128 ![] bcast_S_S128 (constantI S_ 32 0#32))))
    (subi (Host.divsi n db) (broadcastInDim S128 ![] bcast_S_S128 (constantI S_ 32 1#32))) (Host.divsi n db)

/-- The indicator. -/
def indW : FVec Ideal S128x128 .bf16 :=
  truncf .bf16 (Host.divf (uitofp .f32 (cmpi .eq (broadcastInDim S128x128 ![0, 1] bcast_S128x1_S128x128_0_1 (broadcastInDim S128x1 ![0] bcast_S128_S128x1_0 headW))
      (broadcastInDim S128x128 ![0, 1] bcast_S1x128_S128x128_0_1 (broadcastInDim S1x128 ![1] bcast_S128_S1x128_1 headW))))
    (broadcastInDim S128x128 ![] bcast_S_S128x128 (constant S_ .f32 0x42800000#32))) bitsLt_bf16_f32

theorem V7 (c : Dev nD) : (V m c main_v37 : FVec Ideal S128x128 .bf16) = indW := by
  unfold V indW headW
  after_results <;> rfl

theorem headW_at : ∀ j : Fin 128, headW (ix1 j) = BitVec.ofNat 32 (j.val / 64) := by decide +kernel

theorem indW_at (j c : Fin 128) : (indW (ix2 j c) : EReal)
    = Ideal.div (if j.val / 64 = c.val / 64 then 1 else 0) (Ideal.ofBits .f32 0x42800000#32) := by
  pointwise [indW]
  refine congrArg (fun a => Ideal.div a _) ?_
  have hj := j.isLt
  have hc := c.isLt
  by_cases h : j.val / 64 = c.val / 64
  · rw [if_pos h, headW_at, headW_at, h]
    show FloatOps.uitofp (F := Ideal) .f32 (BitVec.ofBool (decide (BitVec.ofNat 32 (c.val / 64) = BitVec.ofNat 32 (c.val / 64)))) = 1
    rw [decide_eq_true rfl]
    show (((1#1).toNat : ℝ) : EReal) = 1
    simp
  · have hw : ¬ BitVec.ofNat 32 (j.val / 64) = BitVec.ofNat 32 (c.val / 64) := fun e => h (by
      have := congrArg BitVec.toNat e
      simp only [BitVec.toNat_ofNat] at this
      omega)
    rw [if_neg h, headW_at, headW_at]
    show FloatOps.uitofp (F := Ideal) .f32 (BitVec.ofBool (decide (BitVec.ofNat 32 (j.val / 64) = BitVec.ofNat 32 (c.val / 64)))) = 0
    rw [decide_eq_false hw]
    show (((0#1).toNat : ℝ) : EReal) = 0
    simp

theorem read7 (c : Dev nD) (t : Fin cfg0.N) (j k : Fin 128) : (iblk m c 7 t (ix2 j k) : EReal)
    = Ideal.div (if j.val / 64 = k.val / 64 then 1 else 0) (Ideal.ofBits .f32 0x42800000#32) := by
  have ht : t.val < 8 := lt_of_lt_of_eq t.isLt (by decide)
  have idx : ∀ t : Fin cfg0.N, win0_7.index t = ![0, 0] := (by decide +kernel : ∀ t : Fin grid0.N, _)
  refine Eq.trans ?_ (indW_at j k)
  rw [← V7 m c]
  refine congrArg (V m c main_v37) ?_
  blk_ext [idx t]

end Cert.Kernel4Ideal.Ctx
-- ==== Proof.CtxPay.lean ====
module

public import proofs.«01_k».proof.Proof.CtxRef
public import proofs.«01_k».proof.Proof.CtxReads
public import proofs.«01_k».proof.Proof.CtxInd

/-!
The first call's payloads at an index.
-/

@[expose] public section

set_option maxRecDepth 16384

noncomputable section

open Idealize.ShloMosaic Idealize.ShloMosaic.TcCoe Idealize.SL.Sem
open Idealize.ShloMosaic.Pipeline (Dat)

namespace Cert.Kernel4Ideal.Ctx
open Cert.Kernel4Ideal Cert.Kernel4Ideal.Gen Cert.Ctx Cert.Mlp

theorem pay6_at (v0 : Vec Ideal S1x256x1024 .f32) (v12 : Vec Ideal S1x1024 .f32) (v16 v22 : Vec Ideal S1x1x1024 .f32)
    (r : Fin 256) (k : Fin 1024) : k0_pay6 v0 v12 v16 v22 (ix2 r k)
      = hrow (fun k => v0 (ix3 0 r k)) (fun k => v12 (ix2 0 k)) (fun k => v16 (ix3 0 0 k)) (fun k => v22 (ix3 0 0 k)) k := by
  pointwise [k0_pay6]
  simp only [hrow, nrm]
  try rfl

theorem pay33_eq (v0 : Vec Ideal S1x256x1024 .f32) (v12 : Vec Ideal S1x1024 .f32) (v16 v22 : Vec Ideal S1x1x1024 .f32) :
    k0_pay33 (k0_pay32 v0 v12 v16) v22 = k0_pay6 v0 v12 v16 v22 := rfl

/-- A column of the product of a chunk's rows with the key and value columns. -/
def zloc (h : FVec Ideal S256x1024 .bf16) (w : Vec Ideal S1024x256 .bf16) (r : Fin 256) (c : Fin 256) : EReal :=
  ∑ q : Fin 1024, (h (ix2 r q) : EReal) * (w (ix2 q c) : EReal)

theorem pay46_eq (h : FVec Ideal S256x1024 .bf16) (w : Vec Ideal S1024x256 .bf16) : k0_pay46 h w = k0_pay24 (k0_pay20 h w) := rfl
theorem pay45_eq (h : FVec Ideal S256x1024 .bf16) (w : Vec Ideal S1024x256 .bf16) (i : Vec Ideal S128x128 .bf16) (g : Vec Ideal S1x128 .f32) :
    k0_pay45 h w i g = k0_pay23 (k0_pay19 h w) (k0_pay21 h w i) g := rfl

theorem vpiece_at (h : FVec Ideal S256x1024 .bf16) (w : Vec Ideal S1024x256 .bf16) (r : Fin 256) (c : Fin 128) :
    k0_pay24 (k0_pay20 h w) (ix3 0 r c) = zloc h w r ⟨128 + c.val, by omega⟩ := by
  pointwise [k0_pay24, k0_pay20, k0_pay18]
  simp only [zloc]
  try rfl

theorem kpiece_at (h : FVec Ideal S256x1024 .bf16) (w : Vec Ideal S1024x256 .bf16) (i : Vec Ideal S128x128 .bf16) (g : Vec Ideal S1x128 .f32)
    (r : Fin 256) (c : Fin 128) :
    k0_pay23 (k0_pay19 h w) (k0_pay21 h w i) g (ix3 0 r c)
      = zloc h w r ⟨c.val, by omega⟩ * Ideal.rsqrt ((∑ j : Fin 128, zloc h w r ⟨j.val, by omega⟩ * zloc h w r ⟨j.val, by omega⟩ * (i (ix2 j c) : EReal))
          + Ideal.ofBits .f32 0x358637BD#32) * (g (ix2 0 c) : EReal) := by
  pointwise [k0_pay23, k0_pay22, k0_pay21, k0_pay19, k0_pay18]
  simp only [zloc]
  try rfl

/-- A key of a chunk, once its loads are known. -/
theorem key_at (h : FVec Ideal S256x1024 .bf16) (w : Vec Ideal S1024x256 .bf16) (i : Vec Ideal S128x128 .bf16) (g : Vec Ideal S1x128 .f32)
    (r : Fin 256) (k : Fin 2) (d : Fin 64) (H : Fin 1024 → EReal) (W : Fin 1024 → Fin 3328 → EReal) (G : Fin 64 → EReal)
    (hh : ∀ q, (h (ix2 r q) : EReal) = H q) (hw : ∀ q (n : Fin 128), (w (ix2 q ⟨n.val, by omega⟩) : EReal) = W q ⟨512 + n.val, by omega⟩)
    (hi : ∀ j c, (i (ix2 j c) : EReal) = ind j c) (hg : (g (ix2 0 ⟨k.val * 64 + d.val, by omega⟩) : EReal) = G d) :
    k0_pay23 (k0_pay19 h w) (k0_pay21 h w i) g (ix3 0 r ⟨k.val * 64 + d.val, by omega⟩)
      = knrm (fun d => zcol H W ⟨512 + k.val * 64 + d.val, by omega⟩) G d := by
  have hz : ∀ n : Fin 128, zloc h w r ⟨n.val, by omega⟩ = zcol H W ⟨512 + n.val, by omega⟩ := fun n => by
    simp only [zloc, zcol, hh, hw]
  rw [kpiece_at]
  simp only [hi]
  have e := ind_sum (fun j => zloc h w r ⟨j.val, by omega⟩ * zloc h w r ⟨j.val, by omega⟩) k d
  simp only [] at e
  rw [e, hg]
  have hz2 : ∀ l : Fin 64, zloc h w r ⟨k.val * 64 + l.val, by omega⟩ = zcol H W ⟨512 + k.val * 64 + l.val, by omega⟩ := fun l =>
    (hz ⟨k.val * 64 + l.val, by omega⟩).trans (congrArg _ (Fin.ext (Nat.add_assoc _ _ _).symm))
  simp only [hz2, knrm]

/-- A value of a chunk, once its loads are known. -/
theorem val_at (h : FVec Ideal S256x1024 .bf16) (w : Vec Ideal S1024x256 .bf16)
    (r : Fin 256) (c : Fin 128) (H : Fin 1024 → EReal) (W : Fin 1024 → Fin 3328 → EReal)
    (hh : ∀ q, (h (ix2 r q) : EReal) = H q) (hw : ∀ q, (w (ix2 q ⟨128 + c.val, by omega⟩) : EReal) = W q ⟨640 + c.val, by omega⟩) :
    k0_pay24 (k0_pay20 h w) (ix3 0 r c) = zcol H W ⟨640 + c.val, by omega⟩ := by
  rw [vpiece_at]
  simp only [zloc, zcol, hh, hw]

end Cert.Kernel4Ideal.Ctx
-- ==== Proof.CtxValue.lean ====
module

public import proofs.«01_k».proof.Proof.CtxPay

/-!
The first call's two caches as whole arrays.
-/

@[expose] public section

set_option maxRecDepth 16384

noncomputable section

open Idealize.ShloMosaic Idealize.ShloMosaic.TcCoe Idealize.SL.Sem
open Idealize.ShloMosaic.Pipeline (Dat)

namespace Cert.Kernel4Ideal.Ctx
open Cert.Kernel4Ideal Cert.Kernel4Ideal.Gen Cert.Ctx Cert.Mlp
open Cert.Reference4Ideal.Ctx (refK refV zat mcol refK_at refV_at)

variable (m : (ℓ : Loc nD τ sig) → Buf (Elt Ideal) ℓ)

/-- The modulated normalised row of place `s` of block `b`. -/
def rowAt (c : Dev nD) (b : Fin 16) (s : Fin 256) (q : Fin 1024) : EReal :=
  hrow (fun k => m ((c.tc : Thread nD τ).loc main_arg0) (ix3 b s k)) (fun k => m ((c.tc : Thread nD τ).loc main_arg2) (ix1 k))
    (mcol (m ((c.tc : Thread nD τ).loc main_arg1)) 1024 (by decide)) (mcol (m ((c.tc : Thread nD τ).loc main_arg1)) 0 (by decide)) q

theorem rowLo (c : Dev nD) (t : Fin cfg0.N) (y1 : Fin 512) (x1 : Fin 256) (h1 : y1.val = 0 + x1.val) (q : Fin 1024) :
    (k0_pay6 (F := Ideal) (View.ld (iblk m c 0 t) (Rect.unit ![0, 0, 0] ![1, 256, 1024] inb_S1x512x1024_S1x256x1024_0_0_0)) (iblk m c 2 t)
      (View.ld (iblk m c 1 t) (Rect.unit ![0, 1, 0] ![1, 1, 1024] inb_S1x6x1024_S1x1x1024_0_1_0))
      (View.ld (iblk m c 1 t) (Rect.unit ![0, 0, 0] ![1, 1, 1024] inb_S1x6x1024_S1x1x1024_0_0_0)) (ix2 x1 q) : EReal)
      = rowAt m c (blk t y1) (plc y1) q := by
  refine (pay6_at _ _ _ _ _ _).trans ?_
  unfold rowAt
  refine congrFun (congr (congr (congr (congrArg hrow (funext fun k => ?_)) (funext fun k => ?_)) (funext fun k => ?_)) (funext fun k => ?_)) q
  · pointwise
    refine Eq.trans ?_ (read0 m c t y1 k)
    exact congrArg (fun z : Fin 512 => (iblk m c 0 t (ix3 0 z k) : EReal)) (Fin.ext (by simp only [] <;> omega))
  · exact read2 m c t k
  · pointwise
    exact read1 m c t 1 k
  · pointwise
    exact read1 m c t 0 k

theorem rowHi (c : Dev nD) (t : Fin cfg0.N) (y1 : Fin 512) (x1 : Fin 256) (h1 : y1.val = 256 + x1.val) (q : Fin 1024) :
    (k0_pay6 (F := Ideal) (View.ld (iblk m c 0 t) (Rect.unit ![0, 256, 0] ![1, 256, 1024] inb_S1x512x1024_S1x256x1024_0_256_0)) (iblk m c 2 t)
      (View.ld (iblk m c 1 t) (Rect.unit ![0, 1, 0] ![1, 1, 1024] inb_S1x6x1024_S1x1x1024_0_1_0))
      (View.ld (iblk m c 1 t) (Rect.unit ![0, 0, 0] ![1, 1, 1024] inb_S1x6x1024_S1x1x1024_0_0_0)) (ix2 x1 q) : EReal)
      = rowAt m c (blk t y1) (plc y1) q := by
  refine (pay6_at _ _ _ _ _ _).trans ?_
  unfold rowAt
  refine congrFun (congr (congr (congr (congrArg hrow (funext fun k => ?_)) (funext fun k => ?_)) (funext fun k => ?_)) (funext fun k => ?_)) q
  · pointwise
    refine Eq.trans ?_ (read0 m c t y1 k)
    exact congrArg (fun z : Fin 512 => (iblk m c 0 t (ix3 0 z k) : EReal)) (Fin.ext (by simp only [] <;> omega))
  · exact read2 m c t k
  · pointwise
    exact read1 m c t 1 k
  · pointwise
    exact read1 m c t 0 k

theorem colV (c : Dev nD) (t : Fin cfg0.N) (y : Fin 128) (q : Fin 1024) :
    (View.ld (iblk m c 3 t) (Rect.unit ![0, 512] ![1024, 256] inb_S1024x3328_S1024x256_0_512) (ix2 q ⟨128 + y.val, by omega⟩ : S1024x256.Idx) : EReal)
      = (fun q n => m ((c.tc : Thread nD τ).loc main_arg3) (ix2 q n) : Fin 1024 → Fin 3328 → EReal) q ⟨640 + y.val, by omega⟩ := by
  pointwise
  refine Eq.trans ?_ (read3 m c t q ⟨640 + y.val, by omega⟩ (by simp only [] <;> omega))
  exact congrArg (fun z : Fin 3328 => (iblk m c 3 t (ix2 q z) : EReal)) (Fin.ext (by simp only [] <;> omega))

theorem colK (c : Dev nD) (t : Fin cfg0.N) (q : Fin 1024) (n : Fin 128) :
    (View.ld (iblk m c 3 t) (Rect.unit ![0, 512] ![1024, 256] inb_S1024x3328_S1024x256_0_512) (ix2 q ⟨n.val, by omega⟩ : S1024x256.Idx) : EReal)
      = (fun q n => m ((c.tc : Thread nD τ).loc main_arg3) (ix2 q n) : Fin 1024 → Fin 3328 → EReal) q ⟨512 + n.val, by omega⟩ := by
  pointwise
  refine Eq.trans ?_ (read3 m c t q ⟨512 + n.val, by omega⟩ (by simp only [] <;> omega))
  try rfl

theorem final17 (c : Dev nD) : (dats m 0 c).arrAt 17 (cfgs 0).N
    = refV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 17 _ (by decide +kernel) fun t hf y => ?_
  blk_simp
  rw [after0_17]
  unfold Gen.outsAt0
  frame_open
  frame_out
  idx_vars y
  rw [Subsingleton.elim y0 0]
  have hj : ((View.whole main_v41_8).slice (win0_17.rect t)).emb (ix3 0 y1 y2)
      = (ix3 0 ⟨(blk t y1).val * 256 + (plc y1).val, by omega⟩ y2 : S1x4096x128.Idx) := by
    have ht : t.val < 8 := lt_of_lt_of_eq t.isLt (by decide)
    blk_ext [idx t, blk, plc]
  rw [hj, refV_at]
  canon_tiles x h using (View.cover_of_tiledBy _ ![1, 256, 128] (by sl_kernel_rfl) _)
  all_goals
    idx_vars x
    obtain rfl : x0 = 0 := Subsingleton.elim _ _
    obtain rfl : y2 = x2 := Fin.ext h2
  · rw [pay46_eq, pay33_eq]
    exact val_at _ _ x1 y2 _ _ (rowHi m c t y1 x1 h1) (colV m c t y2)
  · exact val_at _ _ x1 y2 _ _ (rowLo m c t y1 x1 (h1.trans (Nat.zero_add _).symm)) (colV m c t y2)

set_option maxHeartbeats 2000000 in
theorem final16 (c : Dev nD) : (dats m 0 c).arrAt 16 (cfgs 0).N
    = refK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (dats m 0 c).arrAt_eq_of_covers 16 _ (by decide +kernel) fun t hf y => ?_
  blk_simp
  rw [after0_16]
  unfold Gen.outsAt0
  frame_open
  frame_out
  idx_vars y
  rw [Subsingleton.elim y0 0]
  have hj : ((View.whole main_v41_7).slice (win0_16.rect t)).emb (ix3 0 y1 y2)
      = (ix3 0 ⟨(blk t y1).val * 256 + (plc y1).val, by omega⟩ y2 : S1x4096x128.Idx) := by
    have ht : t.val < 8 := lt_of_lt_of_eq t.isLt (by decide)
    blk_ext [idx t, blk, plc]
  obtain ⟨k, d, rfl⟩ : ∃ (k : Fin 2) (d : Fin 64), y2 = ⟨k.val * 64 + d.val, by omega⟩ :=
    ⟨⟨y2.val / 64, by omega⟩, ⟨y2.val % 64, by omega⟩, Fin.ext (by simp only [] <;> omega)⟩
  rw [hj, refK_at]
  canon_tiles x h using (View.cover_of_tiledBy _ ![1, 256, 128] (by sl_kernel_rfl) _)
  all_goals
    idx_vars x
    obtain rfl : x0 = 0 := Subsingleton.elim _ _
    rw [show x2 = (⟨k.val * 64 + d.val, by omega⟩ : Fin 128) from Fin.ext h2.symm]
  · rw [pay45_eq, pay33_eq]
    exact key_at _ _ _ _ x1 k d _ _ _ (rowHi m c t y1 x1 h1) (colK m c t) (read7 m c t) (read5 m c t k d)
  · exact key_at _ _ _ _ x1 k d _ _ _ (rowLo m c t y1 x1 (h1.trans (Nat.zero_add _).symm)) (colK m c t) (read7 m c t) (read5 m c t k d)

end Cert.Kernel4Ideal.Ctx
-- ==== Proof.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel3Ideal.Value
public import proofs.«01_k».proof.Proof.MlpValue
public import proofs.«01_k».proof.Proof.AttnFinal
public import proofs.«01_k».proof.Proof.AttnPre
public import proofs.«01_k».proof.Proof.MixRun
public import proofs.«01_k».proof.Proof.MixValue
public import proofs.«01_k».proof.Proof.Gen.Kernel4.Frame
public import proofs.«01_k».proof.Proof.CtxValue
public import Idealize.ShloMosaic.Lib.Quiescent

@[expose] public section

noncomputable section

open Idealize.ShloMosaic Idealize.ShloMosaic.TcCoe Idealize.SL.Sem

namespace Cert.Proof.Claims

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite (hPre_finite := Cert.Pre_finite.Att.facts) :=
  fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite (hPre_finite := Cert.Pre_finite.Att.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Mix.run_term m ρ)
theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Ctx.run_term m ρ)

/-- The scale of the queries is the real it is named for. -/
theorem preserves : Cert.preserves_Kernel_KernelIdeal :=
  IdealRules.named_const.statement Cert.KernelIdeal.κ "q_scale" .f32 0x3E38AA3B#32 ((8⁻¹ * (Real.log 2)⁻¹ : ℝ) : EReal) rfl

/-- The attention: for real queries, keys and shift, the block computation's array is the reference's term. -/
theorem algebraic : Cert.algebraic_KernelIdeal_ReferenceIdeal_pre_finite (hPre_finite := Cert.Pre_finite.Att.facts) := by
  intro m g m' g' hpre hagree
  refine ⟨fun c => (Cert.KernelIdeal.Gen.dats m 0 c).arrAt 6 (Cert.KernelIdeal.cfgs 0).N, Cert.KernelIdeal.Att.run_blocks m g, ?_⟩
  refine (θ_run Cert.ReferenceIdeal.defs _ _).mono (fun _ h c => ⟨(h c).1.trans ?_, (h c).2⟩)
    (Cert.ReferenceIdeal.Value.run (F := Ideal) m' g')
  obtain ⟨hq, hk, hck, hs⟩ := Cert.Pre_finite.Att.read (hPre := Cert.Pre_finite.Att.facts) _ _ _ _ _ _ (hpre c)
  refine Eq.trans ?_ (Cert.KernelIdeal.Att.final m c hq hk hck hs).symm
  obtain ⟨h0, h1, h2, h3, h4, h5⟩ := hagree c
  rw [h0, h1, h2, h3, h4]
  rfl

/-- The second half of the last layer: the block computation's array is the reference's term. -/
theorem algebraic2 : Cert.algebraic_Kernel2Ideal_Reference2Ideal := by
  intro m g m' g' _ hagree
  refine ⟨fun c => (Cert.Kernel2Ideal.Gen.dats m 0 c).arrAt 6 (Cert.Kernel2Ideal.cfgs 0).N, Cert.Kernel2Ideal.Value.run_blocks m g, ?_⟩
  refine (θ_run Cert.Reference2Ideal.defs _ _).mono (fun _ h c => ⟨(h c).1.trans ?_, (h c).2⟩)
    (Cert.Reference2Ideal.Value.run (F := Ideal) m' g')
  refine (Cert.Reference2Ideal.Mlp.res_eq m' c).trans ?_
  obtain ⟨h0, h1, h2, h3, h4, h5⟩ := hagree c
  rw [h0, h1, h2, h3, h4, h5]
  exact (Cert.Kernel2Ideal.Mlp.final m c).symm

/-- The branches and their merge: the block computation's array is the reference's term. -/
theorem algebraic3 : Cert.algebraic_Kernel3Ideal_Reference3Ideal := by
  intro m g m' g' _ hagree
  refine ⟨fun c => (Cert.Kernel3Ideal.Gen.dats m 0 c).arrAt 21 (Cert.Kernel3Ideal.cfgs 0).N, Cert.Kernel3Ideal.Value.run_blocks m g, ?_⟩
  refine (θ_run Cert.Reference3Ideal.defs _ _).mono (fun _ h c => ⟨(h c).1.trans ?_, (h c).2⟩)
    (Cert.Reference3Ideal.Mix.run_term m' g')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]
  exact (Cert.Kernel3Ideal.Mix.final m c).symm

/-- The two caches of the layer's first call: the block computation's arrays are the reference's terms. -/
theorem algebraic4 : Cert.algebraic_Kernel4Ideal_Reference4Ideal := by
  intro m g m' g' _ hagree
  refine ⟨fun c => (Cert.Kernel4Ideal.Gen.dats m 0 c).arrAt 16 (Cert.Kernel4Ideal.cfgs 0).N,
    fun c => (Cert.Kernel4Ideal.Gen.dats m 0 c).arrAt 17 (Cert.Kernel4Ideal.cfgs 0).N,
    (θ_run Cert.Kernel4Ideal.defs _ _).mono (fun _ h c => (h c).2.2.2.2.2.2.2) (Cert.Kernel4Ideal.Value.run_blocks m g), ?_⟩
  refine (θ_run Cert.Reference4Ideal.defs _ _).mono (fun _ h c => ⟨(h c).1.trans ?_, (h c).2.1.trans ?_, (h c).2.2⟩)
    (Cert.Reference4Ideal.Ctx.run_term m' g')
  · obtain ⟨h0, h1, h2, h3, h4, h5, h6⟩ := hagree c
    rw [h0, h1, h2, h3, h5]
    exact (Cert.Kernel4Ideal.Ctx.final16 m c).symm
  · obtain ⟨h0, h1, h2, h3, h4, h5, h6⟩ := hagree c
    rw [h0, h1, h2, h3]
    exact (Cert.Kernel4Ideal.Ctx.final17 m c).symm

end Cert.Proof.Claims

end
-- ==== Proof.lean ====
module

public import proofs.«01_k».proof.Defs
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Att.facts,
    Claims.frame_p, Claims.frame_pi, Claims.frame_pi_pre, Claims.frame_ri, Claims.frame_ri_pre, Claims.frame_p2, Claims.frame_pi2, Claims.frame_ri2,
    Claims.frame_p3, Claims.frame_pi3, Claims.frame_ri3, Claims.frame_p4, Claims.frame_pi4, Claims.frame_ri4,
    Claims.preserves, Claims.algebraic, trivial, Claims.algebraic2, trivial, Claims.algebraic3, trivial, Claims.algebraic4⟩

end Cert.Proof

end
